-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v69)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v69) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x16384x4x2x64 : Shape := ⟨5, ![2, 16384, 4, 2, 64]⟩
abbrev S2x16384x4x128 : Shape := ⟨4, ![2, 16384, 4, 128]⟩
abbrev S64 : Shape := ⟨1, ![64]⟩
abbrev S128 : Shape := ⟨1, ![128]⟩
abbrev S_ : Shape := ⟨0, ![]⟩

class Facts : Prop where
  bcast_S_S2x16384x4x2x64 : S_.BroadcastsInDim S2x16384x4x2x64 (![] : Fin 0 → Fin S2x16384x4x2x64.rank)
  reducesTo_S2x16384x4x2x64_S_d0_1_2_3_4 : S2x16384x4x2x64.ReducesTo [0, 1, 2, 3, 4] S_
  h_S_ : 0 < S_.numel
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S2x16384x4x2x64 .f32) (main_arg1 : FVec F S2x16384x4x2x64 .f32) (main_arg2 : FVec F S2x16384x4x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S2x16384x4x2x64 .f32 := Host.absf main_arg0
  let main_cst : FVec F S_ .f32 := constant S_ .f32 0x7F800000#32
  let main_v1 : FVec F S2x16384x4x2x64 .f32 := broadcastInDim S2x16384x4x2x64 ![] bcast_S_S2x16384x4x2x64 main_cst
  let main_v2 : IVec S2x16384x4x2x64 1 := cmpf .olt main_v0 main_v1
  let main_c : IVec S_ 1 := constantI S_ 1 1#1
  let main_v3 : IVec S_ 1 := (fun x v => Host.reduce IntOp.andi x v reducesTo_S2x16384x4x2x64_S_d0_1_2_3_4 h_S_) main_v2 main_c
  let main_v4 : FVec F S2x16384x4x2x64 .f32 := Host.absf main_arg1
  let main_cst_0 : FVec F S_ .f32 := constant S_ .f32 0x7F800000#32
  let main_v5 : FVec F S2x16384x4x2x64 .f32 := broadcastInDim S2x16384x4x2x64 ![] bcast_S_S2x16384x4x2x64 main_cst_0
  let main_v6 : IVec S2x16384x4x2x64 1 := cmpf .olt main_v4 main_v5
  let main_c_1 : IVec S_ 1 := constantI S_ 1 1#1
  let main_v7 : IVec S_ 1 := (fun x v => Host.reduce IntOp.andi x v reducesTo_S2x16384x4x2x64_S_d0_1_2_3_4 h_S_) main_v6 main_c_1
  let main_v8 : IVec S_ 1 := andi main_v3 main_v7
  let main_v9 : FVec F S2x16384x4x128 .f32 := Host.absf main_arg2
  let main_cst_2 : FVec F S_ .f32 := constant S_ .f32 0x7F800000#32
  let main_v10 : FVec F S2x16384x4x128 .f32 := broadcastInDim S2x16384x4x128 ![] bcast_S_S2x16384x4x128 main_cst_2
  let main_v11 : IVec S2x16384x4x128 1 := cmpf .olt main_v9 main_v10
  let main_c_3 : IVec S_ 1 := constantI S_ 1 1#1
  let main_v12 : IVec S_ 1 := (fun x v => Host.reduce IntOp.andi x v reducesTo_S2x16384x4x128_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S2x16384x4x2x64 : Shape := ⟨5, ![2, 16384, 4, 2, 64]⟩
abbrev S2x16384x4x128 : Shape := ⟨4, ![2, 16384, 4, 128]⟩
abbrev S64 : Shape := ⟨1, ![64]⟩
abbrev S128 : Shape := ⟨1, ![128]⟩
abbrev S2x16384x512 : Shape := ⟨3, ![2, 16384, 512]⟩
abbrev S_ : Shape := ⟨0, ![]⟩
abbrev S2x512x16384 : Shape := ⟨3, ![2, 512, 16384]⟩
abbrev S2x4x128x16384 : Shape := ⟨4, ![2, 4, 128, 16384]⟩
abbrev S2x4x16x16384 : Shape := ⟨4, ![2, 4, 16, 16384]⟩
abbrev S2x4x144x16384 : Shape := ⟨4, ![2, 4, 144, 16384]⟩
abbrev S2x576x16384 : Shape := ⟨3, ![2, 576, 16384]⟩
abbrev S1x64 : Shape := ⟨2, ![1, 64]⟩
abbrev S128x1 : Shape := ⟨2, ![128, 1]⟩
abbrev S1x128x512 : Shape := ⟨3, ![1, 128, 512]⟩
abbrev S1x16384x128 : Shape := ⟨3, ![1, 16384, 128]⟩
abbrev S1x144x16384 : Shape := ⟨3, ![1, 144, 16384]⟩
abbrev S2x1x512 : Shape := ⟨3, ![2, 1, 512]⟩
abbrev S2x144x512 : Shape := ⟨3, ![2, 144, 512]⟩
abbrev S128x512 : Shape := ⟨2, ![128, 512]⟩
abbrev S1x4096x128 : Shape := ⟨3, ![1, 4096, 128]⟩
abbrev S4096x128 : Shape := ⟨2, ![4096, 128]⟩
abbrev S1x144x4096 : Shape := ⟨3, ![1, 144, 4096]⟩
abbrev S144x4096 : Shape := ⟨2, ![144, 4096]⟩
abbrev S4096x512 : Shape := ⟨2, ![4096, 512]⟩
abbrev S1x144x512 : Shape := ⟨3, ![1, 144, 512]⟩
abbrev S144x512 : Shape := ⟨2, ![144, 512]⟩
abbrev S1x2048x128 : Shape := ⟨3, ![1, 2048, 128]⟩
abbrev S2048x128 : Shape := ⟨2, ![2048, 128]⟩
abbrev S1x144x2048 : Shape := ⟨3, ![1, 144, 2048]⟩
abbrev S144x2048 : Shape := ⟨2, ![144, 2048]⟩
abbrev S2048x512 : Shape := ⟨2, ![2048, 512]⟩
abbrev S1x1024x128 : Shape := ⟨3, ![1, 1024, 128]⟩
abbrev S1024x128 : Shape := ⟨2, ![1024, 128]⟩
abbrev S1x144x1024 : Shape := ⟨3, ![1, 144, 1024]⟩
abbrev S144x1024 : Shape := ⟨2, ![144, 1024]⟩
abbrev S1024x512 : Shape := ⟨2, ![1024, 512]⟩
abbrev S1x512x128 : Shape := ⟨3, ![1, 512, 128]⟩
abbrev S512x128 : Shape := ⟨2, ![512, 128]⟩
abbrev S512x512 : Shape := ⟨2, ![512, 512]⟩
abbrev S1 : Shape := ⟨1, ![1]⟩
abbrev S1x1 : Shape := ⟨2, ![1, 1]⟩
abbrev S1x512 : Shape := ⟨2, ![1, 512]⟩
abbrev S512 : Shape := ⟨1, ![512]⟩

abbrev nBuf : Space → Nat
  | .hbm => 32
  | .vmem => 15
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x16384x512, .f32⟩
  | .hbm, ⟨9, _⟩ => ⟨S_, .f32⟩
  | .hbm, ⟨10, _⟩ => ⟨S2x16384x512, .f32⟩
  | .hbm, ⟨11, _⟩ => ⟨S2x16384x512, .f32⟩
  | .hbm, ⟨12, _⟩ => ⟨S_, .f32⟩
  | .hbm, ⟨13, _⟩ => ⟨S_, .f32⟩
  | .hbm, ⟨14, _⟩ => ⟨S2x16384x512, .f32⟩
  | .hbm, ⟨15, _⟩ => ⟨S2x16384x512, .f32⟩
  | .hbm, ⟨16, _⟩ => ⟨S2x512x16384, .f32⟩
  | .hbm, ⟨17, _⟩ => ⟨S2x512x16384, .bf16⟩
  | .hbm, ⟨18, _⟩ => ⟨S2x16384x512, .f32⟩
  | .hbm, ⟨19, _⟩ => ⟨S2x16384x512, .bf16⟩
  | .hbm, ⟨20, _⟩ => ⟨S2x4x128x16384, .f32⟩
  | .hbm, ⟨21, _⟩ => ⟨S_, .f32⟩
  | .hbm, ⟨22, _⟩ => ⟨S2x4x16x16384, .f32⟩
  | .hbm, ⟨23, _⟩ => ⟨S2x4x144x16384, .f32⟩
  | .hbm, ⟨24, _⟩ => ⟨S2x576x16384, .f32⟩
  | .hbm, ⟨25, _⟩ => ⟨S2x576x16384, .bf16⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S128x1, .f32⟩
  | .hbm, ⟨31, _⟩ => ⟨S2x512x16384, .f32⟩
  | .local _ .vmem, ⟨0, _⟩ => ⟨S1x128x512, .bf16⟩
  | .local _ .vmem, ⟨1, _⟩ => ⟨S1x128x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x144x16384, .bf16⟩
  | .local _ .vmem, ⟨5, _⟩ => ⟨S1x144x16384, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x128x512, .f32⟩
  | .local _ .vmem, ⟨12, _⟩ => ⟨S1x128x512, .f32⟩
  | .local _ .vmem, ⟨13, _⟩ => ⟨S2x1x512, .f32⟩
  | .local _ .vmem, ⟨14, _⟩ => ⟨S2x144x512, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_20 : BitVec 32 := 1#32
  ⟨c0_i32_18, v51, c1_i32_20⟩
def k0_mult1 (i : grid0.Coords) (k0_t1 : Fin (k0_t1_loop i).trips) : BitVec 32 :=
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  v231
def k0_off1 (i : grid0.Coords) (k0_t1 : Fin (k0_t1_loop i).trips) : Fin 3 → Nat :=
  let c0_114 : Index := 0#32
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  let v232 : BitVec 32 := v231
  let v233 : Index := Scalar.indexCast v232
  let c0_115 : Index := 0#32
  ![0, v233.toNat, 0]
def k0_off2 (i : grid0.Coords) (k0_t1 : Fin (k0_t1_loop i).trips) : Fin 3 → Nat :=
  let c0_116 : Index := 0#32
  let c0_117 : Index := 0#32
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  let v232 : BitVec 32 := v231
  let v236 : Index := Scalar.indexCast v232
  ![0, 0, v236.toNat]
@[reducible] def k0_t2_loop (i : grid0.Coords) : Scf.Loop 32 :=
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let v48 : BitVec 32 := Scalar.addi c0_i32_18 v47
  let c1_i32_21 : BitVec 32 := 1#32
  ⟨v51, v48, c1_i32_21⟩
def k0_mult2 (i : grid0.Coords) (k0_t2 : Fin (k0_t2_loop i).trips) : BitVec 32 :=
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  v231
def k0_off3 (i : grid0.Coords) (k0_t2 : Fin (k0_t2_loop i).trips) : Fin 3 → Nat :=
  let c0_114 : Index := 0#32
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  let v232 : BitVec 32 := v231
  let v233 : Index := Scalar.indexCast v232
  let c0_115 : Index := 0#32
  ![0, v233.toNat, 0]
def k0_off4 (i : grid0.Coords) (k0_t2 : Fin (k0_t2_loop i).trips) : Fin 3 → Nat :=
  let c0_116 : Index := 0#32
  let c0_117 : Index := 0#32
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  let v232 : BitVec 32 := v231
  let v236 : Index := Scalar.indexCast v232
  ![0, 0, v236.toNat]
def k0_cond1 (i : grid0.Coords) : BitVec 1 :=
  let arg2 : BitVec 32 := BitVec.ofNat 32 (i 2).val
  let c0_i32_22 : BitVec 32 := 0#32
  let v53 : BitVec 1 := Scalar.cmpi .sgt arg2 c0_i32_22
  let v54 : BitVec 32 := Scalar.extui v53
  let c0_i32_23 : BitVec 32 := 0#32
  let v55 : BitVec 1 := Scalar.cmpi .slt arg2 c0_i32_23
  let v56 : BitVec 32 := Scalar.extui v55
  let v57 : BitVec 32 := Scalar.subi v54 v56
  let c4_i32 : BitVec 32 := 4#32
  let c0_i32_24 : BitVec 32 := 0#32
  let v58 : BitVec 1 := Scalar.cmpi .sgt c4_i32 c0_i32_24
  let v59 : BitVec 32 := Scalar.extui v58
  let c0_i32_25 : BitVec 32 := 0#32
  let v60 : BitVec 1 := Scalar.cmpi .slt c4_i32 c0_i32_25
  let v61 : BitVec 32 := Scalar.extui v60
  let v62 : BitVec 32 := Scalar.subi v59 v61
  let v63 : BitVec 1 := Scalar.cmpi .ne v57 v62
  let v64 : BitVec 32 := Scalar.remsi arg2 c4_i32
  let c0_i32_26 : BitVec 32 := 0#32
  let v65 : BitVec 1 := Scalar.cmpi .ne v64 c0_i32_26
  let v66 : BitVec 1 := Scalar.andi v63 v65
  let v52 : BitVec 32 := Scalar.divsi arg2 c4_i32
  let c1_i32_27 : BitVec 32 := 1#32
  let v67 : BitVec 32 := Scalar.subi v52 c1_i32_27
  let v68 : BitVec 32 := Scalar.select v66 v67 v52
  let c2_i32 : BitVec 32 := 2#32
  let c0_i32_28 : BitVec 32 := 0#32
  let v69 : BitVec 1 := Scalar.cmpi .eq c2_i32 c0_i32_28
  let c1_i32_29 : BitVec 32 := 1#32
  let v70 : BitVec 32 := Scalar.select v69 c1_i32_29 c2_i32
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c1_i32_33 : BitVec 32 := 1#32
  let v79 : BitVec 1 := Scalar.cmpi .eq v78 c1_i32_33
  let v80 : BitVec 32 := Scalar.extui v79
  let c0_i32_34 : BitVec 32 := 0#32
  let v81 : BitVec 1 := Scalar.cmpi .ne v80 c0_i32_34
  v81

def k0_mult3 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  v248
def k0_off5 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off6 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  let v249 : BitVec 32 := v248
  let v253 : Index := Scalar.indexCast v249
  ![0, 0, v253.toNat]
def k0_cond2 (i : grid0.Coords) : BitVec 1 :=
  let arg2 : BitVec 32 := BitVec.ofNat 32 (i 2).val
  let c0_i32_36 : BitVec 32 := 0#32
  let v83 : BitVec 1 := Scalar.cmpi .sgt arg2 c0_i32_36
  let v84 : BitVec 32 := Scalar.extui v83
  let c0_i32_37 : BitVec 32 := 0#32
  let v85 : BitVec 1 := Scalar.cmpi .slt arg2 c0_i32_37
  let v86 : BitVec 32 := Scalar.extui v85
  let v87 : BitVec 32 := Scalar.subi v84 v86
  let c2_i32_35 : BitVec 32 := 2#32
  let c0_i32_38 : BitVec 32 := 0#32
  let v88 : BitVec 1 := Scalar.cmpi .sgt c2_i32_35 c0_i32_38
  let v89 : BitVec 32 := Scalar.extui v88
  let c0_i32_39 : BitVec 32 := 0#32
  let v90 : BitVec 1 := Scalar.cmpi .slt c2_i32_35 c0_i32_39
  let v91 : BitVec 32 := Scalar.extui v90
  let v92 : BitVec 32 := Scalar.subi v89 v91
  let v93 : BitVec 1 := Scalar.cmpi .ne v87 v92
  let v94 : BitVec 32 := Scalar.remsi arg2 c2_i32_35
  let c0_i32_40 : BitVec 32 := 0#32
  let v95 : BitVec 1 := Scalar.cmpi .ne v94 c0_i32_40
  let v96 : BitVec 1 := Scalar.andi v93 v95
  let v82 : BitVec 32 := Scalar.divsi arg2 c2_i32_35
  let c1_i32_41 : BitVec 32 := 1#32
  let v97 : BitVec 32 := Scalar.subi v82 c1_i32_41
  let v98 : BitVec 32 := Scalar.select v96 v97 v82
  let c2_i32_42 : BitVec 32 := 2#32
  let c0_i32_43 : BitVec 32 := 0#32
  let v99 : BitVec 1 := Scalar.cmpi .eq c2_i32_42 c0_i32_43
  let c1_i32_44 : BitVec 32 := 1#32
  let v100 : BitVec 32 := Scalar.select v99 c1_i32_44 c2_i32_42
  let v101 : BitVec 32 := Scalar.remsi v98 v100
  let c0_i32_46 : BitVec 32 := 0#32
  let v103 : BitVec 1 := Scalar.cmpi .slt v101 c0_i32_46
  let c0_i32_47 : BitVec 32 := 0#32
  let v104 : BitVec 1 := Scalar.cmpi .slt v100 c0_i32_47
  let v105 : BitVec 1 := Scalar.xori v103 v104
  let c0_i32_45 : BitVec 32 := 0#32
  let v102 : BitVec 1 := Scalar.cmpi .ne v101 c0_i32_45
  let v106 : BitVec 1 := Scalar.andi v105 v102
  let v107 : BitVec 32 := Scalar.addi v101 v100
  let v108 : BitVec 32 := Scalar.select v106 v107 v101
  let c1_i32_48 : BitVec 32 := 1#32
  let v109 : BitVec 1 := Scalar.cmpi .eq v108 c1_i32_48
  let v110 : BitVec 32 := Scalar.extui v109
  let c0_i32_49 : BitVec 32 := 0#32
  let v111 : BitVec 1 := Scalar.cmpi .ne v110 c0_i32_49
  v111

def k0_mult4 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  v248
def k0_off7 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off8 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  let v249 : BitVec 32 := v248
  let v253 : Index := Scalar.indexCast v249
  ![0, 0, v253.toNat]
def k0_cond3 (i : grid0.Coords) : BitVec 1 :=
  let arg2 : BitVec 32 := BitVec.ofNat 32 (i 2).val
  let c0_i32_51 : BitVec 32 := 0#32
  let v113 : BitVec 1 := Scalar.cmpi .sgt arg2 c0_i32_51
  let v114 : BitVec 32 := Scalar.extui v113
  let c0_i32_52 : BitVec 32 := 0#32
  let v115 : BitVec 1 := Scalar.cmpi .slt arg2 c0_i32_52
  let v116 : BitVec 32 := Scalar.extui v115
  let v117 : BitVec 32 := Scalar.subi v114 v116
  let c1_i32_50 : BitVec 32 := 1#32
  let c0_i32_53 : BitVec 32 := 0#32
  let v118 : BitVec 1 := Scalar.cmpi .sgt c1_i32_50 c0_i32_53
  let v119 : BitVec 32 := Scalar.extui v118
  let c0_i32_54 : BitVec 32 := 0#32
  let v120 : BitVec 1 := Scalar.cmpi .slt c1_i32_50 c0_i32_54
  let v121 : BitVec 32 := Scalar.extui v120
  let v122 : BitVec 32 := Scalar.subi v119 v121
  let v123 : BitVec 1 := Scalar.cmpi .ne v117 v122
  let v124 : BitVec 32 := Scalar.remsi arg2 c1_i32_50
  let c0_i32_55 : BitVec 32 := 0#32
  let v125 : BitVec 1 := Scalar.cmpi .ne v124 c0_i32_55
  let v126 : BitVec 1 := Scalar.andi v123 v125
  let v112 : BitVec 32 := Scalar.divsi arg2 c1_i32_50
  let c1_i32_56 : BitVec 32 := 1#32
  let v127 : BitVec 32 := Scalar.subi v112 c1_i32_56
  let v128 : BitVec 32 := Scalar.select v126 v127 v112
  let c2_i32_57 : BitVec 32 := 2#32
  let c0_i32_58 : BitVec 32 := 0#32
  let v129 : BitVec 1 := Scalar.cmpi .eq c2_i32_57 c0_i32_58
  let c1_i32_59 : BitVec 32 := 1#32
  let v130 : BitVec 32 := Scalar.select v129 c1_i32_59 c2_i32_57
  let v131 : BitVec 32 := Scalar.remsi v128 v130
  let c0_i32_61 : BitVec 32 := 0#32
  let v133 : BitVec 1 := Scalar.cmpi .slt v131 c0_i32_61
  let c0_i32_62 : BitVec 32 := 0#32
  let v134 : BitVec 1 := Scalar.cmpi .slt v130 c0_i32_62
  let v135 : BitVec 1 := Scalar.xori v133 v134
  let c0_i32_60 : BitVec 32 := 0#32
  let v132 : BitVec 1 := Scalar.cmpi .ne v131 c0_i32_60
  let v136 : BitVec 1 := Scalar.andi v135 v132
  let v137 : BitVec 32 := Scalar.addi v131 v130
  let v138 : BitVec 32 := Scalar.select v136 v137 v131
  let c1_i32_63 : BitVec 32 := 1#32
  let v139 : BitVec 1 := Scalar.cmpi .eq v138 c1_i32_63
  let v140 : BitVec 32 := Scalar.extui v139
  let c0_i32_64 : BitVec 32 := 0#32
  let v141 : BitVec 1 := Scalar.cmpi .ne v140 c0_i32_64
  v141

def k0_mult5 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  v248
def k0_off9 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off10 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  let v249 : BitVec 32 := v248
  let v253 : Index := Scalar.indexCast v249
  ![0, 0, v253.toNat]
def k0_mult6 (i : grid0.Coords) : BitVec 32 :=
  let arg2 : BitVec 32 := BitVec.ofNat 32 (i 2).val
  let c512_i32 : BitVec 32 := 512#32
  let v145 : BitVec 32 := Scalar.muli arg2 c512_i32
  v145
def k0_off11 (i : grid0.Coords) : Fin 3 → Nat :=
  let c0_65 : Index := 0#32
  let arg2 : BitVec 32 := BitVec.ofNat 32 (i 2).val
  let c512_i32 : BitVec 32 := 512#32
  let v145 : BitVec 32 := Scalar.muli arg2 c512_i32
  let v146 : BitVec 32 := v145
  let v147 : Index := Scalar.indexCast v146
  let c0_66 : Index := 0#32
  ![0, v147.toNat, 0]
def k0_off12 (i : grid0.Coords) : Fin 3 → Nat :=
  let c0_67 : Index := 0#32
  let c0_68 : Index := 0#32
  let arg2 : BitVec 32 := BitVec.ofNat 32 (i 2).val
  let c512_i32 : BitVec 32 := 512#32
  let v145 : BitVec 32 := Scalar.muli arg2 c512_i32
  let v146 : BitVec 32 := v145
  let v150 : Index := Scalar.indexCast v146
  ![0, 0, v150.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x4x2x64 : Shape := ⟨5, ![2, 16384, 4, 2, 64]⟩
abbrev S2x16384x4x128 : Shape := ⟨4, ![2, 16384, 4, 128]⟩
abbrev S64 : Shape := ⟨1, ![64]⟩
abbrev S128 : Shape := ⟨1, ![128]⟩
abbrev S_ : Shape := ⟨0, ![]⟩
abbrev S16384 : Shape := ⟨1, ![16384]⟩
abbrev S2x4x2x16384x16384 : Shape := ⟨5, ![2, 4, 2, 16384, 16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x512 : Shape := ⟨3, ![2, 16384, 512]⟩
abbrev S2x512x16384 : Shape := ⟨3, ![2, 512, 16384]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .i32⟩
  | .hbm, ⟨20, _⟩ => ⟨S2x4x2x16384x16384, .f32⟩
  | .hbm, ⟨21, _⟩ => ⟨S_, .f32⟩
  | .hbm, ⟨22, _⟩ => ⟨S2x4x2x16384x16384, .f32⟩
  | .hbm, ⟨23, _⟩ => ⟨S2x4x2x16384x16384, .f32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S2x4x2x16384x16384, .i1⟩
  | .hbm, ⟨32, _⟩ => ⟨S2x4x2x16384x16384, .f32⟩
  | .hbm, ⟨33, _⟩ => ⟨S2x4x2x16384x16384, .f32⟩
  | .hbm, ⟨34, _⟩ => ⟨S_, .f32⟩
  | .hbm, ⟨35, _⟩ => ⟨S2x4x2x16384, .f32⟩
  | .hbm, ⟨36, _⟩ => ⟨S_, .f32⟩
  | .hbm, ⟨37, _⟩ => ⟨S2x4x2x16384, .f32⟩
  | .hbm, ⟨38, _⟩ => ⟨S2x4x2x16384, .f32⟩
  | .hbm, ⟨39, _⟩ => ⟨S2x4x2x16384x1, .f32⟩
  | .hbm, ⟨40, _⟩ => ⟨S2x4x2x16384x16384, .f32⟩
  | .hbm, ⟨41, _⟩ => ⟨S2x4x2x16384x16384, .f32⟩
  | .hbm, ⟨42, _⟩ => ⟨S2x4x2x16384x16384, .f32⟩
  | .hbm, ⟨43, _⟩ => ⟨S_, .f32⟩
  | .hbm, ⟨44, _⟩ => ⟨S2x4x2x16384, .f32⟩
  | .hbm, ⟨45, _⟩ => ⟨S2x4x2x16384x1, .f32⟩
  | .hbm, ⟨46, _⟩ => ⟨S2x4x2x16384x16384, .f32⟩
  | .hbm, ⟨47, _⟩ => ⟨S2x4x2x16384x16384, .f32⟩
  | .hbm, ⟨48, _⟩ => ⟨S2x4x1x16384x16384, .f32⟩
  | .hbm, ⟨49, _⟩ => ⟨S2x4x16384x16384, .f32⟩
  | .hbm, ⟨50, _⟩ => ⟨S2x4x1x16384x16384, .f32⟩
  | .hbm, ⟨51, _⟩ => ⟨S2x4x16384x16384, .f32⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S2x4x128x16384, .f32⟩
  | .hbm, ⟨56, _⟩ => ⟨S2x16384x4x128, .f32⟩
  | .hbm, ⟨57, _⟩ => ⟨S2x16384x4x128, .f32⟩
  | .hbm, ⟨58, _⟩ => ⟨S_, .f32⟩
  | .hbm, ⟨59, _⟩ => ⟨S2x16384x4, .f32⟩
  | .hbm, ⟨60, _⟩ => ⟨S2x16384x4x1, .f32⟩
  | .hbm, ⟨61, _⟩ => ⟨S_, .f32⟩
  | .hbm, ⟨62, _⟩ => ⟨S2x16384x4x1, .f32⟩
  | .hbm, ⟨63, _⟩ => ⟨S2x16384x4x1, .f32⟩
  | .hbm, ⟨64, _⟩ => ⟨S_, .f32⟩
  | .hbm, ⟨65, _⟩ => ⟨S2x16384x4x1, .f32⟩
  | .hbm, ⟨66, _⟩ => ⟨S2x16384x4x1, .f32⟩
  | .hbm, ⟨67, _⟩ => ⟨S2x16384x4x1, .f32⟩
  | .hbm, ⟨68, _⟩ => ⟨S2x16384x4x128, .f32⟩
  | .hbm, ⟨69, _⟩ => ⟨S2x16384x4x128, .f32⟩
  | .hbm, ⟨70, _⟩ => ⟨S1x1x1x128, .f32⟩
  | .hbm, ⟨71, _⟩ => ⟨S2x16384x4x128, .f32⟩
  | .hbm, ⟨72, _⟩ => ⟨S2x16384x4x128, .f32⟩
  | .hbm, ⟨73, _⟩ => ⟨S_, .f32⟩
  | .hbm, ⟨74, _⟩ => ⟨S2x16384x4x128, .f32⟩
  | .hbm, ⟨75, _⟩ => ⟨S2x16384x4x128, .f32⟩
  | .hbm, ⟨76, _⟩ => ⟨S2x16384x512, .f32⟩
  | .hbm, ⟨77, _⟩ => ⟨S2x512x16384, .f32⟩
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1024 : Shape := ⟨2, ![2, 1024]⟩
abbrev S1024x3368 : Shape := ⟨2, ![1024, 3368]⟩
abbrev S2x1x1024 : Shape := ⟨3, ![2, 1, 1024]⟩
abbrev S_ : Shape := ⟨0, ![]⟩
abbrev S1024x3456 : Shape := ⟨2, ![1024, 3456]⟩
abbrev S1 : Shape := ⟨1, ![1]⟩
abbrev S2x16384x3456 : Shape := ⟨3, ![2, 16384, 3456]⟩
abbrev S1x512x1024 : Shape := ⟨3, ![1, 512, 1024]⟩
abbrev S1x1x1024 : Shape := ⟨3, ![1, 1, 1024]⟩
abbrev S1x512x3456 : Shape := ⟨3, ![1, 512, 3456]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x3456 : Shape := ⟨2, ![512, 3456]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x3368, .f32⟩
  | .hbm, ⟨4, _⟩ => ⟨S2x1x1024, .f32⟩
  | .hbm, ⟨5, _⟩ => ⟨S2x1x1024, .f32⟩
  | .hbm, ⟨6, _⟩ => ⟨S_, .f32⟩
  | .hbm, ⟨7, _⟩ => ⟨S1024x3456, .f32⟩
  | .hbm, ⟨8, _⟩ => ⟨S_, .i32⟩
  | .hbm, ⟨9, _⟩ => ⟨S1, .i32⟩
  | .hbm, ⟨10, _⟩ => ⟨S1024x3456, .f32⟩
  | .hbm, ⟨11, _⟩ => ⟨S1024x3456, .bf16⟩
  | .hbm, ⟨12, _⟩ => ⟨S2x16384x3456, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3456, .bf16⟩
  | .local _ .vmem, ⟨7, _⟩ => ⟨S1x512x3456, .f32⟩
  | .local _ .vmem, ⟨8, _⟩ => ⟨S1x512x3456, .f32⟩
  | .local _ .vmem, ⟨9, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x3456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S2x16384x1024 : Shape := ⟨3, ![2, 16384, 1024]⟩
abbrev S2x1024 : Shape := ⟨2, ![2, 1024]⟩
abbrev S1024x3368 : Shape := ⟨2, ![1024, 3368]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x16384x3368 : Shape := ⟨3, ![2, 16384, 3368]⟩
abbrev S2x16384x88 : Shape := ⟨3, ![2, 16384, 88]⟩
abbrev S2x16384x3456 : Shape := ⟨3, ![2, 16384, 3456]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x3368, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S2x16384x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x3368, .f32⟩
  | .hbm, ⟨27, _⟩ => ⟨S_, .f32⟩
  | .hbm, ⟨28, _⟩ => ⟨S2x16384x88, .f32⟩
  | .hbm, ⟨29, _⟩ => ⟨S2x16384x3456, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1024 : Shape := ⟨2, ![2, 1024]⟩
abbrev S1024x2048 : Shape := ⟨2, ![1024, 2048]⟩
abbrev S0 : Shape := ⟨1, ![0]⟩
abbrev S2x1x1024 : Shape := ⟨3, ![2, 1, 1024]⟩
abbrev S_ : Shape := ⟨0, ![]⟩
abbrev S2x16384x2048 : Shape := ⟨3, ![2, 16384, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x2048 : Shape := ⟨2, ![512, 2048]⟩

abbrev nBuf : Space → Nat
  | .hbm => 12
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x2048, .f32⟩
  | .hbm, ⟨4, _⟩ => ⟨S0, .i32⟩
  | .hbm, ⟨5, _⟩ => ⟨S2x1x1024, .f32⟩
  | .hbm, ⟨6, _⟩ => ⟨S2x1x1024, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .bf16⟩
  | .hbm, ⟨11, _⟩ => ⟨S2x16384x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S1x512x2048, .f32⟩
  | .local _ .vmem, ⟨8, _⟩ => ⟨S1x512x2048, .f32⟩
  | .local _ .vmem, ⟨9, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S2x16384x1024 : Shape := ⟨3, ![2, 16384, 1024]⟩
abbrev S2x1024 : Shape := ⟨2, ![2, 1024]⟩
abbrev S1024x2048 : Shape := ⟨2, ![1024, 2048]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x16384x2048 : Shape := ⟨3, ![2, 16384, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x2048, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S2x16384x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S2x512x16384 : Shape := ⟨3, ![2, 512, 16384]⟩
abbrev S1024x1024 : Shape := ⟨2, ![1024, 1024]⟩
abbrev S2x16384x1024 : Shape := ⟨3, ![2, 16384, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x512 : Shape := ⟨2, ![1024, 512]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2x512x16384, .f32⟩
  | .hbm, ⟨1, _⟩ => ⟨S2x512x16384, .f32⟩
  | .hbm, ⟨2, _⟩ => ⟨S1024x1024, .f32⟩
  | .hbm, ⟨3, _⟩ => ⟨S2x16384x1024, .f32⟩
  | .hbm, ⟨4, _⟩ => ⟨S2x1024, .f32⟩
  | .hbm, ⟨5, _⟩ => ⟨S1024x1024, .bf16⟩
  | .hbm, ⟨6, _⟩ => ⟨S2x1x1024, .f32⟩
  | .hbm, ⟨7, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | _, _ => ⟨S2x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x512x16384 : Shape := ⟨3, ![2, 512, 16384]⟩
abbrev S1024x1024 : Shape := ⟨2, ![1024, 1024]⟩
abbrev S2x16384x1024 : Shape := ⟨3, ![2, 16384, 1024]⟩
abbrev S2x1024 : Shape := ⟨2, ![2, 1024]⟩
abbrev S2x16384x512 : Shape := ⟨3, ![2, 16384, 512]⟩
abbrev S2x1x1024 : Shape := ⟨3, ![2, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x512x16384, .f32⟩
  | .hbm, ⟨1, _⟩ => ⟨S2x512x16384, .f32⟩
  | .hbm, ⟨2, _⟩ => ⟨S1024x1024, .f32⟩
  | .hbm, ⟨3, _⟩ => ⟨S2x16384x1024, .f32⟩
  | .hbm, ⟨4, _⟩ => ⟨S2x1024, .f32⟩
  | .hbm, ⟨5, _⟩ => ⟨S2x16384x512, .f32⟩
  | .hbm, ⟨6, _⟩ => ⟨S2x16384x512, .f32⟩
  | .hbm, ⟨7, _⟩ => ⟨S2x16384x1024, .f32⟩
  | .hbm, ⟨8, _⟩ => ⟨S2x1x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | _, _ => ⟨S2x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S2x512x16384 : Shape := ⟨3, ![2, 512, 16384]⟩
abbrev S2x16384x512 : Shape := ⟨3, ![2, 16384, 512]⟩
abbrev S1024x1024 : Shape := ⟨2, ![1024, 1024]⟩
abbrev S2x16384x1024 : Shape := ⟨3, ![2, 16384, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S512x1024 : Shape := ⟨2, ![512, 1024]⟩
abbrev S1024x512 : Shape := ⟨2, ![1024, 512]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2x512x16384, .f32⟩
  | .hbm, ⟨1, _⟩ => ⟨S2x16384x512, .f32⟩
  | .hbm, ⟨2, _⟩ => ⟨S1024x1024, .f32⟩
  | .hbm, ⟨3, _⟩ => ⟨S2x16384x1024, .f32⟩
  | .hbm, ⟨4, _⟩ => ⟨S2x1024, .f32⟩
  | .hbm, ⟨5, _⟩ => ⟨S1024x1024, .bf16⟩
  | .hbm, ⟨6, _⟩ => ⟨S2x1x1024, .f32⟩
  | .hbm, ⟨7, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | _, _ => ⟨S2x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x512x16384 : Shape := ⟨3, ![2, 512, 16384]⟩
abbrev S2x16384x512 : Shape := ⟨3, ![2, 16384, 512]⟩
abbrev S1024x1024 : Shape := ⟨2, ![1024, 1024]⟩
abbrev S2x16384x1024 : Shape := ⟨3, ![2, 16384, 1024]⟩
abbrev S2x1024 : Shape := ⟨2, ![2, 1024]⟩
abbrev S2x1x1024 : Shape := ⟨3, ![2, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x512x16384, .f32⟩
  | .hbm, ⟨1, _⟩ => ⟨S2x16384x512, .f32⟩
  | .hbm, ⟨2, _⟩ => ⟨S1024x1024, .f32⟩
  | .hbm, ⟨3, _⟩ => ⟨S2x16384x1024, .f32⟩
  | .hbm, ⟨4, _⟩ => ⟨S2x1024, .f32⟩
  | .hbm, ⟨5, _⟩ => ⟨S2x16384x512, .f32⟩
  | .hbm, ⟨6, _⟩ => ⟨S2x16384x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | _, _ => ⟨S2x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S2x16384x4x2x64 : Shape := ⟨5, ![2, 16384, 4, 2, 64]⟩
abbrev S2x16384x4x128 : Shape := ⟨4, ![2, 16384, 4, 128]⟩
abbrev S64 : Shape := ⟨1, ![64]⟩
abbrev S128 : Shape := ⟨1, ![128]⟩
abbrev S2x16384x512 : Shape := ⟨3, ![2, 16384, 512]⟩
abbrev S_ : Shape := ⟨0, ![]⟩
abbrev S2x512x16384 : Shape := ⟨3, ![2, 512, 16384]⟩
abbrev S2x4x128x16384 : Shape := ⟨4, ![2, 4, 128, 16384]⟩
abbrev S2x4x16x16384 : Shape := ⟨4, ![2, 4, 16, 16384]⟩
abbrev S2x4x144x16384 : Shape := ⟨4, ![2, 4, 144, 16384]⟩
abbrev S2x576x16384 : Shape := ⟨3, ![2, 576, 16384]⟩
abbrev S1x64 : Shape := ⟨2, ![1, 64]⟩
abbrev S128x1 : Shape := ⟨2, ![128, 1]⟩
abbrev S1x128x512 : Shape := ⟨3, ![1, 128, 512]⟩
abbrev S1x16384x128 : Shape := ⟨3, ![1, 16384, 128]⟩
abbrev S1x144x16384 : Shape := ⟨3, ![1, 144, 16384]⟩
abbrev S2x1x512 : Shape := ⟨3, ![2, 1, 512]⟩
abbrev S2x144x512 : Shape := ⟨3, ![2, 144, 512]⟩
abbrev S128x512 : Shape := ⟨2, ![128, 512]⟩
abbrev S1x4096x128 : Shape := ⟨3, ![1, 4096, 128]⟩
abbrev S4096x128 : Shape := ⟨2, ![4096, 128]⟩
abbrev S1x144x4096 : Shape := ⟨3, ![1, 144, 4096]⟩
abbrev S144x4096 : Shape := ⟨2, ![144, 4096]⟩
abbrev S4096x512 : Shape := ⟨2, ![4096, 512]⟩
abbrev S1x144x512 : Shape := ⟨3, ![1, 144, 512]⟩
abbrev S144x512 : Shape := ⟨2, ![144, 512]⟩
abbrev S1x2048x128 : Shape := ⟨3, ![1, 2048, 128]⟩
abbrev S2048x128 : Shape := ⟨2, ![2048, 128]⟩
abbrev S1x144x2048 : Shape := ⟨3, ![1, 144, 2048]⟩
abbrev S144x2048 : Shape := ⟨2, ![144, 2048]⟩
abbrev S2048x512 : Shape := ⟨2, ![2048, 512]⟩
abbrev S1x1024x128 : Shape := ⟨3, ![1, 1024, 128]⟩
abbrev S1024x128 : Shape := ⟨2, ![1024, 128]⟩
abbrev S1x144x1024 : Shape := ⟨3, ![1, 144, 1024]⟩
abbrev S144x1024 : Shape := ⟨2, ![144, 1024]⟩
abbrev S1024x512 : Shape := ⟨2, ![1024, 512]⟩
abbrev S1x512x128 : Shape := ⟨3, ![1, 512, 128]⟩
abbrev S512x128 : Shape := ⟨2, ![512, 128]⟩
abbrev S512x512 : Shape := ⟨2, ![512, 512]⟩
abbrev S1 : Shape := ⟨1, ![1]⟩
abbrev S1x1 : Shape := ⟨2, ![1, 1]⟩
abbrev S1x512 : Shape := ⟨2, ![1, 512]⟩
abbrev S512 : Shape := ⟨1, ![512]⟩

abbrev nBuf : Space → Nat
  | .hbm => 32
  | .vmem => 15
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x16384x512, .f32⟩
  | .hbm, ⟨9, _⟩ => ⟨S_, .f32⟩
  | .hbm, ⟨10, _⟩ => ⟨S2x16384x512, .f32⟩
  | .hbm, ⟨11, _⟩ => ⟨S2x16384x512, .f32⟩
  | .hbm, ⟨12, _⟩ => ⟨S_, .f32⟩
  | .hbm, ⟨13, _⟩ => ⟨S_, .f32⟩
  | .hbm, ⟨14, _⟩ => ⟨S2x16384x512, .f32⟩
  | .hbm, ⟨15, _⟩ => ⟨S2x16384x512, .f32⟩
  | .hbm, ⟨16, _⟩ => ⟨S2x512x16384, .f32⟩
  | .hbm, ⟨17, _⟩ => ⟨S2x512x16384, .bf16⟩
  | .hbm, ⟨18, _⟩ => ⟨S2x16384x512, .f32⟩
  | .hbm, ⟨19, _⟩ => ⟨S2x16384x512, .bf16⟩
  | .hbm, ⟨20, _⟩ => ⟨S2x4x128x16384, .f32⟩
  | .hbm, ⟨21, _⟩ => ⟨S_, .f32⟩
  | .hbm, ⟨22, _⟩ => ⟨S2x4x16x16384, .f32⟩
  | .hbm, ⟨23, _⟩ => ⟨S2x4x144x16384, .f32⟩
  | .hbm, ⟨24, _⟩ => ⟨S2x576x16384, .f32⟩
  | .hbm, ⟨25, _⟩ => ⟨S2x576x16384, .bf16⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S128x1, .f32⟩
  | .hbm, ⟨31, _⟩ => ⟨S2x512x16384, .f32⟩
  | .local _ .vmem, ⟨0, _⟩ => ⟨S1x128x512, .bf16⟩
  | .local _ .vmem, ⟨1, _⟩ => ⟨S1x128x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x144x16384, .bf16⟩
  | .local _ .vmem, ⟨5, _⟩ => ⟨S1x144x16384, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x128x512, .f32⟩
  | .local _ .vmem, ⟨12, _⟩ => ⟨S1x128x512, .f32⟩
  | .local _ .vmem, ⟨13, _⟩ => ⟨S2x1x512, .f32⟩
  | .local _ .vmem, ⟨14, _⟩ => ⟨S2x144x512, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_20 : BitVec 32 := 1#32
  ⟨c0_i32_18, v51, c1_i32_20⟩
def k0_mult1 (i : grid0.Coords) (k0_t1 : Fin (k0_t1_loop i).trips) : BitVec 32 :=
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  v231
def k0_off1 (i : grid0.Coords) (k0_t1 : Fin (k0_t1_loop i).trips) : Fin 3 → Nat :=
  let c0_114 : Index := 0#32
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  let v232 : BitVec 32 := v231
  let v233 : Index := Scalar.indexCast v232
  let c0_115 : Index := 0#32
  ![0, v233.toNat, 0]
def k0_off2 (i : grid0.Coords) (k0_t1 : Fin (k0_t1_loop i).trips) : Fin 3 → Nat :=
  let c0_116 : Index := 0#32
  let c0_117 : Index := 0#32
  let c8_i32_112 : BitVec 32 := 8#32
  let c0_i32_18 : BitVec 32 := 0#32
  let c1_i32_20 : BitVec 32 := 1#32
  let arg14 : BitVec 32 := Scf.iv c0_i32_18 c1_i32_20 k0_t1
  let v230 : BitVec 32 := Scalar.muli c8_i32_112 arg14
  let c512_i32_113 : BitVec 32 := 512#32
  let v231 : BitVec 32 := Scalar.muli v230 c512_i32_113
  let v232 : BitVec 32 := v231
  let v236 : Index := Scalar.indexCast v232
  ![0, 0, v236.toNat]
@[reducible] def k0_t2_loop (i : grid0.Coords) : Scf.Loop 32 :=
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let v48 : BitVec 32 := Scalar.addi c0_i32_18 v47
  let c1_i32_21 : BitVec 32 := 1#32
  ⟨v51, v48, c1_i32_21⟩
def k0_mult2 (i : grid0.Coords) (k0_t2 : Fin (k0_t2_loop i).trips) : BitVec 32 :=
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  v231
def k0_off3 (i : grid0.Coords) (k0_t2 : Fin (k0_t2_loop i).trips) : Fin 3 → Nat :=
  let c0_114 : Index := 0#32
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  let v232 : BitVec 32 := v231
  let v233 : Index := Scalar.indexCast v232
  let c0_115 : Index := 0#32
  ![0, v233.toNat, 0]
def k0_off4 (i : grid0.Coords) (k0_t2 : Fin (k0_t2_loop i).trips) : Fin 3 → Nat :=
  let c0_116 : Index := 0#32
  let c0_117 : Index := 0#32
  let c8_i32_112 : BitVec 32 := 8#32
  let c0_i32_18 : BitVec 32 := 0#32
  let arg2 : BitVec 32 := BitVec.ofNat 32 (i 2).val
  let c0_i32_12 : BitVec 32 := 0#32
  let v31 : BitVec 1 := Scalar.cmpi .sgt arg2 c0_i32_12
  let v32 : BitVec 32 := Scalar.extui v31
  let c0_i32_13 : BitVec 32 := 0#32
  let v33 : BitVec 1 := Scalar.cmpi .slt arg2 c0_i32_13
  let v34 : BitVec 32 := Scalar.extui v33
  let v35 : BitVec 32 := Scalar.subi v32 v34
  let c8_i32 : BitVec 32 := 8#32
  let c0_i32_14 : BitVec 32 := 0#32
  let v36 : BitVec 1 := Scalar.cmpi .sgt c8_i32 c0_i32_14
  let v37 : BitVec 32 := Scalar.extui v36
  let c0_i32_15 : BitVec 32 := 0#32
  let v38 : BitVec 1 := Scalar.cmpi .slt c8_i32 c0_i32_15
  let v39 : BitVec 32 := Scalar.extui v38
  let v40 : BitVec 32 := Scalar.subi v37 v39
  let v41 : BitVec 1 := Scalar.cmpi .ne v35 v40
  let v42 : BitVec 32 := Scalar.remsi arg2 c8_i32
  let c0_i32_16 : BitVec 32 := 0#32
  let v43 : BitVec 1 := Scalar.cmpi .ne v42 c0_i32_16
  let v44 : BitVec 1 := Scalar.andi v41 v43
  let v30 : BitVec 32 := Scalar.divsi arg2 c8_i32
  let c1_i32 : BitVec 32 := 1#32
  let v45 : BitVec 32 := Scalar.subi v30 c1_i32
  let v46 : BitVec 32 := Scalar.select v44 v45 v30
  let v47 : BitVec 32 := Scalar.subi v46 c0_i32_18
  let c1_i32_19 : BitVec 32 := 1#32
  let v49 : BitVec 32 := Scalar.divsi v47 c1_i32_19
  let v50 : BitVec 32 := Scalar.muli v49 c1_i32_19
  let v51 : BitVec 32 := Scalar.addi c0_i32_18 v50
  let c1_i32_21 : BitVec 32 := 1#32
  let arg14 : BitVec 32 := Scf.iv v51 c1_i32_21 k0_t2
  let v230 : BitVec 32 := Scalar.muli c8_i32_112 arg14
  let c512_i32_113 : BitVec 32 := 512#32
  let v231 : BitVec 32 := Scalar.muli v230 c512_i32_113
  let v232 : BitVec 32 := v231
  let v236 : Index := Scalar.indexCast v232
  ![0, 0, v236.toNat]
def k0_cond1 (i : grid0.Coords) : BitVec 1 :=
  let arg2 : BitVec 32 := BitVec.ofNat 32 (i 2).val
  let c0_i32_22 : BitVec 32 := 0#32
  let v53 : BitVec 1 := Scalar.cmpi .sgt arg2 c0_i32_22
  let v54 : BitVec 32 := Scalar.extui v53
  let c0_i32_23 : BitVec 32 := 0#32
  let v55 : BitVec 1 := Scalar.cmpi .slt arg2 c0_i32_23
  let v56 : BitVec 32 := Scalar.extui v55
  let v57 : BitVec 32 := Scalar.subi v54 v56
  let c4_i32 : BitVec 32 := 4#32
  let c0_i32_24 : BitVec 32 := 0#32
  let v58 : BitVec 1 := Scalar.cmpi .sgt c4_i32 c0_i32_24
  let v59 : BitVec 32 := Scalar.extui v58
  let c0_i32_25 : BitVec 32 := 0#32
  let v60 : BitVec 1 := Scalar.cmpi .slt c4_i32 c0_i32_25
  let v61 : BitVec 32 := Scalar.extui v60
  let v62 : BitVec 32 := Scalar.subi v59 v61
  let v63 : BitVec 1 := Scalar.cmpi .ne v57 v62
  let v64 : BitVec 32 := Scalar.remsi arg2 c4_i32
  let c0_i32_26 : BitVec 32 := 0#32
  let v65 : BitVec 1 := Scalar.cmpi .ne v64 c0_i32_26
  let v66 : BitVec 1 := Scalar.andi v63 v65
  let v52 : BitVec 32 := Scalar.divsi arg2 c4_i32
  let c1_i32_27 : BitVec 32 := 1#32
  let v67 : BitVec 32 := Scalar.subi v52 c1_i32_27
  let v68 : BitVec 32 := Scalar.select v66 v67 v52
  let c2_i32 : BitVec 32 := 2#32
  let c0_i32_28 : BitVec 32 := 0#32
  let v69 : BitVec 1 := Scalar.cmpi .eq c2_i32 c0_i32_28
  let c1_i32_29 : BitVec 32 := 1#32
  let v70 : BitVec 32 := Scalar.select v69 c1_i32_29 c2_i32
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c1_i32_33 : BitVec 32 := 1#32
  let v79 : BitVec 1 := Scalar.cmpi .eq v78 c1_i32_33
  let v80 : BitVec 32 := Scalar.extui v79
  let c0_i32_34 : BitVec 32 := 0#32
  let v81 : BitVec 1 := Scalar.cmpi .ne v80 c0_i32_34
  v81

def k0_mult3 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  v248
def k0_off5 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off6 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c8_i32_112 : BitVec 32 := 8#32
  let c0_i32_115 : BitVec 32 := 0#32
  let v236 : BitVec 1 := Scalar.cmpi .sgt c8_i32_112 c0_i32_115
  let v237 : BitVec 32 := Scalar.extui v236
  let c0_i32_116 : BitVec 32 := 0#32
  let v238 : BitVec 1 := Scalar.cmpi .slt c8_i32_112 c0_i32_116
  let v239 : BitVec 32 := Scalar.extui v238
  let v240 : BitVec 32 := Scalar.subi v237 v239
  let v241 : BitVec 1 := Scalar.cmpi .ne v235 v240
  let v242 : BitVec 32 := Scalar.remsi arg2 c8_i32_112
  let c0_i32_117 : BitVec 32 := 0#32
  let v243 : BitVec 1 := Scalar.cmpi .ne v242 c0_i32_117
  let v244 : BitVec 1 := Scalar.andi v241 v243
  let v230 : BitVec 32 := Scalar.divsi arg2 c8_i32_112
  let c1_i32_118 : BitVec 32 := 1#32
  let v245 : BitVec 32 := Scalar.subi v230 c1_i32_118
  let v246 : BitVec 32 := Scalar.select v244 v245 v230
  let c8_i32_119 : BitVec 32 := 8#32
  let v247 : BitVec 32 := Scalar.muli v246 c8_i32_119
  let c512_i32_120 : BitVec 32 := 512#32
  let v248 : BitVec 32 := Scalar.muli v247 c512_i32_120
  let v249 : BitVec 32 := v248
  let v253 : Index := Scalar.indexCast v249
  ![0, 0, v253.toNat]
def k0_cond2 (i : grid0.Coords) : BitVec 1 :=
  let arg2 : BitVec 32 := BitVec.ofNat 32 (i 2).val
  let c0_i32_36 : BitVec 32 := 0#32
  let v83 : BitVec 1 := Scalar.cmpi .sgt arg2 c0_i32_36
  let v84 : BitVec 32 := Scalar.extui v83
  let c0_i32_37 : BitVec 32 := 0#32
  let v85 : BitVec 1 := Scalar.cmpi .slt arg2 c0_i32_37
  let v86 : BitVec 32 := Scalar.extui v85
  let v87 : BitVec 32 := Scalar.subi v84 v86
  let c2_i32_35 : BitVec 32 := 2#32
  let c0_i32_38 : BitVec 32 := 0#32
  let v88 : BitVec 1 := Scalar.cmpi .sgt c2_i32_35 c0_i32_38
  let v89 : BitVec 32 := Scalar.extui v88
  let c0_i32_39 : BitVec 32 := 0#32
  let v90 : BitVec 1 := Scalar.cmpi .slt c2_i32_35 c0_i32_39
  let v91 : BitVec 32 := Scalar.extui v90
  let v92 : BitVec 32 := Scalar.subi v89 v91
  let v93 : BitVec 1 := Scalar.cmpi .ne v87 v92
  let v94 : BitVec 32 := Scalar.remsi arg2 c2_i32_35
  let c0_i32_40 : BitVec 32 := 0#32
  let v95 : BitVec 1 := Scalar.cmpi .ne v94 c0_i32_40
  let v96 : BitVec 1 := Scalar.andi v93 v95
  let v82 : BitVec 32 := Scalar.divsi arg2 c2_i32_35
  let c1_i32_41 : BitVec 32 := 1#32
  let v97 : BitVec 32 := Scalar.subi v82 c1_i32_41
  let v98 : BitVec 32 := Scalar.select v96 v97 v82
  let c2_i32_42 : BitVec 32 := 2#32
  let c0_i32_43 : BitVec 32 := 0#32
  let v99 : BitVec 1 := Scalar.cmpi .eq c2_i32_42 c0_i32_43
  let c1_i32_44 : BitVec 32 := 1#32
  let v100 : BitVec 32 := Scalar.select v99 c1_i32_44 c2_i32_42
  let v101 : BitVec 32 := Scalar.remsi v98 v100
  let c0_i32_46 : BitVec 32 := 0#32
  let v103 : BitVec 1 := Scalar.cmpi .slt v101 c0_i32_46
  let c0_i32_47 : BitVec 32 := 0#32
  let v104 : BitVec 1 := Scalar.cmpi .slt v100 c0_i32_47
  let v105 : BitVec 1 := Scalar.xori v103 v104
  let c0_i32_45 : BitVec 32 := 0#32
  let v102 : BitVec 1 := Scalar.cmpi .ne v101 c0_i32_45
  let v106 : BitVec 1 := Scalar.andi v105 v102
  let v107 : BitVec 32 := Scalar.addi v101 v100
  let v108 : BitVec 32 := Scalar.select v106 v107 v101
  let c1_i32_48 : BitVec 32 := 1#32
  let v109 : BitVec 1 := Scalar.cmpi .eq v108 c1_i32_48
  let v110 : BitVec 32 := Scalar.extui v109
  let c0_i32_49 : BitVec 32 := 0#32
  let v111 : BitVec 1 := Scalar.cmpi .ne v110 c0_i32_49
  v111

def k0_mult4 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  v248
def k0_off7 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off8 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c4_i32_112 : BitVec 32 := 4#32
  let c0_i32_115 : BitVec 32 := 0#32
  let v236 : BitVec 1 := Scalar.cmpi .sgt c4_i32_112 c0_i32_115
  let v237 : BitVec 32 := Scalar.extui v236
  let c0_i32_116 : BitVec 32 := 0#32
  let v238 : BitVec 1 := Scalar.cmpi .slt c4_i32_112 c0_i32_116
  let v239 : BitVec 32 := Scalar.extui v238
  let v240 : BitVec 32 := Scalar.subi v237 v239
  let v241 : BitVec 1 := Scalar.cmpi .ne v235 v240
  let v242 : BitVec 32 := Scalar.remsi arg2 c4_i32_112
  let c0_i32_117 : BitVec 32 := 0#32
  let v243 : BitVec 1 := Scalar.cmpi .ne v242 c0_i32_117
  let v244 : BitVec 1 := Scalar.andi v241 v243
  let v230 : BitVec 32 := Scalar.divsi arg2 c4_i32_112
  let c1_i32_118 : BitVec 32 := 1#32
  let v245 : BitVec 32 := Scalar.subi v230 c1_i32_118
  let v246 : BitVec 32 := Scalar.select v244 v245 v230
  let c4_i32_119 : BitVec 32 := 4#32
  let v247 : BitVec 32 := Scalar.muli v246 c4_i32_119
  let c512_i32_120 : BitVec 32 := 512#32
  let v248 : BitVec 32 := Scalar.muli v247 c512_i32_120
  let v249 : BitVec 32 := v248
  let v253 : Index := Scalar.indexCast v249
  ![0, 0, v253.toNat]
def k0_cond3 (i : grid0.Coords) : BitVec 1 :=
  let arg2 : BitVec 32 := BitVec.ofNat 32 (i 2).val
  let c0_i32_51 : BitVec 32 := 0#32
  let v113 : BitVec 1 := Scalar.cmpi .sgt arg2 c0_i32_51
  let v114 : BitVec 32 := Scalar.extui v113
  let c0_i32_52 : BitVec 32 := 0#32
  let v115 : BitVec 1 := Scalar.cmpi .slt arg2 c0_i32_52
  let v116 : BitVec 32 := Scalar.extui v115
  let v117 : BitVec 32 := Scalar.subi v114 v116
  let c1_i32_50 : BitVec 32 := 1#32
  let c0_i32_53 : BitVec 32 := 0#32
  let v118 : BitVec 1 := Scalar.cmpi .sgt c1_i32_50 c0_i32_53
  let v119 : BitVec 32 := Scalar.extui v118
  let c0_i32_54 : BitVec 32 := 0#32
  let v120 : BitVec 1 := Scalar.cmpi .slt c1_i32_50 c0_i32_54
  let v121 : BitVec 32 := Scalar.extui v120
  let v122 : BitVec 32 := Scalar.subi v119 v121
  let v123 : BitVec 1 := Scalar.cmpi .ne v117 v122
  let v124 : BitVec 32 := Scalar.remsi arg2 c1_i32_50
  let c0_i32_55 : BitVec 32 := 0#32
  let v125 : BitVec 1 := Scalar.cmpi .ne v124 c0_i32_55
  let v126 : BitVec 1 := Scalar.andi v123 v125
  let v112 : BitVec 32 := Scalar.divsi arg2 c1_i32_50
  let c1_i32_56 : BitVec 32 := 1#32
  let v127 : BitVec 32 := Scalar.subi v112 c1_i32_56
  let v128 : BitVec 32 := Scalar.select v126 v127 v112
  let c2_i32_57 : BitVec 32 := 2#32
  let c0_i32_58 : BitVec 32 := 0#32
  let v129 : BitVec 1 := Scalar.cmpi .eq c2_i32_57 c0_i32_58
  let c1_i32_59 : BitVec 32 := 1#32
  let v130 : BitVec 32 := Scalar.select v129 c1_i32_59 c2_i32_57
  let v131 : BitVec 32 := Scalar.remsi v128 v130
  let c0_i32_61 : BitVec 32 := 0#32
  let v133 : BitVec 1 := Scalar.cmpi .slt v131 c0_i32_61
  let c0_i32_62 : BitVec 32 := 0#32
  let v134 : BitVec 1 := Scalar.cmpi .slt v130 c0_i32_62
  let v135 : BitVec 1 := Scalar.xori v133 v134
  let c0_i32_60 : BitVec 32 := 0#32
  let v132 : BitVec 1 := Scalar.cmpi .ne v131 c0_i32_60
  let v136 : BitVec 1 := Scalar.andi v135 v132
  let v137 : BitVec 32 := Scalar.addi v131 v130
  let v138 : BitVec 32 := Scalar.select v136 v137 v131
  let c1_i32_63 : BitVec 32 := 1#32
  let v139 : BitVec 1 := Scalar.cmpi .eq v138 c1_i32_63
  let v140 : BitVec 32 := Scalar.extui v139
  let c0_i32_64 : BitVec 32 := 0#32
  let v141 : BitVec 1 := Scalar.cmpi .ne v140 c0_i32_64
  v141

def k0_mult5 (i : grid0.Coords) : BitVec 32 :=
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  v248
def k0_off9 (i : grid0.Coords) : Fin 3 → Nat :=
  let c0_121 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  let v249 : BitVec 32 := v248
  let v250 : Index := Scalar.indexCast v249
  let c0_122 : Index := 0#32
  ![0, v250.toNat, 0]
def k0_off10 (i : grid0.Coords) : Fin 3 → Nat :=
  let c0_123 : Index := 0#32
  let c0_124 : Index := 0#32
  let arg2 : BitVec 32 := BitVec.ofNat 32 (i 2).val
  let c0_i32_113 : BitVec 32 := 0#32
  let v231 : BitVec 1 := Scalar.cmpi .sgt arg2 c0_i32_113
  let v232 : BitVec 32 := Scalar.extui v231
  let c0_i32_114 : BitVec 32 := 0#32
  let v233 : BitVec 1 := Scalar.cmpi .slt arg2 c0_i32_114
  let v234 : BitVec 32 := Scalar.extui v233
  let v235 : BitVec 32 := Scalar.subi v232 v234
  let c2_i32_112 : BitVec 32 := 2#32
  let c0_i32_115 : BitVec 32 := 0#32
  let v236 : BitVec 1 := Scalar.cmpi .sgt c2_i32_112 c0_i32_115
  let v237 : BitVec 32 := Scalar.extui v236
  let c0_i32_116 : BitVec 32 := 0#32
  let v238 : BitVec 1 := Scalar.cmpi .slt c2_i32_112 c0_i32_116
  let v239 : BitVec 32 := Scalar.extui v238
  let v240 : BitVec 32 := Scalar.subi v237 v239
  let v241 : BitVec 1 := Scalar.cmpi .ne v235 v240
  let v242 : BitVec 32 := Scalar.remsi arg2 c2_i32_112
  let c0_i32_117 : BitVec 32 := 0#32
  let v243 : BitVec 1 := Scalar.cmpi .ne v242 c0_i32_117
  let v244 : BitVec 1 := Scalar.andi v241 v243
  let v230 : BitVec 32 := Scalar.divsi arg2 c2_i32_112
  let c1_i32_118 : BitVec 32 := 1#32
  let v245 : BitVec 32 := Scalar.subi v230 c1_i32_118
  let v246 : BitVec 32 := Scalar.select v244 v245 v230
  let c2_i32_119 : BitVec 32 := 2#32
  let v247 : BitVec 32 := Scalar.muli v246 c2_i32_119
  let c512_i32_120 : BitVec 32 := 512#32
  let v248 : BitVec 32 := Scalar.muli v247 c512_i32_120
  let v249 : BitVec 32 := v248
  let v253 : Index := Scalar.indexCast v249
  ![0, 0, v253.toNat]
def k0_mult6 (i : grid0.Coords) : BitVec 32 :=
  let arg2 : BitVec 32 := BitVec.ofNat 32 (i 2).val
  let c512_i32 : BitVec 32 := 512#32
  let v145 : BitVec 32 := Scalar.muli arg2 c512_i32
  v145
def k0_off11 (i : grid0.Coords) : Fin 3 → Nat :=
  let c0_65 : Index := 0#32
  let arg2 : BitVec 32 := BitVec.ofNat 32 (i 2).val
  let c512_i32 : BitVec 32 := 512#32
  let v145 : BitVec 32 := Scalar.muli arg2 c512_i32
  let v146 : BitVec 32 := v145
  let v147 : Index := Scalar.indexCast v146
  let c0_66 : Index := 0#32
  ![0, v147.toNat, 0]
def k0_off12 (i : grid0.Coords) : Fin 3 → Nat :=
  let c0_67 : Index := 0#32
  let c0_68 : Index := 0#32
  let arg2 : BitVec 32 := BitVec.ofNat 32 (i 2).val
  let c512_i32 : BitVec 32 := 512#32
  let v145 : BitVec 32 := Scalar.muli arg2 c512_i32
  let v146 : BitVec 32 := v145
  let v150 : Index := Scalar.indexCast v146
  ![0, 0, v150.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S2x16384x4x2x64 : Shape := ⟨5, ![2, 16384, 4, 2, 64]⟩
abbrev S2x16384x4x128 : Shape := ⟨4, ![2, 16384, 4, 128]⟩
abbrev S64 : Shape := ⟨1, ![64]⟩
abbrev S128 : Shape := ⟨1, ![128]⟩
abbrev S_ : Shape := ⟨0, ![]⟩
abbrev S16384 : Shape := ⟨1, ![16384]⟩
abbrev S2x4x2x16384x16384 : Shape := ⟨5, ![2, 4, 2, 16384, 16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x512 : Shape := ⟨3, ![2, 16384, 512]⟩
abbrev S2x512x16384 : Shape := ⟨3, ![2, 512, 16384]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .i32⟩
  | .hbm, ⟨20, _⟩ => ⟨S2x4x2x16384x16384, .f32⟩
  | .hbm, ⟨21, _⟩ => ⟨S_, .f32⟩
  | .hbm, ⟨22, _⟩ => ⟨S2x4x2x16384x16384, .f32⟩
  | .hbm, ⟨23, _⟩ => ⟨S2x4x2x16384x16384, .f32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S2x4x2x16384x16384, .i1⟩
  | .hbm, ⟨32, _⟩ => ⟨S2x4x2x16384x16384, .f32⟩
  | .hbm, ⟨33, _⟩ => ⟨S2x4x2x16384x16384, .f32⟩
  | .hbm, ⟨34, _⟩ => ⟨S_, .f32⟩
  | .hbm, ⟨35, _⟩ => ⟨S2x4x2x16384, .f32⟩
  | .hbm, ⟨36, _⟩ => ⟨S_, .f32⟩
  | .hbm, ⟨37, _⟩ => ⟨S2x4x2x16384, .f32⟩
  | .hbm, ⟨38, _⟩ => ⟨S2x4x2x16384, .f32⟩
  | .hbm, ⟨39, _⟩ => ⟨S2x4x2x16384x1, .f32⟩
  | .hbm, ⟨40, _⟩ => ⟨S2x4x2x16384x16384, .f32⟩
  | .hbm, ⟨41, _⟩ => ⟨S2x4x2x16384x16384, .f32⟩
  | .hbm, ⟨42, _⟩ => ⟨S2x4x2x16384x16384, .f32⟩
  | .hbm, ⟨43, _⟩ => ⟨S_, .f32⟩
  | .hbm, ⟨44, _⟩ => ⟨S2x4x2x16384, .f32⟩
  | .hbm, ⟨45, _⟩ => ⟨S2x4x2x16384x1, .f32⟩
  | .hbm, ⟨46, _⟩ => ⟨S2x4x2x16384x16384, .f32⟩
  | .hbm, ⟨47, _⟩ => ⟨S2x4x2x16384x16384, .f32⟩
  | .hbm, ⟨48, _⟩ => ⟨S2x4x1x16384x16384, .f32⟩
  | .hbm, ⟨49, _⟩ => ⟨S2x4x16384x16384, .f32⟩
  | .hbm, ⟨50, _⟩ => ⟨S2x4x1x16384x16384, .f32⟩
  | .hbm, ⟨51, _⟩ => ⟨S2x4x16384x16384, .f32⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S2x4x128x16384, .f32⟩
  | .hbm, ⟨56, _⟩ => ⟨S2x16384x4x128, .f32⟩
  | .hbm, ⟨57, _⟩ => ⟨S2x16384x4x128, .f32⟩
  | .hbm, ⟨58, _⟩ => ⟨S_, .f32⟩
  | .hbm, ⟨59, _⟩ => ⟨S2x16384x4, .f32⟩
  | .hbm, ⟨60, _⟩ => ⟨S2x16384x4x1, .f32⟩
  | .hbm, ⟨61, _⟩ => ⟨S_, .f32⟩
  | .hbm, ⟨62, _⟩ => ⟨S2x16384x4x1, .f32⟩
  | .hbm, ⟨63, _⟩ => ⟨S2x16384x4x1, .f32⟩
  | .hbm, ⟨64, _⟩ => ⟨S_, .f32⟩
  | .hbm, ⟨65, _⟩ => ⟨S2x16384x4x1, .f32⟩
  | .hbm, ⟨66, _⟩ => ⟨S2x16384x4x1, .f32⟩
  | .hbm, ⟨67, _⟩ => ⟨S2x16384x4x1, .f32⟩
  | .hbm, ⟨68, _⟩ => ⟨S2x16384x4x128, .f32⟩
  | .hbm, ⟨69, _⟩ => ⟨S2x16384x4x128, .f32⟩
  | .hbm, ⟨70, _⟩ => ⟨S1x1x1x128, .f32⟩
  | .hbm, ⟨71, _⟩ => ⟨S2x16384x4x128, .f32⟩
  | .hbm, ⟨72, _⟩ => ⟨S2x16384x4x128, .f32⟩
  | .hbm, ⟨73, _⟩ => ⟨S_, .f32⟩
  | .hbm, ⟨74, _⟩ => ⟨S2x16384x4x128, .f32⟩
  | .hbm, ⟨75, _⟩ => ⟨S2x16384x4x128, .f32⟩
  | .hbm, ⟨76, _⟩ => ⟨S2x16384x512, .f32⟩
  | .hbm, ⟨77, _⟩ => ⟨S2x512x16384, .f32⟩
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel7.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel8.lean ====
abbrev S2x1024 : Shape := ⟨2, ![2, 1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S4x1024x6144, .f32⟩
  | .hbm, ⟨2, _⟩ => ⟨S4x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x1024 : Shape := ⟨2, ![2, 1024]⟩
abbrev S4x1024x6144 : Shape := ⟨3, ![4, 1024, 6144]⟩
abbrev S4x6144 : Shape := ⟨2, ![4, 6144]⟩
abbrev S_ : Shape := ⟨0, ![]⟩
abbrev S4x6144x2 : Shape := ⟨3, ![4, 6144, 2]⟩
abbrev S4x2x6144 : Shape := ⟨3, ![4, 2, 6144]⟩
abbrev S4x1x6144 : Shape := ⟨3, ![4, 1, 6144]⟩
abbrev S4x6x6144 : Shape := ⟨3, ![4, 6, 6144]⟩
abbrev S4x8x6144 : Shape := ⟨3, ![4, 8, 6144]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S4x1024x6144, .f32⟩
  | .hbm, ⟨2, _⟩ => ⟨S4x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S4x6144x2, .f32⟩
  | .hbm, ⟨13, _⟩ => ⟨S4x2x6144, .f32⟩
  | .hbm, ⟨14, _⟩ => ⟨S4x1x6144, .f32⟩
  | .hbm, ⟨15, _⟩ => ⟨S4x2x6144, .f32⟩
  | .hbm, ⟨16, _⟩ => ⟨S4x2x6144, .f32⟩
  | .hbm, ⟨17, _⟩ => ⟨S4x1x6144, .f32⟩
  | .hbm, ⟨18, _⟩ => ⟨S4x6x6144, .f32⟩
  | .hbm, ⟨19, _⟩ => ⟨S4x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel9.lean ====
abbrev S2x16384x512 : Shape := ⟨3, ![2, 16384, 512]⟩
abbrev S2x64x512 : Shape := ⟨3, ![2, 64, 512]⟩
abbrev S1x2048x512 : Shape := ⟨3, ![1, 2048, 512]⟩
abbrev S1x8x512 : Shape := ⟨3, ![1, 8, 512]⟩
abbrev S2048x512 : Shape := ⟨2, ![2048, 512]⟩
abbrev S8x256x512 : Shape := ⟨3, ![8, 256, 512]⟩
abbrev S8x512 : Shape := ⟨2, ![8, 512]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x512, .f32⟩
  | .hbm, ⟨1, _⟩ => ⟨S2x64x512, .f32⟩
  | .local _ .vmem, ⟨0, _⟩ => ⟨S1x2048x512, .f32⟩
  | .local _ .vmem, ⟨1, _⟩ => ⟨S1x2048x512, .f32⟩
  | .local _ .vmem, ⟨2, _⟩ => ⟨S1x8x512, .f32⟩
  | .local _ .vmem, ⟨3, _⟩ => ⟨S1x8x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S2x16384x512 : Shape := ⟨3, ![2, 16384, 512]⟩
abbrev S2x64x256x8x64 : Shape := ⟨5, ![2, 64, 256, 8, 64]⟩
abbrev S_ : Shape := ⟨0, ![]⟩
abbrev S2x64x8x64 : Shape := ⟨4, ![2, 64, 8, 64]⟩
abbrev S2x64x512 : Shape := ⟨3, ![2, 64, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x64x256x8x64, .f32⟩
  | .hbm, ⟨2, _⟩ => ⟨S_, .f32⟩
  | .hbm, ⟨3, _⟩ => ⟨S2x64x8x64, .f32⟩
  | .hbm, ⟨4, _⟩ => ⟨S_, .f32⟩
  | .hbm, ⟨5, _⟩ => ⟨S2x64x8x64, .f32⟩
  | .hbm, ⟨6, _⟩ => ⟨S2x64x8x64, .f32⟩
  | .hbm, ⟨7, _⟩ => ⟨S2x64x512, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2x16384x3456 : Shape := ⟨3, ![2, 16384, 3456]⟩
abbrev S64 : Shape := ⟨1, ![64]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S128 : Shape := ⟨1, ![128]⟩
abbrev S128x1 : Shape := ⟨2, ![128, 1]⟩
abbrev S16384x128 : Shape := ⟨2, ![16384, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S2x16384x512 : Shape := ⟨3, ![2, 16384, 512]⟩
abbrev S1x2048x512 : Shape := ⟨3, ![1, 2048, 512]⟩
abbrev S2048x128 : Shape := ⟨2, ![2048, 128]⟩
abbrev S2048x512 : Shape := ⟨2, ![2048, 512]⟩

abbrev nBuf : Space → Nat
  | .hbm => 139
  | .vmem => 12
  | .smem => 0
  | _ => 0

abbrev hbmTy0_0 (i : Nat) : BufTy := match i % 128 with
  | 0 => ⟨S2x16384x3456, .f32⟩
  | 1 => ⟨S64, .f32⟩
  | 2 => ⟨S16384, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S16384x1, .f32⟩
  | 18 => ⟨S1x8, .f32⟩
  | 19 => ⟨S16384x8, .f32⟩
  | 20 => ⟨S16384x8, .f32⟩
  | 21 => ⟨S16384x8, .f32⟩
  | 22 => ⟨S16384x8, .f32⟩
  | 23 => ⟨S16384x8, .f32⟩
  | 24 => ⟨S128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S128, .i32⟩
  | 52 => ⟨S128, .i1⟩
  | 53 => ⟨S_, .i32⟩
  | 54 => ⟨S128, .i32⟩
  | 55 => ⟨S128, .i1⟩
  | 56 => ⟨S128, .i1⟩
  | 57 => ⟨S_, .i32⟩
  | 58 => ⟨S128, .i32⟩
  | 59 => ⟨S128, .i32⟩
  | 60 => ⟨S_, .i32⟩
  | 61 => ⟨S_, .i32⟩
  | 62 => ⟨S128, .i32⟩
  | 63 => ⟨S128, .i32⟩
  | 64 => ⟨S128, .i32⟩
  | 65 => ⟨S128, .i1⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S16384x128, .f32⟩
  | 75 => ⟨S_, .f32⟩
  | 76 => ⟨S_, .f32⟩
  | 77 => ⟨S16384x128, .i1⟩
  | 78 => ⟨S16384x128, .f32⟩
  | 79 => ⟨S16384x128, .f32⟩
  | 80 => ⟨S_, .i32⟩
  | 81 => ⟨S128, .i32⟩
  | 82 => ⟨S128, .i1⟩
  | 83 => ⟨S_, .i32⟩
  | 84 => ⟨S128, .i32⟩
  | 85 => ⟨S128, .i32⟩
  | 86 => ⟨S128, .i32⟩
  | 87 => ⟨S128x1, .i32⟩
  | 88 => ⟨S16384x128, .f32⟩
  | 89 => ⟨S_, .f32⟩
  | 90 => ⟨S_, .f32⟩
  | 91 => ⟨S16384x128, .i1⟩
  | 92 => ⟨S16384x128, .f32⟩
  | 93 => ⟨S16384x128, .f32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S16384x128, .f32⟩
  | 103 => ⟨S16384x128, .f32⟩
  | 104 => ⟨S_, .f32⟩
  | 105 => ⟨S_, .f32⟩
  | 106 => ⟨S16384x128, .i1⟩
  | 107 => ⟨S16384x128, .f32⟩
  | 108 => ⟨S16384x128, .f32⟩
  | 109 => ⟨S1x64, .f32⟩
  | 110 => ⟨S8x64, .f32⟩
  | 111 => ⟨S512, .f32⟩
  | 112 => ⟨S1x512, .f32⟩
  | 113 => ⟨S512, .i32⟩
  | 114 => ⟨S_, .i32⟩
  | 115 => ⟨S_, .i32⟩
  | 116 => ⟨S512, .i32⟩
  | 117 => ⟨S512, .i32⟩
  | 118 => ⟨S512, .i32⟩
  | 119 => ⟨S_, .i32⟩
  | 120 => ⟨S512, .i32⟩
  | 121 => ⟨S512, .i1⟩
  | 122 => ⟨S512, .i32⟩
  | 123 => ⟨S512, .i32⟩
  | 124 => ⟨S_, .i32⟩
  | 125 => ⟨S512, .i32⟩
  | 126 => ⟨S512, .i1⟩
  | 127 => ⟨S512, .i1⟩
  | _ => ⟨S2x16384x3456, .f32⟩

abbrev hbmTy0_1 (i : Nat) : BufTy := match i % 128 with
  | 0 => ⟨S_, .i32⟩
  | 1 => ⟨S512, .i32⟩
  | 2 => ⟨S512, .i32⟩
  | 3 => ⟨S512, .i32⟩
  | 4 => ⟨S512x1, .i32⟩
  | 5 => ⟨S1x512, .i32⟩
  | 6 => ⟨S512x512, .i32⟩
  | 7 => ⟨S512x512, .i32⟩
  | 8 => ⟨S512x512, .i1⟩
  | 9 => ⟨S512x512, .bf16⟩
  | 10 => ⟨S2x16384x512, .bf16⟩
  | _ => ⟨S2x16384x3456, .f32⟩

abbrev hbmTy (i : Nat) : BufTy := match i / 128 with
  | 0 => hbmTy0_0 i
  | 1 => hbmTy0_1 i
  | _ => ⟨S2x16384x3456, .f32⟩

abbrev bufTy : (tb : Table) → Fin (tcTables nBuf tb) → BufTy
  | .hbm, ⟨i, _⟩ => hbmTy i
  | .local _ .vmem, ⟨0, _⟩ => ⟨S1x2048x512, .f32⟩
  | .local _ .vmem, ⟨1, _⟩ => ⟨S1x2048x512, .f32⟩
  | .local _ .vmem, ⟨2, _⟩ => ⟨S1x512, .f32⟩
  | .local _ .vmem, ⟨3, _⟩ => ⟨S512x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x512, .bf16⟩
  | .local _ .vmem, ⟨11, _⟩ => ⟨S1x2048x512, .bf16⟩
  | _, _ => ⟨S2x16384x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_call1_v0 : Ref sig .tc := ⟨.hbm, 61, rfl⟩
abbrev main_call1_v1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_c_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v39 : Ref sig .tc := ⟨.hbm, 79, rfl⟩
abbrev main_c_11 : Ref sig .tc := ⟨.hbm, 80, rfl⟩
abbrev main_v40 : Ref sig .tc := ⟨.hbm, 81, rfl⟩
abbrev main_v41 : Ref sig .tc := ⟨.hbm, 82, rfl⟩
abbrev main_c_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_13 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v47 : Ref sig .tc := ⟨.hbm, 93, rfl⟩
abbrev main_c_14 : Ref sig .tc := ⟨.hbm, 94, rfl⟩
abbrev main_v48 : Ref sig .tc := ⟨.hbm, 95, rfl⟩
abbrev main_v49 : Ref sig .tc := ⟨.hbm, 96, rfl⟩
abbrev main_c_15 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_16 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_c_17 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_c : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_0 : Ref sig .tc := ⟨.hbm, 128, rfl⟩
abbrev main_call6_v12 : Ref sig .tc := ⟨.hbm, 129, rfl⟩
abbrev main_call6_v13 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S2x16384x3456 : Shape := ⟨3, ![2, 16384, 3456]⟩
abbrev S64 : Shape := ⟨1, ![64]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S2x16384x512 : Shape := ⟨3, ![2, 16384, 512]⟩
abbrev S2x16384x4x2x64 : Shape := ⟨5, ![2, 16384, 4, 2, 64]⟩
abbrev S2x16384x4x2 : Shape := ⟨4, ![2, 16384, 4, 2]⟩
abbrev S2x16384x4x2x1 : Shape := ⟨5, ![2, 16384, 4, 2, 1]⟩
abbrev S1x1x1x1x64 : Shape := ⟨5, ![1, 1, 1, 1, 64]⟩
abbrev S1x16384x1x1x8 : Shape := ⟨5, ![1, 16384, 1, 1, 8]⟩
abbrev S2x16384x4x2x8 : Shape := ⟨5, ![2, 16384, 4, 2, 8]⟩
abbrev S2x16384x4x2x48 : Shape := ⟨5, ![2, 16384, 4, 2, 48]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x3456, .f32⟩
  | .hbm, ⟨1, _⟩ => ⟨S64, .f32⟩
  | .hbm, ⟨2, _⟩ => ⟨S16384, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S16384x1, .f32⟩
  | .hbm, ⟨18, _⟩ => ⟨S1x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S2x16384x512, .f32⟩
  | .hbm, ⟨25, _⟩ => ⟨S2x16384x4x2x64, .f32⟩
  | .hbm, ⟨26, _⟩ => ⟨S2x16384x4x2x64, .f32⟩
  | .hbm, ⟨27, _⟩ => ⟨S_, .f32⟩
  | .hbm, ⟨28, _⟩ => ⟨S2x16384x4x2, .f32⟩
  | .hbm, ⟨29, _⟩ => ⟨S2x16384x4x2x1, .f32⟩
  | .hbm, ⟨30, _⟩ => ⟨S_, .f32⟩
  | .hbm, ⟨31, _⟩ => ⟨S2x16384x4x2x1, .f32⟩
  | .hbm, ⟨32, _⟩ => ⟨S2x16384x4x2x1, .f32⟩
  | .hbm, ⟨33, _⟩ => ⟨S_, .f32⟩
  | .hbm, ⟨34, _⟩ => ⟨S2x16384x4x2x1, .f32⟩
  | .hbm, ⟨35, _⟩ => ⟨S2x16384x4x2x1, .f32⟩
  | .hbm, ⟨36, _⟩ => ⟨S2x16384x4x2x1, .f32⟩
  | .hbm, ⟨37, _⟩ => ⟨S2x16384x4x2x64, .f32⟩
  | .hbm, ⟨38, _⟩ => ⟨S2x16384x4x2x64, .f32⟩
  | .hbm, ⟨39, _⟩ => ⟨S1x1x1x1x64, .f32⟩
  | .hbm, ⟨40, _⟩ => ⟨S2x16384x4x2x64, .f32⟩
  | .hbm, ⟨41, _⟩ => ⟨S2x16384x4x2x64, .f32⟩
  | .hbm, ⟨42, _⟩ => ⟨S1x16384x1x1x8, .f32⟩
  | .hbm, ⟨43, _⟩ => ⟨S1x16384x1x1x8, .f32⟩
  | .hbm, ⟨44, _⟩ => ⟨S2x16384x4x2x8, .f32⟩
  | .hbm, ⟨45, _⟩ => ⟨S2x16384x4x2x8, .f32⟩
  | .hbm, ⟨46, _⟩ => ⟨S2x16384x4x2x8, .f32⟩
  | .hbm, ⟨47, _⟩ => ⟨S2x16384x4x2x8, .f32⟩
  | .hbm, ⟨48, _⟩ => ⟨S2x16384x4x2x8, .f32⟩
  | .hbm, ⟨49, _⟩ => ⟨S2x16384x4x2x8, .f32⟩
  | .hbm, ⟨50, _⟩ => ⟨S2x16384x4x2x8, .f32⟩
  | .hbm, ⟨51, _⟩ => ⟨S2x16384x4x2x8, .f32⟩
  | .hbm, ⟨52, _⟩ => ⟨S2x16384x4x2x8, .f32⟩
  | .hbm, ⟨53, _⟩ => ⟨S2x16384x4x2x8, .f32⟩
  | .hbm, ⟨54, _⟩ => ⟨S2x16384x4x2x8, .f32⟩
  | .hbm, ⟨55, _⟩ => ⟨S2x16384x4x2x8, .f32⟩
  | .hbm, ⟨56, _⟩ => ⟨S2x16384x4x2x48, .f32⟩
  | .hbm, ⟨57, _⟩ => ⟨S2x16384x4x2x64, .f32⟩
  | .hbm, ⟨58, _⟩ => ⟨S2x16384x512, .f32⟩
  | .hbm, ⟨59, _⟩ => ⟨S2x16384x512, .bf16⟩
  | _, _ => ⟨S2x16384x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Proof.Attend.lean ====
/- What one block of keys adds to the two accumulators of the kernel, element by element. -/
module

public import proofs.«01_k».proof.Proof.Gen.KernelIdeal.Skeleton
public import Idealize.ShloMosaic.Lib.Pointwise
public import Idealize.ShloMosaic.PureOps.IdealRules

@[expose] public section
set_option maxRecDepth 16384
noncomputable section
open Idealize.ShloMosaic Idealize.ShloMosaic.TcCoe Idealize.SL.Sem
namespace Cert.KernelIdeal.DA
open Cert.KernelIdeal Cert.KernelIdeal.Gen

/-- The name "mask" is worth minus infinity. -/
theorem mask_eq : Named.named (F := Ideal) κ "mask" (φ := .f32) 0xF149F2CA#32 = (⊥ : EReal) :=
  IdealRules.named_const.ideal_named_scalar _ _ _ _ rfl

/-- A number of a key as a position in the sequence. -/
def kf (n : ℕ) : Fin 16384 := ⟨n % 16384, Nat.mod_lt _ (by norm_num)⟩

theorem kf_of_lt {n : ℕ} (h : n < 16384) : kf n = ⟨n, h⟩ := Fin.ext (Nat.mod_eq_of_lt h)

/-- Half `ch` of the queries: the other half's rows are zero. -/
def qh (x0 : Vec Ideal S1x128x512 .bf16) (ch : ℕ) (d : Fin 128) (l : Fin 512) : EReal :=
  if d.val / 64 = ch then x0 (ix3 0 d l) else 0

/-- The weight of a key for a query under half `ch`. -/
def ew (x0 : Vec Ideal S1x128x512 .bf16) (x1 : Vec Ideal S1x16384x128 .bf16) (ch : ℕ) (l : Fin 512) (n : ℕ) : EReal :=
  Ideal.exp2 (∑ d : Fin 128, x1 (ix3 0 (kf n) d) * qh x0 ch d l)

/-- What accumulator `ch` holds in row `r` for query `l` once the first `n` keys are in. -/
def acc (x0 : Vec Ideal S1x128x512 .bf16) (x1 : Vec Ideal S1x16384x128 .bf16) (x2 : Vec Ideal S1x144x16384 .bf16)
    (ch : ℕ) (r : Fin 144) (l : Fin 512) (n : ℕ) : EReal :=
  ∑ k ∈ Finset.range n, x2 (ix3 0 r (kf k)) * ew x0 x1 ch l k

section
variable {x0 : Vec Ideal S1x128x512 .bf16} {x1 : Vec Ideal S1x16384x128 .bf16} {x2 : Vec Ideal S1x144x16384 .bf16}

theorem acc_add (ch : ℕ) (r : Fin 144) (l : Fin 512) (n m : ℕ) :
    acc x0 x1 x2 ch r l (n + m)
      = acc x0 x1 x2 ch r l n + ∑ j : Fin m, x2 (ix3 0 r (kf (n + j))) * ew x0 x1 ch l (n + j) := by
  unfold acc
  rw [Finset.sum_range_add, Fin.sum_univ_eq_sum_range (fun j => x2 (ix3 0 r (kf (n + j))) * ew x0 x1 ch l (n + j))]

/-- The first half of the queries, as the kernel masks them. -/
theorem pay17_apply (d : Fin 128) (l : Fin 512) : k0_pay17 (F := Ideal) x0 (ix2 d l) = qh x0 0 d l := by
  have h : ∀ d : Fin 128, IntOp.andi (IntOp.cmpi CmpIPredicate.sge (BitVec.ofNat 32 ↑d) 0#32)
      (IntOp.cmpi CmpIPredicate.slt (BitVec.ofNat 32 ↑d) 64#32) = if d.val / 64 = 0 then 1#1 else 0#1 := by decide
  pointwise [k0_pay17, k0_pay16, qh]
  rw [h d]
  split <;> rfl

/-- The second half of the queries. -/
theorem pay18_apply (d : Fin 128) (l : Fin 512) : k0_pay18 (F := Ideal) x0 (ix2 d l) = qh x0 1 d l := by
  have h : ∀ d : Fin 128, IntOp.andi (IntOp.cmpi CmpIPredicate.sge (BitVec.ofNat 32 ↑d) 64#32)
      (IntOp.cmpi CmpIPredicate.slt (BitVec.ofNat 32 ↑d) 128#32) = if d.val / 64 = 1 then 1#1 else 0#1 := by decide
  pointwise [k0_pay18, k0_pay16, qh]
  rw [h d]
  split <;> rfl

/-- A block of `m` keys from key `n` on, added to what the first `n` keys gave. -/
theorem acc_block {m n ch : ℕ} (r : Fin 144) (l : Fin 512) {q : Fin 128 → EReal} {K : Fin m → Fin 128 → EReal} {V : Fin m → EReal}
    {a : EReal} (hq : ∀ d, q d = qh x0 ch d l) (hK : ∀ j d, K j d = x1 (ix3 0 (kf (n + j)) d))
    (hV : ∀ j, V j = x2 (ix3 0 r (kf (n + j)))) (ha : a = acc x0 x1 x2 ch r l n) :
    a + ∑ j, V j * FloatOps.exp2 (F := Ideal) (φ := .f32) (∑ d, K j d * q d) = acc x0 x1 x2 ch r l (n + m) := by
  rw [acc_add, ha]
  simp only [hq, hK, hV]
  rfl

/-- The block on the diagonal, whose keys past the query weigh nothing. -/
theorem acc_diag {n ch : ℕ} (r : Fin 144) (l : Fin 512) {q : Fin 128 → EReal} {K : Fin 512 → Fin 128 → EReal} {V : Fin 512 → EReal}
    {a : EReal} (hq : ∀ d, q d = qh x0 ch d l) (hK : ∀ j d, K j d = x1 (ix3 0 (kf (n + j)) d))
    (hV : ∀ j, V j = x2 (ix3 0 r (kf (n + j)))) (ha : a = acc x0 x1 x2 ch r l n) :
    a + ∑ j : Fin 512, V j * FloatOps.exp2 (F := Ideal) (φ := .f32)
        (Scalar.select (IntOp.cmpi CmpIPredicate.sle (BitVec.ofNat 32 ↑j) (BitVec.ofNat 32 ↑l)) (∑ d, K j d * q d)
          (Named.named (F := Ideal) κ "mask" (φ := .f32) 0xF149F2CA#32))
      = acc x0 x1 x2 ch r l (n + (l.val + 1)) := by
  rw [acc_add, ha, mask_eq]
  congr 1
  have hs : ∀ j : Fin 512, IntOp.cmpi CmpIPredicate.sle (BitVec.ofNat 32 ↑j) (BitVec.ofNat 32 ↑l)
      = if j.val < l.val + 1 then 1#1 else 0#1 := by
    intro j
    have hj := j.isLt
    have hl := l.isLt
    have : (BitVec.ofNat 32 ↑j).sle (BitVec.ofNat 32 ↑l) = decide (j.val < l.val + 1) := by
      rw [BitVec.sle_eq_decide]
      congr 1
      have e : ∀ k < 512, (BitVec.ofNat 32 k).toInt = k := fun k hk => by
        rw [BitVec.toInt_eq_toNat_of_lt (by rw [BitVec.toNat_ofNat]; omega), BitVec.toNat_ofNat]
        omega
      rw [e _ hj, e _ hl]
      apply propext
      omega
    show BitVec.ofBool _ = _
    rw [this]
    by_cases h : j.val < l.val + 1 <;> simp [h]
  rw [Fin.sum_univ_eq_sum_range (fun j => x2 (ix3 0 r (kf (n + j))) * ew x0 x1 ch l (n + j))]
  have hterm : ∀ j : Fin 512, V j * FloatOps.exp2 (F := Ideal) (φ := .f32)
        (Scalar.select (IntOp.cmpi CmpIPredicate.sle (BitVec.ofNat 32 ↑j) (BitVec.ofNat 32 ↑l)) (∑ d, K j d * q d) (⊥ : EReal))
      = (fun j : ℕ => if j < l.val + 1 then x2 (ix3 0 r (kf (n + j))) * ew x0 x1 ch l (n + j) else 0) j.val := by
    intro j
    rw [hs j]
    by_cases h : j.val < l.val + 1
    · simp only [h, if_true]
      simp only [hq, hK, hV]
      rfl
    · simp only [h, if_false]
      show V j * Ideal.exp2 ⊥ = 0
      rw [Ideal.exp2_bot, mul_zero]
  rw [Finset.sum_congr rfl fun j _ => hterm j, Fin.sum_univ_eq_sum_range (fun j : ℕ => if j < l.val + 1 then x2 (ix3 0 r (kf (n + j))) * ew x0 x1 ch l (n + j) else 0),
    ← Finset.sum_filter]
  apply Finset.sum_congr _ fun _ _ => rfl
  ext j
  have := l.isLt
  simp only [Finset.mem_filter, Finset.mem_range]
  omega

end

end Cert.KernelIdeal.DA
-- ==== Proof.Ref.lean ====
/- The reference's result at an index, one stage of it after another. -/
module

public import proofs.«01_k».proof.Proof.Gen.ReferenceIdeal.Run
public import Idealize.ShloMosaic.Lib.Pipeline.ValueKit
public import Idealize.ShloMosaic.Lib.Pointwise
public import Idealize.ShloMosaic.Lib.Claim

@[expose] public section
set_option maxRecDepth 16384
noncomputable section
open Idealize.ShloMosaic Idealize.ShloMosaic.TcCoe Idealize.SL.Sem
namespace Cert.ReferenceIdeal.DA
open Cert.ReferenceIdeal Cert.ReferenceIdeal.Gen Cert.ReferenceIdeal.Value

/-- The masked scores. -/
def scores (q k : FVec Ideal S2x16384x4x2x64 .f32) : FVec Ideal S2x4x2x16384x16384 .f32 :=
  select (broadcastInDim S2x4x2x16384x16384 ![3, 4] bcast_S16384x16384_S2x4x2x16384x16384_3_4
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (mulf (Host.dotGeneral dot_S2x16384x4x2x64_S2x16384x4x2x64_S2x4x2x16384x16384_4_4_1_1_023_023 none q k)
      (broadcastInDim S2x4x2x16384x16384 ![] bcast_S_S2x4x2x16384x16384 (constant S_ .f32 0x3E000000#32)))
    (broadcastInDim S2x4x2x16384x16384 ![] bcast_S_S2x4x2x16384x16384 (id (constant S_ .f32 0xFF800000#32)))

/-- Each row's greatest score. -/
def top (s : FVec Ideal S2x4x2x16384x16384 .f32) : FVec Ideal S2x4x2x16384 .f32 :=
  maximumf (broadcastInDim S2x4x2x16384 ![] bcast_S_S2x4x2x16384 (constant S_ .f32 0xFF800000#32))
    (Host.reduce FloatOps.maximumf s (constant S_ .f32 0xFF800000#32) reducesTo_S2x4x2x16384x16384_S2x4x2x16384_d4 h_S_)

/-- A row's value at each of its keys. -/
def along (x : FVec Ideal S2x4x2x16384 .f32) : FVec Ideal S2x4x2x16384x16384 .f32 :=
  broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3 x)

/-- The weights before they are normalised. -/
def weights (s : FVec Ideal S2x4x2x16384x16384 .f32) : FVec Ideal S2x4x2x16384x16384 .f32 := Host.exp (subf s (along (top s)))

/-- The softmax's weights. -/
def probs (w : FVec Ideal S2x4x2x16384x16384 .f32) : FVec Ideal S2x4x2x16384x16384 .f32 :=
  Host.divf w (along (Host.reduceAdd w (constant S_ .f32 0x00000000#32) reducesTo_S2x4x2x16384x16384_S2x4x2x16384_d4 h_S_))

/-- The coefficient of the second attention. -/
def coef (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The values under the difference of the two attentions. -/
def mixed (p : FVec Ideal S2x4x2x16384x16384 .f32) (e : FVec Ideal S_ .f32) (v : FVec Ideal S2x16384x4x128 .f32) : FVec Ideal S2x16384x4x128 .f32 :=
  transpose S2x16384x4x128 [0, 3, 1, 2] (Host.dotGeneral dot_S2x16384x4x128_S2x4x16384x16384_S2x4x128x16384_1_3_3_2_02_01 none v
    (subf (shapeCast _ (extractStridedSlice S2x4x1x16384x16384 ![0, 0, 0, 0, 0] p slices_S2x4x2x16384x16384_S2x4x1x16384x16384_0_0_0_0_0) shapeCasts_S2x4x1x16384x16384_S2x4x16384x16384)
      (mulf (broadcastInDim S2x4x16384x16384 ![] bcast_S_S2x4x16384x16384 e)
        (shapeCast _ (extractStridedSlice S2x4x1x16384x16384 ![0, 0, 1, 0, 0] p slices_S2x4x2x16384x16384_S2x4x1x16384x16384_0_0_1_0_0) shapeCasts_S2x4x1x16384x16384_S2x4x16384x16384))))
    transposes_S2x4x128x16384_S2x16384x4x128_0_3_1_2

/-- The norm, the gain, the constant and the layout of the result. -/
def closing (o : FVec Ideal S2x16384x4x128 .f32) (g : FVec Ideal S128 .f32) : FVec Ideal S2x512x16384 .f32 :=
  transpose S2x512x16384 [0, 2, 1] (shapeCast _ (mulf (mulf (mulf o
    (broadcastInDim S2x16384x4x128 ![0, 1, 2, 3] bcast_S2x16384x4x1_S2x16384x4x128_0_1_2_3 (Host.rsqrt (addf (Host.divf
      (broadcastInDim S2x16384x4x1 ![0, 1, 2] bcast_S2x16384x4_S2x16384x4x1_0_1_2 (Host.reduceAdd (mulf o o) (constant S_ .f32 0x00000000#32) reducesTo_S2x16384x4x128_S2x16384x4_d3 h_S_))
      (broadcastInDim S2x16384x4x1 ![] bcast_S_S2x16384x4x1 (constant S_ .f32 0x43000000#32)))
      (broadcastInDim S2x16384x4x1 ![] bcast_S_S2x16384x4x1 (constant S_ .f32 0x358637BD#32))))))
    (broadcastInDim S2x16384x4x128 ![0, 1, 2, 3] bcast_S1x1x1x128_S2x16384x4x128_0_1_2_3 (broadcastInDim S1x1x1x128 ![3] bcast_S128_S1x1x1x128_3 g)))
    (broadcastInDim S2x16384x4x128 ![] bcast_S_S2x16384x4x128 (constant S_ .f32 0x3F4CCCCD#32))) shapeCasts_S2x16384x4x128_S2x16384x512)
    transposes_S2x16384x512_S2x512x16384_0_2_1

theorem res_eq (m : (o : Loc nD τ sig) → Buf (Elt Ideal) o) (c : Dev nD) :
    res_main_v54 m c = closing (mixed (probs (weights (scores (m ((c.tc : Thread nD τ).loc main_arg0)) (m ((c.tc : Thread nD τ).loc main_arg1)))))
      (coef (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg2))) (m ((c.tc : Thread nD τ).loc main_arg7)) := rfl

/-- The greatest of a row's scores. -/
def topOf {n : ℕ} (f : Fin n → EReal) : EReal :=
  max (Ideal.ofBits .f32 0xFF800000#32) (Finset.univ.fold max (Ideal.ofBits .f32 0xFF800000#32) f)

/-- The greatest scores along the last of five axes, at any sizes. -/
theorem top_last {n0 n1 n2 n3 n4 : ℕ} (hr : (⟨5, ![n0, n1, n2, n3, n4]⟩ : Shape).ReducesTo [4] ⟨4, ![n0, n1, n2, n3]⟩) (hu : 0 < S_.numel)
    (hb : S_.BroadcastsInDim ⟨4, ![n0, n1, n2, n3]⟩ (![] : Fin 0 → Fin 4))
    (s : FVec Ideal ⟨5, ![n0, n1, n2, n3, n4]⟩ .f32) (i0 : Fin n0) (i1 : Fin n1) (i2 : Fin n2) (i3 : Fin n3) :
    maximumf (broadcastInDim ⟨4, ![n0, n1, n2, n3]⟩ ![] hb (constant S_ .f32 0xFF800000#32))
      (Host.reduce FloatOps.maximumf s (constant S_ .f32 0xFF800000#32) hr hu) (ix4 i0 i1 i2 i3) = topOf fun x => s (ix5 i0 i1 i2 i3 x) := by
  pointwise
  rfl

section
variable (b : Fin 2) (h : Fin 4) (ch : Fin 2) (q j : Fin 16384)

/-- A score at an index. -/
def scoreAt (x y : FVec Ideal S2x16384x4x2x64 .f32) : EReal :=
  Scalar.select (IntOp.cmpi .sle (BitVec.ofNat 32 j.val) (BitVec.ofNat 32 q.val))
    ((∑ t, x (ix5 b q h ch t) * y (ix5 b j h ch t) : EReal) * Ideal.ofBits .f32 0x3E000000#32) (Ideal.ofBits .f32 0xFF800000#32)
theorem scores_apply (x y : FVec Ideal S2x16384x4x2x64 .f32) : scores x y (ix5 b h ch q j) = scoreAt b h ch q j x y := by
  pointwise [scores]
  rfl
theorem along_apply (x : FVec Ideal S2x4x2x16384 .f32) : along x (ix5 b h ch q j) = x (ix4 b h ch q) := by
  pointwise [along]
theorem top_apply (x : FVec Ideal S2x4x2x16384x16384 .f32) : top x (ix4 b h ch q) = topOf fun j => x (ix5 b h ch q j) :=
  top_last _ _ _ x b h ch q
theorem weights_apply (s : FVec Ideal S2x4x2x16384x16384 .f32) : weights s (ix5 b h ch q j) = Ideal.exp (s (ix5 b h ch q j) - topOf fun j => s (ix5 b h ch q j)) := by
  rw [← top_apply, ← along_apply b h ch q j (top s)]
  rfl
theorem total_apply (w : FVec Ideal S2x4x2x16384x16384 .f32) :
    Host.reduceAdd w (constant S_ .f32 0x00000000#32) reducesTo_S2x4x2x16384x16384_S2x4x2x16384_d4 h_S_ (ix4 b h ch q) = ∑ x, w (ix5 b h ch q x) := by
  pointwise
theorem div_at {s : Shape} (x y : FVec Ideal s .f32) (i : s.Idx) : Host.divf x y i = Ideal.div (x i) (y i) := rfl
theorem probs_apply (w : FVec Ideal S2x4x2x16384x16384 .f32) : probs w (ix5 b h ch q j) = Ideal.div (w (ix5 b h ch q j)) (∑ x, w (ix5 b h ch q x)) := by
  unfold probs
  rw [div_at, along_apply, total_apply]
theorem coef_apply (w x y z : FVec Ideal S64 .f32) : coef w x y z ix0 = Ideal.exp (∑ t, w (ix1 t) * x (ix1 t)) - Ideal.exp (∑ t, y (ix1 t) * z (ix1 t)) + (Ideal.ofBits .f32 0x3E4CCCCD#32 : EReal) := by
  pointwise [coef]
theorem mixed_apply (p : FVec Ideal S2x4x2x16384x16384 .f32) (e : FVec Ideal S_ .f32) (v : FVec Ideal S2x16384x4x128 .f32) (r : Fin 128) :
    mixed p e v (ix4 b q h r) = ∑ x, v (ix4 b x h r) * (p (ix5 b h 0 q x) - e ix0 * p (ix5 b h 1 q x) : EReal) := by
  pointwise [mixed]
/-- The closing lines at an index. -/
def closed (o : FVec Ideal S2x16384x4x128 .f32) (g : FVec Ideal S128 .f32) (r : Fin 128) : EReal :=
  o (ix4 b q h r) * Ideal.rsqrt (Ideal.div (∑ x, o (ix4 b q h x) * o (ix4 b q h x) : EReal) (Ideal.ofBits .f32 0x43000000#32) + Ideal.ofBits .f32 0x358637BD#32)
    * g (ix1 r) * Ideal.ofBits .f32 0x3F4CCCCD#32
theorem closing_apply (o : FVec Ideal S2x16384x4x128 .f32) (g : FVec Ideal S128 .f32) (d : Fin 512) :
    closing o g (ix3 b d q) = closed b ⟨d.val / 128, by have := d.isLt; omega⟩ q o g ⟨d.val % 128, by omega⟩ := by
  pointwise [closing]
  rfl
end
end Cert.ReferenceIdeal.DA
-- ==== Proof.Soft.lean ====
/- The real numbers behind both programs: the softmax of one row, the two spellings of its scores, and the sums over the keys that are not masked. -/
module

public import proofs.«01_k».proof.Proof.Host
public import proofs.«01_k».proof.Proof.Ref

@[expose] public section
noncomputable section
open Idealize.ShloMosaic
namespace Cert.Soft
open Cert.KernelIdeal.DA (scaled qh ew acc kf kf_of_lt lam)
open Cert.ReferenceIdeal.DA (topOf scoreAt)

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul]
  congr 1
  ring

theorem bits_eighth : Ideal.ofBits .f32 0x3E000000#32 = ((1 / 8 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
theorem bits_bot : Ideal.ofBits .f32 0xFF800000#32 = (⊥ : EReal) := by
  simp [Ideal.ofBits, Ideal.ieee]
theorem bits_fifth : ∃ y : ℝ, Ideal.ofBits .f32 0x3E4CCCCD#32 = (y : EReal) := by
  simp [Ideal.ofBits, Ideal.ieee, -EReal.coe_mul]

theorem scaled_coe (x : ℝ) : scaled (x : EReal) = ((x * (1 / 8) / Real.log 2 : ℝ) : EReal) := by
  unfold scaled
  rw [bits_eighth, bits_two, Ideal.log_coe, if_neg (by norm_num), ← EReal.coe_mul, div_real _ _ (Real.log_pos (by norm_num)).ne']

/-- The sum over the 128 rows of a pair of heads, one head's queries set to zero, is the sum over the other head's 64. -/
theorem half_sum (ch : Fin 2) (K Q : Fin 2 → Fin 64 → ℝ) :
    (∑ d : Fin 128, K ⟨d.val / 64, by omega⟩ ⟨d.val % 64, by omega⟩ * (if d.val / 64 = ch.val then Q ⟨d.val / 64, by omega⟩ ⟨d.val % 64, by omega⟩ else 0))
      = ∑ j, K ch j * Q ch j := by
  refine (Fin.sum_univ_add (a := 64) (b := 64) _).trans ?_
  have ha : ∀ j : Fin 64, (Fin.castAdd 64 j).val / 64 = 0 ∧ (Fin.castAdd 64 j).val % 64 = j.val := fun j => by
    rw [Fin.val_castAdd]; omega
  have hb : ∀ j : Fin 64, (Fin.natAdd 64 j).val / 64 = 1 ∧ (Fin.natAdd 64 j).val % 64 = j.val := fun j => by
    rw [Fin.val_natAdd]; omega
  simp only [ha, hb]
  match ch with
  | 0 => simp
  | 1 => simp

/-- The kernel's weight of a key is the exponential of the score. -/
theorem weight (ch : Fin 2) (K Q : Fin 2 → Fin 64 → ℝ) :
    Ideal.exp2 (∑ d : Fin 128, (K ⟨d.val / 64, by omega⟩ ⟨d.val % 64, by omega⟩ : EReal)
        * (if d.val / 64 = ch.val then scaled (Q ⟨d.val / 64, by omega⟩ ⟨d.val % 64, by omega⟩) else 0))
      = ((Real.exp ((∑ j, Q ch j * K ch j) * (1 / 8)) : ℝ) : EReal) := by
  have e : ∀ d : Fin 128, (K ⟨d.val / 64, by omega⟩ ⟨d.val % 64, by omega⟩ : EReal)
        * (if d.val / 64 = ch.val then scaled (Q ⟨d.val / 64, by omega⟩ ⟨d.val % 64, by omega⟩) else 0)
      = ((K ⟨d.val / 64, by omega⟩ ⟨d.val % 64, by omega⟩
        * (if d.val / 64 = ch.val then (fun a b => Q a b * (1 / 8) / Real.log 2) ⟨d.val / 64, by omega⟩ ⟨d.val % 64, by omega⟩ else 0) : ℝ) : EReal) := fun d => by
    split
    · rw [scaled_coe, EReal.coe_mul]
    · rw [mul_zero, mul_zero, EReal.coe_zero]
  simp only [e]
  rw [sum_coe, half_sum ch K fun a b => Q a b * (1 / 8) / Real.log 2, Ideal.exp2_coe]
  congr 1
  have h2 : Real.log 2 ≠ 0 := (Real.log_pos (by norm_num)).ne'
  change (2 : ℝ) ^ (∑ j, K ch j * (Q ch j * (1 / 8) / Real.log 2) : ℝ) = _
  rw [Real.rpow_def_of_pos (by norm_num), Finset.mul_sum, Finset.sum_mul]
  congr 1
  refine Finset.sum_congr rfl fun j _ => ?_
  field_simp

/-- A sum over the first keys as a sum over all of them. -/
theorem range_sum (q : ℕ) (hq : q < 16384) (f : Fin 16384 → ℝ) :
    ∑ k ∈ Finset.range (q + 1), f (kf k) = ∑ x : Fin 16384, if x.val ≤ q then f x else 0 := by
  have h : ∀ x : Fin 16384, (if x.val ≤ q then f x else 0) = (fun k : ℕ => if k ≤ q then f (kf k) else 0) x.val := fun x => by
    show _ = if x.val ≤ q then f (kf x.val) else 0
    rw [kf_of_lt x.isLt]
  rw [Finset.sum_congr rfl fun x _ => h x, Fin.sum_univ_eq_sum_range (fun k : ℕ => if k ≤ q then f (kf k) else 0), ← Finset.sum_filter]
  refine Finset.sum_congr (Finset.ext fun k => ?_) fun _ _ => rfl
  rw [Finset.mem_filter, Finset.mem_range, Finset.mem_range]
  omega

section
variable {n : ℕ} (q : ℕ) (s : Fin n → ℝ)

/-- The sum of the exponentials of the scores that are not masked. -/
def total : ℝ := ∑ x : Fin n, if x.val ≤ q then Real.exp (s x) else 0
/-- The softmax's weight of a key. -/
def soft (x : Fin n) : ℝ := if x.val ≤ q then Real.exp (s x) / total q s else 0

theorem total_pos (hq : q < n) : 0 < total q s := by
  refine Finset.sum_pos' (fun x _ => ?_) ⟨⟨q, hq⟩, Finset.mem_univ _, ?_⟩
  · split
    · exact (Real.exp_pos _).le
    · exact le_rfl
  · rw [if_pos le_rfl]
    exact Real.exp_pos _

/-- The greatest of a row's scores is a real number. -/
theorem topOf_coe (hq : q < n) : ∃ M : ℝ, topOf (fun x : Fin n => if x.val ≤ q then ((s x : ℝ) : EReal) else ⊥) = (M : EReal) := by
  have hb : (⊥ : EReal) < topOf (fun x : Fin n => if x.val ≤ q then ((s x : ℝ) : EReal) else ⊥) := by
    unfold topOf
    refine lt_max_of_lt_right ((Finset.lt_fold_max _).mpr (Or.inr ⟨⟨q, hq⟩, Finset.mem_univ _, ?_⟩))
    rw [if_pos le_rfl]
    exact EReal.bot_lt_coe _
  have ht : topOf (fun x : Fin n => if x.val ≤ q then ((s x : ℝ) : EReal) else ⊥) < ⊤ := by
    unfold topOf
    rw [bits_bot]
    refine max_lt bot_lt_top ((Finset.fold_max_lt _).mpr ⟨bot_lt_top, fun x _ => ?_⟩)
    split
    · exact EReal.coe_lt_top _
    · exact bot_lt_top
  exact ⟨_, (EReal.coe_toReal ht.ne hb.ne').symm⟩

/-- The softmax as the reference spells it. -/
theorem softmax (hq : q < n) (f : Fin n → EReal) (hf : f = fun x => if x.val ≤ q then ((s x : ℝ) : EReal) else ⊥) (x : Fin n) :
    Ideal.div (Ideal.exp (f x - topOf f)) (∑ y, Ideal.exp (f y - topOf f)) = ((soft q s x : ℝ) : EReal) := by
  subst hf
  obtain ⟨M, hM⟩ := topOf_coe q s hq
  have e : ∀ y : Fin n, Ideal.exp ((if y.val ≤ q then ((s y : ℝ) : EReal) else ⊥) - (M : EReal))
      = (((if y.val ≤ q then Real.exp (s y) else 0) * Real.exp (-M) : ℝ) : EReal) := fun y => by
    split
    · rw [← EReal.coe_sub, Ideal.exp_coe, ← Real.exp_add]; rfl
    · rw [EReal.bot_sub, Ideal.exp_bot, zero_mul, EReal.coe_zero]
  rw [hM]
  simp only [e]
  have hp : (∑ y : Fin n, (if y.val ≤ q then Real.exp (s y) else 0) * Real.exp (-M)) = total q s * Real.exp (-M) := (Finset.sum_mul ..).symm
  have ht := (total_pos q s hq).ne'
  have hE := (Real.exp_pos (-M)).ne'
  rw [sum_coe, hp, div_real _ _ (mul_ne_zero ht hE), mul_div_mul_right _ _ hE]
  congr 1
  unfold soft
  split
  · rfl
  · exact zero_div _

/-- A quotient of masked sums is a sum under the softmax's weights. -/
theorem quot (v : Fin n → ℝ) : (∑ x : Fin n, if x.val ≤ q then v x * Real.exp (s x) else 0) / total q s = ∑ x, v x * soft q s x := by
  rw [Finset.sum_div]
  refine Finset.sum_congr rfl fun x _ => ?_
  unfold soft
  split
  · exact mul_div_assoc _ _ _
  · rw [zero_div, mul_zero]
end

/-- The difference of the two quotients is the sum under the difference of the weights. -/
theorem difference {n : ℕ} (q : ℕ) (hq : q < n) (s0 s1 : Fin n → ℝ) (v : Fin n → ℝ) (L : ℝ) :
    Ideal.div ((∑ x : Fin n, if x.val ≤ q then v x * Real.exp (s0 x) else 0 : ℝ) : EReal) ((total q s0 : ℝ) : EReal)
        - (L : EReal) * Ideal.div ((∑ x : Fin n, if x.val ≤ q then v x * Real.exp (s1 x) else 0 : ℝ) : EReal) ((total q s1 : ℝ) : EReal)
      = ∑ x, (v x : EReal) * ((soft q s0 x : EReal) - (L : EReal) * (soft q s1 x : EReal)) := by
  have e : ∀ x, (v x : EReal) * ((soft q s0 x : EReal) - (L : EReal) * (soft q s1 x : EReal)) = ((v x * (soft q s0 x - L * soft q s1 x) : ℝ) : EReal) := fun x => by
    rw [EReal.coe_mul, EReal.coe_sub, EReal.coe_mul]
  simp only [e]
  rw [sum_coe, div_real _ _ (total_pos q s0 hq).ne', div_real _ _ (total_pos q s1 hq).ne', quot, quot, ← EReal.coe_mul, ← EReal.coe_sub, Finset.mul_sum, ← Finset.sum_sub_distrib]
  congr 1
  refine Finset.sum_congr rfl fun x _ => ?_
  ring

/-- The coefficient of the second attention is a real number. -/
theorem lam_coe (a b c d : Fin 64 → ℝ) : ∃ L : ℝ, lam (fun x => (a x : EReal)) (fun x => (b x : EReal)) (fun x => (c x : EReal)) (fun x => (d x : EReal)) = (L : EReal) := by
  obtain ⟨y, hy⟩ := bits_fifth
  unfold lam
  simp only [← EReal.coe_mul, sum_coe, Ideal.exp_coe]
  rw [hy, ← EReal.coe_sub, ← EReal.coe_add]
  exact ⟨_, rfl⟩

/-- An accumulator's row over the keys that are not masked. -/
theorem acc_coe {x0 : Vec Ideal Cert.KernelIdeal.S1x128x512 .bf16} {x1 : Vec Ideal Cert.KernelIdeal.S1x16384x128 .bf16} {x2 : Vec Ideal Cert.KernelIdeal.S1x144x16384 .bf16} (ch : ℕ) (r : Fin 144) (l : Fin 512)
    (q : ℕ) (hq : q < 16384) (v s : Fin 16384 → ℝ) (hv : ∀ x, x2 (ix3 0 r x) = (v x : EReal)) (hs : ∀ k, ew x0 x1 ch l k = (Real.exp (s (kf k)) : EReal)) :
    acc x0 x1 x2 ch r l (q + 1) = ((∑ x : Fin 16384, if x.val ≤ q then v x * Real.exp (s x) else 0 : ℝ) : EReal) := by
  unfold acc
  have e : ∀ k : ℕ, x2 (ix3 0 r (kf k)) * ew x0 x1 ch l k = ((v (kf k) * Real.exp (s (kf k)) : ℝ) : EReal) := fun k => by
    rw [hv, hs, EReal.coe_mul]
  rw [Finset.sum_congr rfl fun k _ => e k, sum_coe, range_sum q hq fun x => v x * Real.exp (s x)]

/-- The mask's comparison of two positions. -/
theorem mask_iff (x q : Fin 16384) : IntOp.cmpi .sle (BitVec.ofNat 32 x.val) (BitVec.ofNat 32 q.val) = 1#1 ↔ x.val ≤ q.val := by
  have h : ∀ y : Fin 16384, (BitVec.ofNat 32 y.val).toInt = y.val := fun y => by
    have := y.isLt
    rw [BitVec.toInt_eq_toNat_of_lt (by rw [BitVec.toNat_ofNat]; omega), BitVec.toNat_ofNat]
    omega
  rw [IntOp.cmpi_sle, h, h]
  omega

/-- The reference's score. -/
theorem score_coe (b : Fin 2) (h : Fin 4) (ch : Fin 2) (q x : Fin 16384) (Q K : FVec Ideal Cert.ReferenceIdeal.S2x16384x4x2x64 .f32) (Q' K' : Fin 2 → Fin 64 → ℝ)
    (hQ : ∀ j, Q (ix5 b q h ch j) = (Q' ch j : EReal)) (hK : ∀ j, K (ix5 b x h ch j) = (K' ch j : EReal)) :
    scoreAt b h ch q x Q K = if x.val ≤ q.val then (((∑ j, Q' ch j * K' ch j) * (1 / 8) : ℝ) : EReal) else ⊥ := by
  unfold scoreAt Scalar.select
  simp only [hQ, hK, ← EReal.coe_mul, sum_coe]
  rw [bits_eighth, bits_bot, ← EReal.coe_mul]
  exact if_congr (mask_iff x q) rfl rfl
end Cert.Soft
-- ==== Proof.Join.lean ====
/- A block of the kernel's result is the reference's result at the block's place, the inputs being real numbers. -/
module

public import proofs.«01_k».proof.Proof.Soft

@[expose] public section
noncomputable section
open Idealize.ShloMosaic
namespace Cert.Soft
open Cert.KernelIdeal.DA Cert.ReferenceIdeal.DA
open Cert.ReferenceIdeal (S2x16384x4x2x64 S2x16384x4x128 S64 S128)
open Cert.KernelIdeal (S1x128x512 S1x16384x128 S1x144x16384 S1x64 S128x1)

/-- The score of a key for a query, as a real number. -/
def sc (Q K : S2x16384x4x2x64.Idx → ℝ) (b : Fin 2) (h : Fin 4) (q : Fin 16384) (ch : Fin 2) (x : Fin 16384) : ℝ :=
  (∑ j, Q (ix5 b q h ch j) * K (ix5 b x h ch j)) * (1 / 8)

section
variable (b : Fin 2) (h : Fin 4) (q : Fin 16384) (Q K : S2x16384x4x2x64.Idx → ℝ) (W : S2x16384x4x128.Idx → ℝ)

theorem probs_coe (x y : FVec Ideal S2x16384x4x2x64 .f32) (hx : ∀ i, x i = (Q i : EReal)) (hy : ∀ i, y i = (K i : EReal)) (ch : Fin 2) (j : Fin 16384) :
    probs (weights (scores x y)) (ix5 b h ch q j) = ((soft q.val (sc Q K b h q ch) j : ℝ) : EReal) := by
  refine (probs_apply b h ch q j _).trans ?_
  refine (congrArg₂ Ideal.div (weights_apply b h ch q j _) (Finset.sum_congr rfl fun y _ => weights_apply b h ch q y _)).trans ?_
  exact softmax q.val (sc Q K b h q ch) q.isLt _
    (funext fun z => (scores_apply b h ch q z x y).trans (score_coe b h ch q z x y (fun ch j => Q (ix5 b q h ch j)) (fun ch j => K (ix5 b z h ch j)) (fun j => hx _) (fun j => hy _))) j

theorem weight_coe {x0 : Vec Ideal S1x128x512 .bf16} {x1 : Vec Ideal S1x16384x128 .bf16} (l : Fin 512)
    (h0 : ∀ d : Fin 128, x0 (ix3 0 d l) = scaled (Q (ix5 b q h ⟨d.val / 64, by omega⟩ ⟨d.val % 64, by omega⟩)))
    (h1 : ∀ (n : Fin 16384) (d : Fin 128), x1 (ix3 0 n d) = (K (ix5 b n h ⟨d.val / 64, by omega⟩ ⟨d.val % 64, by omega⟩) : EReal)) (ch : Fin 2) (k : ℕ) :
    ew x0 x1 ch.val l k = ((Real.exp (sc Q K b h q ch (kf k)) : ℝ) : EReal) := by
  refine Eq.trans ?_ (weight ch (fun a j => K (ix5 b (kf k) h a j)) (fun a j => Q (ix5 b q h a j)))
  unfold ew qh
  simp only [h0, h1]

theorem ones_row (s : Fin 16384 → ℝ) : (∑ x : Fin 16384, if x.val ≤ q.val then (fun _ => (1 : ℝ)) x * Real.exp (s x) else 0) = total q.val s := by
  simp only [one_mul]
  rfl

/-- A block of the kernel's result and the reference's, entry by entry. -/
theorem blk_value (i : Cert.KernelIdeal.grid0.Coords) (x0 : Vec Ideal S1x128x512 .bf16) (x1 : Vec Ideal S1x16384x128 .bf16) (x2 : Vec Ideal S1x144x16384 .bf16)
    (x3 x4 x5 x6 : Vec Ideal S1x64 .f32) (x7 : Vec Ideal S128x1 .f32) (r : Fin 128) (l : Fin 512) (hi : 512 * (i 2).val + (l.val + 1) = q.val + 1)
    (x y : FVec Ideal S2x16384x4x2x64 .f32) (v : FVec Ideal S2x16384x4x128 .f32) (a₁ b₁ a₂ b₂ : FVec Ideal S64 .f32) (g : FVec Ideal S128 .f32) (A₁ B₁ A₂ B₂ : S64.Idx → ℝ)
    (hx : ∀ i, x i = (Q i : EReal)) (hy : ∀ i, y i = (K i : EReal)) (hv : ∀ i, v i = (W i : EReal))
    (ha₁ : ∀ i, a₁ i = (A₁ i : EReal)) (hb₁ : ∀ i, b₁ i = (B₁ i : EReal)) (ha₂ : ∀ i, a₂ i = (A₂ i : EReal)) (hb₂ : ∀ i, b₂ i = (B₂ i : EReal))
    (h0 : ∀ d : Fin 128, x0 (ix3 0 d l) = scaled (x (ix5 b q h ⟨d.val / 64, by omega⟩ ⟨d.val % 64, by omega⟩)))
    (h1 : ∀ (n : Fin 16384) (d : Fin 128), x1 (ix3 0 n d) = y (ix5 b n h ⟨d.val / 64, by omega⟩ ⟨d.val % 64, by omega⟩))
    (h2 : ∀ (r : Fin 144) (n : Fin 16384), x2 (ix3 0 r n) = (if hr : r.val < 128 then v (ix4 b n h ⟨r.val, hr⟩) else (1 : EReal) : EReal))
    (h3 : ∀ t, x3 (ix2 0 t) = a₁ (ix1 t)) (h4 : ∀ t, x4 (ix2 0 t) = b₁ (ix1 t)) (h5 : ∀ t, x5 (ix2 0 t) = a₂ (ix1 t)) (h6 : ∀ t, x6 (ix2 0 t) = b₂ (ix1 t))
    (h7 : x7 (ix2 r 0) = g (ix1 r)) :
    blk i x0 x1 x2 x3 x4 x5 x6 x7 r l = closed b h q (mixed (probs (weights (scores x y))) (coef a₁ b₁ a₂ b₂) v) g r := by
  obtain ⟨L, hL⟩ := lam_coe (fun t => A₁ (ix1 t)) (fun t => B₁ (ix1 t)) (fun t => A₂ (ix1 t)) (fun t => B₂ (ix1 t))
  have hlam : lam (fun t => x3 (ix2 0 t)) (fun t => x4 (ix2 0 t)) (fun t => x5 (ix2 0 t)) (fun t => x6 (ix2 0 t)) = (L : EReal) := by
    rw [← hL]
    simp only [h3, h4, h5, h6, ha₁, hb₁, ha₂, hb₂]
  have hcoef : coef a₁ b₁ a₂ b₂ ix0 = (L : EReal) := by
    rw [coef_apply, ← hL]
    simp only [ha₁, hb₁, ha₂, hb₂]
    rfl
  have hw : ∀ (ch : Fin 2) (k : ℕ), ew x0 x1 ch.val l k = ((Real.exp (sc Q K b h q ch (kf k)) : ℝ) : EReal) :=
    weight_coe b h q Q K l (fun d => (h0 d).trans (congrArg scaled (hx _))) fun n d => (h1 n d).trans (hy _)
  have hrow : ∀ (ch : Fin 2) (r : Fin 128), acc x0 x1 x2 ch.val ⟨r.val, by omega⟩ l (q.val + 1)
      = ((∑ z : Fin 16384, if z.val ≤ q.val then (fun z => W (ix4 b z h r)) z * Real.exp (sc Q K b h q ch z) else 0 : ℝ) : EReal) := fun ch r =>
    acc_coe ch.val _ l q.val q.isLt (fun z => W (ix4 b z h r)) (sc Q K b h q ch) (fun z => (h2 _ z).trans ((dif_pos r.isLt).trans (hv _))) (hw ch)
  have hone : ∀ ch : Fin 2, acc x0 x1 x2 ch.val 128 l (q.val + 1) = ((total q.val (sc Q K b h q ch) : ℝ) : EReal) := fun ch =>
    (acc_coe ch.val 128 l q.val q.isLt (fun _ => 1) (sc Q K b h q ch) (fun z => (h2 _ z).trans (dif_neg (by decide))) (hw ch)).trans
      (congrArg _ (ones_row q _))
  have ho : (fun r : Fin 128 => Ideal.div (acc x0 x1 x2 0 ⟨r.val, by omega⟩ l (512 * (i 2).val + (l.val + 1))) (acc x0 x1 x2 0 128 l (512 * (i 2).val + (l.val + 1)))
      - lam (fun t => x3 (ix2 0 t)) (fun t => x4 (ix2 0 t)) (fun t => x5 (ix2 0 t)) (fun t => x6 (ix2 0 t))
        * Ideal.div (acc x0 x1 x2 1 ⟨r.val, by omega⟩ l (512 * (i 2).val + (l.val + 1))) (acc x0 x1 x2 1 128 l (512 * (i 2).val + (l.val + 1))))
      = fun r => mixed (probs (weights (scores x y))) (coef a₁ b₁ a₂ b₂) v (ix4 b q h r) := by
    rw [hi, hlam]
    funext r
    rw [mixed_apply, hcoef]
    refine (congrArg₂ (· - ·) (congrArg₂ Ideal.div (hrow 0 r) (hone 0)) (congrArg ((L : EReal) * ·) (congrArg₂ Ideal.div (hrow 1 r) (hone 1)))).trans ?_
    refine (difference q.val q.isLt _ _ _ L).trans (Finset.sum_congr rfl fun z _ => ?_)
    rw [probs_coe b h q Q K x y hx hy, probs_coe b h q Q K x y hx hy, hv]
  unfold blk closed
  dsimp only
  rw [ho, h7]
  rfl
end
end Cert.Soft
-- ==== Proof.Final.lean ====
/- The kernel's whole result: each grid point's block is the reference's result there, and the blocks tile the array. -/
module

public import proofs.«01_k».proof.Proof.Join

@[expose] public section
set_option maxRecDepth 16384
noncomputable section
open Idealize.ShloMosaic Idealize.ShloMosaic.TcCoe Idealize.SL.Sem
namespace Cert.KernelIdeal.DA
open Cert.KernelIdeal Cert.KernelIdeal.Gen
variable (m : (o : Loc nD τ sig) → Buf (Elt Ideal) o) (c : Dev nD)

/-- What a grid point leaves in the result's block. -/
theorem left_apply (t : Fin cfg0.N) (r : Fin 128) (l : Fin 512) : outsAt0 m c t.val t.isLt (ix3 0 r l)
    = blk (grid0.coords t) (iblk m c 0 t) (iblk m c 1 t) (iblk m c 2 t) (iblk m c 3 t) (iblk m c 4 t) (iblk m c 5 t) (iblk m c 6 t) (iblk m c 7 t) r l := by
  by_cases h0 : t.val % 8 = 4 ∨ t.val % 8 = 5 ∨ t.val % 8 = 6 ∨ t.val % 8 = 7 <;>
  by_cases h1 : t.val % 4 = 2 ∨ t.val % 4 = 3 <;>
  by_cases h2 : t.val % 2 = 1
  · exact (congrFun (outsAt0_H m c t h0 h1 h2) _).trans (out_H _ _ _ _ _ _ _ _ _ _ _ _ _ _ _ _ _ _ _ _ _ _ _ _ _ _ _ _ _ _ _ _ ((hcond0_0 t).mpr h0) ((hcond0_1 t).mpr h1) ((hcond0_2 t).mpr h2) r l)
  · exact (congrFun (outsAt0_G m c t h0 h1 h2) _).trans (out_G _ _ _ _ _ _ _ _ _ _ _ _ _ _ _ _ _ _ _ _ _ _ _ _ _ _ _ _ _ _ _ _ ((hcond0_0 t).mpr h0) ((hcond0_1 t).mpr h1) (fun h => h2 ((hcond0_2 t).mp h)) r l)
  · exact (congrFun (outsAt0_F m c t h0 h1 h2) _).trans (out_F _ _ _ _ _ _ _ _ _ _ _ _ _ _ _ _ _ _ _ _ _ _ _ _ _ _ _ _ _ _ _ _ ((hcond0_0 t).mpr h0) (fun h => h1 ((hcond0_1 t).mp h)) ((hcond0_2 t).mpr h2) r l)
  · exact (congrFun (outsAt0_E m c t h0 h1 h2) _).trans (out_E _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) r l)
  · exact (congrFun (outsAt0_D m c t h0 h1 h2) _).trans (out_D _ _ _ _ _ _ _ _ _ _ _ _ _ _ _ _ _ _ _ _ _ _ _ _ _ _ _ _ _ _ _ _ (fun h => h0 ((hcond0_0 t).mp h)) ((hcond0_1 t).mpr h1) ((hcond0_2 t).mpr h2) r l)
  · exact (congrFun (outsAt0_C m c t h0 h1 h2) _).trans (out_C _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) r l)
  · exact (congrFun (outsAt0_B m c t h0 h1 h2) _).trans (out_B _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) r l)
  · exact (congrFun (outsAt0_A m c t h0 h1 h2) _).trans (out_A _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) r l)

/-- The reference's result of the kernel's arguments. -/
def result : FVec Ideal Cert.ReferenceIdeal.S2x512x16384 .f32 :=
  Cert.ReferenceIdeal.DA.closing (Cert.ReferenceIdeal.DA.mixed (Cert.ReferenceIdeal.DA.probs (Cert.ReferenceIdeal.DA.weights
      (Cert.ReferenceIdeal.DA.scores (m ((c : Thread nD τ).loc main_arg0)) (m ((c : Thread nD τ).loc main_arg1)))))
    (Cert.ReferenceIdeal.DA.coef (m ((c : Thread nD τ).loc main_arg3)) (m ((c : Thread nD τ).loc main_arg4)) (m ((c : Thread nD τ).loc main_arg5)) (m ((c : Thread nD τ).loc main_arg6)))
    (m ((c : Thread nD τ).loc main_arg2))) (m ((c : Thread nD τ).loc main_arg7))

/-- Every entry of an array is a real number. -/
def IsReal {s : Shape} (x : s.Idx → EReal) : Prop := ∃ y : s.Idx → ℝ, ∀ i, x i = (y i : EReal)

section
variable (r0 : IsReal (s := S2x16384x4x2x64) (m ((c : Thread nD τ).loc main_arg0))) (r1 : IsReal (s := S2x16384x4x2x64) (m ((c : Thread nD τ).loc main_arg1)))
  (r2 : IsReal (s := S2x16384x4x128) (m ((c : Thread nD τ).loc main_arg2)))
  (r3 : IsReal (s := S64) (m ((c : Thread nD τ).loc main_arg3))) (r4 : IsReal (s := S64) (m ((c : Thread nD τ).loc main_arg4)))
  (r5 : IsReal (s := S64) (m ((c : Thread nD τ).loc main_arg5))) (r6 : IsReal (s := S64) (m ((c : Thread nD τ).loc main_arg6)))
include r0 r1 r2 r3 r4 r5 r6

theorem left_eq (t : Fin cfg0.N) (r : Fin 128) (l : Fin 512) : outsAt0 m c t.val t.isLt (ix3 0 r l)
    = result m c (ix3 (tb t) ⟨(th t).val * 128 + r.val, by omega⟩ ⟨(tz t).val * 512 + l.val, by omega⟩) := by
  obtain ⟨Q, hQ⟩ := r0
  obtain ⟨K, hK⟩ := r1
  obtain ⟨W, hW⟩ := r2
  obtain ⟨A₁, hA₁⟩ := r3
  obtain ⟨B₁, hB₁⟩ := r4
  obtain ⟨A₂, hA₂⟩ := r5
  obtain ⟨B₂, hB₂⟩ := r6
  refine (left_apply m c t r l).trans ?_
  refine (Cert.Soft.blk_value (tb t) (th t) ⟨(tz t).val * 512 + l.val, by omega⟩ Q K W (grid0.coords t) _ _ _ _ _ _ _ _ r l (by rw [coord2]; show 512 * (tz t).val + (l.val + 1) = (tz t).val * 512 + l.val + 1; omega)
    _ _ _ _ _ _ _ _ A₁ B₁ A₂ B₂ hQ hK hW hA₁ hB₁ hA₂ hB₂ (fun d => blk0_apply m c t d l) (blk1_apply m c t) (blk2_apply m c t)
    (blk3_apply m c t) (blk4_apply m c t) (blk5_apply m c t) (blk6_apply m c t) (blk7_apply m c t r)).trans ?_
  have e0 : (⟨((th t).val * 128 + r.val) / 128, by omega⟩ : Fin 4) = th t := Fin.ext (by show ((th t).val * 128 + r.val) / 128 = (th t).val; omega)
  have e1 : (⟨((th t).val * 128 + r.val) % 128, by omega⟩ : Fin 128) = r := Fin.ext (by show ((th t).val * 128 + r.val) % 128 = r.val; omega)
  unfold result
  rw [Cert.ReferenceIdeal.DA.closing_apply]
  dsimp only
  rw [e0, e1]

theorem array_eq : (dats m 0 c).arrAt 8 cfg0.N = (result m c : Vec Ideal S2x512x16384 .f32) := by
  refine (dats m 0 c).arrAt_eq_of_covers 8 _ (by decide +kernel) fun t hf y => ?_
  have hy : (y : S1x128x512.Idx) = ix3 0 (y 1) (y 2) := funext fun a => by
    match a with
    | ⟨0, _⟩ => exact Subsingleton.elim (α := Fin 1) _ _
    | ⟨1, _⟩ => rfl
    | ⟨2, _⟩ => rfl
  blk_simp
  rw [after0_8]
  refine (congrArg (outsAt0 m c t.val t.isLt) hy).trans ((left_eq m c r0 r1 r2 r3 r4 r5 r6 t (y 1) (y 2)).trans (congrArg (result m c) ?_))
  exact (emb8 t (y 1) (y 2)).symm.trans (congrArg ((win0_8.blk t).view.emb) hy.symm)
end
end Cert.KernelIdeal.DA
-- ==== Proof.Claims.lean ====
/- The claims of the differential attention: what the precondition says, and each claim. -/
module

public import proofs.«01_k».proof.Defs
public import proofs.«01_k».proof.Proof.Gen.Kernel.Frame
public import proofs.«01_k».proof.Proof.Final
public import Idealize.ShloMosaic.Lib.Quiescent
public import Idealize.ShloMosaic.Lib.ReduceAll
public import Idealize.ShloMosaic.Lib.Affine

@[expose] public section
set_option maxRecDepth 16384
noncomputable section
open Idealize.ShloMosaic Idealize.SL.Sem
namespace Cert.Attention
open Cert.KernelIdeal.DA (IsReal)

theorem pre_facts : Cert.Pre_finite.Facts where
  bcast_S_S2x16384x4x2x64 := by decide
  reducesTo_S2x16384x4x2x64_S_d0_1_2_3_4 := by decide
  h_S_ := by decide
  bcast_S_S2x16384x4x128 := by decide
  reducesTo_S2x16384x4x128_S_d0_1_2_3 := by decide
  bcast_S_S64 := by decide
  reducesTo_S64_S_d0 := by decide

theorem bits_top : Ideal.ofBits .f32 0x7F800000#32 = (⊤ : EReal) := by
  simp [Ideal.ofBits, Ideal.ieee]

/-- A value whose magnitude compares below `+∞` is a real number. -/
theorem real_of_lt (x : EReal) (h : Ideal.cmp .olt (max x (-x)) (Ideal.ofBits .f32 0x7F800000#32) = 1#1) : x = ((x.toReal : ℝ) : EReal) := by
  rw [bits_top] at h
  have hlt : max x (-x) < ⊤ := by
    by_contra hn
    simp [Ideal.cmp, hn] at h
  rw [max_lt_iff] at hlt
  refine (EReal.coe_toReal hlt.1.ne fun hb => ?_).symm
  rw [hb] at hlt
  exact absurd hlt.2 (by simp)

/-- One conjunct of the precondition says that an array holds real numbers. -/
theorem real_of_all {s u : Shape} [Subsingleton u.Idx] {axes : List (Fin s.rank)} (x : FVec Ideal s .f32) (t : FVec Ideal s .f32) (ht : ∀ i, t i = Ideal.ofBits .f32 0x7F800000#32)
    (init : u.Idx → BitVec 1) (hr : s.ReducesTo axes u) (hu : 0 < u.numel) (j : u.Idx)
    (e : Host.reduce IntOp.andi (cmpf .olt (Host.absf x) t) init hr hu j = 1#1) : IsReal x := by
  refine ⟨fun i => (x i : EReal).toReal, fun i => real_of_lt (x i) ?_⟩
  have h := Host.reduce_andi_all _ init hr hu j e i
  rw [← ht i]
  exact h

theorem and_both {s : Shape} {a b : IVec s 1} {j : s.Idx} (h : andi a b j = 1#1) : a j = 1#1 ∧ b j = 1#1 := IntOp.andi_eq_one.mp h

theorem reals [hP : Cert.Pre_finite.Facts] (x0 x1 : FVec Ideal Cert.Pre_finite.S2x16384x4x2x64 .f32) (x2 : FVec Ideal Cert.Pre_finite.S2x16384x4x128 .f32)
    (x3 x4 x5 x6 : FVec Ideal Cert.Pre_finite.S64 .f32) (x7 : FVec Ideal Cert.Pre_finite.S128 .f32) (h : Cert.Pre_finite.fn x0 x1 x2 x3 x4 x5 x6 x7 = fun _ => 1#1) :
    IsReal x0 ∧ IsReal x1 ∧ IsReal x2 ∧ IsReal x3 ∧ IsReal x4 ∧ IsReal x5 ∧ IsReal x6 := by
  haveI : Subsingleton Cert.Pre_finite.S_.Idx := ⟨fun a b => funext fun k => k.elim0⟩
  have h0 := congrFun h ix0
  unfold Cert.Pre_finite.fn Cert.Pre_finite.fn_part1 at h0
  dsimp only at h0
  obtain ⟨h0, e6⟩ := and_both h0
  obtain ⟨h0, e5⟩ := and_both h0
  obtain ⟨h0, e4⟩ := and_both h0
  obtain ⟨h0, e3⟩ := and_both h0
  obtain ⟨h0, e2⟩ := and_both h0
  obtain ⟨e0, e1⟩ := and_both h0
  exact ⟨real_of_all x0 _ (fun _ => rfl) _ _ _ _ e0, real_of_all x1 _ (fun _ => rfl) _ _ _ _ e1, real_of_all x2 _ (fun _ => rfl) _ _ _ _ e2,
    real_of_all x3 _ (fun _ => rfl) _ _ _ _ e3, real_of_all x4 _ (fun _ => rfl) _ _ _ _ e4, real_of_all x5 _ (fun _ => rfl) _ _ _ _ e5, real_of_all x6 _ (fun _ => rfl) _ _ _ _ e6⟩

instance : Cert.Pre_finite.Facts := pre_facts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The mask's constant is named, and stands for `-∞`. -/
theorem preserves : Cert.preserves_Kernel_KernelIdeal := IdealRules.named_const.statement Cert.KernelIdeal.κ "mask" .f32 0xF149F2CA#32 ⊥ rfl

/-- The two programs' results are one array. -/
theorem algebraic : Cert.algebraic_KernelIdeal_ReferenceIdeal_pre_finite := by
  intro m ρ m' ρ' hpre hagree
  refine ⟨fun c => Cert.KernelIdeal.DA.result m c, ?_, ?_⟩
  · refine (θ_run Cert.KernelIdeal.defs _ _).mono (fun _ h c => ⟨(h c).1.trans ?_, (h c).2⟩) (Cert.KernelIdeal.Value.run_blocks (F := Ideal) m ρ)
    obtain ⟨r0, r1, r2, r3, r4, r5, r6⟩ := reals _ _ _ _ _ _ _ _ (hpre c)
    exact Cert.KernelIdeal.DA.array_eq m c r0 r1 r2 r3 r4 r5 r6
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7⟩ := hagree c
    rw [Cert.ReferenceIdeal.DA.res_eq, e0, e1, e2, e3, e4, e5, e6, e7]
    rfl
end Cert.Attention
-- ==== Proof.Parts.lean ====
/- What the projections share: a row's norm and modulation, a sum in two halves, a buffer read back whole. -/
module

public import Idealize.ShloMosaic.Lib.Pipeline.Value
public import Idealize.ShloMosaic.Lib.Pipeline.ValueKit
public import Idealize.ShloMosaic.Lib.Pointwise
public import Idealize.ShloMosaic.Lib.Claim

@[expose] public section
noncomputable section
open Idealize.ShloMosaic Idealize.SL.Sem
namespace Cert.Parts

/-- Entry `k` of the row `X`, normed by its mean square, scaled by `1 + s` and shifted by `b`. -/
def modRow (X : Fin 1024 → EReal) (s b : EReal) (k : Fin 1024) : EReal :=
  X k * Ideal.rsqrt (Ideal.div (∑ j, X j * X j) (Ideal.ofBits .f32 0x44800000#32) + Ideal.ofBits .f32 0x358637BD#32)
    * (Ideal.ofBits .f32 0x3F800000#32 + s) + b

/-- A sum over 1024 entries is the sum of its two halves. -/
theorem halves (f : Fin 1024 → EReal) : ∑ k, f k = (∑ t : Fin 512, f ⟨t.val, by omega⟩) + ∑ t : Fin 512, f ⟨512 + t.val, by omega⟩ :=
  Fin.sum_univ_add (a := 512) (b := 512) f

theorem zero3 : (![0, 0, 0] : Fin 3 → Nat) = fun _ => 0 := by decide
theorem zero2 : (![0, 0] : Fin 2 → Nat) = fun _ => 0 := by decide

/-- A whole buffer read back is what was put in it. -/
theorem back {sig : RefSig} {s : Shape} {e : EltTy} {b : Memref sig .tc .vmem s e} (hb : b.IsWhole) {o : Fin s.rank → Nat} (ho : o = fun _ => 0) (inb) (x : s.Idx → Elt Ideal e) :
    b.view.readAt (Elt Ideal) (Rect.unit (s := s) o s.size inb).toLoadRect (hb.unread x) = x := by
  rw [View.readAt_eq_ld, hb.read_unread]
  exact View.ld_unit_zero ho inb x

/-- Over the reals a narrowing cast changes nothing. -/
theorem narrow {s : Shape} (x : FVec Ideal s .f32) (h) (j : s.Idx) : truncf .bf16 x h j = x j := rfl

end Cert.Parts
-- ==== Proof.InEven.lean ====
/- The even layers' in projection: each grid point's block is the reference's result there, and the blocks tile the array. -/
module

public import proofs.«01_k».proof.Defs
public import proofs.«01_k».proof.Proof.Parts
public import proofs.«01_k».proof.Proof.Gen.Kernel2.Frame
public import proofs.«01_k».proof.Proof.Gen.Kernel2Ideal.Value
public import proofs.«01_k».proof.Proof.Gen.Reference2Ideal.Run
public import Idealize.ShloMosaic.Lib.Routing.OpsSet
public import Idealize.ShloMosaic.Lib.Routing.OpsPair
public import Idealize.ShloMosaic.Lib.WritesUnit
public import Idealize.ShloMosaic.Lib.Quiescent

@[expose] public section
set_option maxRecDepth 16384
noncomputable section
open Idealize.ShloMosaic Idealize.ShloMosaic.TcCoe Idealize.SL.Sem

namespace Cert.Reference2Ideal.Proj
open Cert.Reference2Ideal Cert.Reference2Ideal.Gen
open Cert.Parts (modRow)

/-- The mean square of each row, the modulated norm, and its product with the weights. -/
def meansq (x : FVec Ideal S2x16384x1024 .f32) : FVec Ideal S2x16384x1 .f32 :=
  Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))
def modulated (x : FVec Ideal S2x16384x1024 .f32) (s b : FVec Ideal S2x1024 .f32) : FVec Ideal S2x16384x1024 .f32 :=
  addf (mulf (mulf x (broadcastInDim S2x16384x1024 ![0, 1, 2] bcast_S2x16384x1_S2x16384x1024_0_1_2 (Host.rsqrt (addf (meansq x) (broadcastInDim S2x16384x1 ![] bcast_S_S2x16384x1 (constant S_ .f32 0x358637BD#32)))))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 s)))) (broadcastInDim S2x16384x1024 ![0, 1, 2] bcast_S2x1x1024_S2x16384x1024_0_1_2 (broadcastInDim S2x1x1024 ![0, 2] bcast_S2x1024_S2x1x1024_0_2 b))
def res (x : FVec Ideal S2x16384x1024 .f32) (s b : FVec Ideal S2x1024 .f32) (w : FVec Ideal S1024x3368 .f32) : FVec Ideal S2x16384x3456 .f32 :=
  concatenate S2x16384x3456 2 [⟨S2x16384x3368, (Host.dotGeneral dot_S2x16384x1024_S1024x3368_S2x16384x3368_2_0_01_1_n_n none (modulated x s b) w)⟩, ⟨S2x16384x88, (broadcastInDim S2x16384x88 ![] bcast_S_S2x16384x88 (constant S_ .f32 0x00000000#32))⟩] concatenates_S2x16384x3368_S2x16384x88_S2x16384x3456_d2

theorem meansq_apply (x : FVec Ideal S2x16384x1024 .f32) (i : Fin 2) (q : Fin 16384) :
    meansq x (ix3 i q 0) = Ideal.div (∑ j : Fin 1024, (x (ix3 i q j) : EReal) * (x (ix3 i q j) : EReal)) (Ideal.ofBits .f32 0x44800000#32) := by
  pointwise [meansq]
theorem modulated_apply (x : FVec Ideal S2x16384x1024 .f32) (s b : FVec Ideal S2x1024 .f32) (i : Fin 2) (q : Fin 16384) (k : Fin 1024) :
    modulated x s b (ix3 i q k) = modRow (fun j => x (ix3 i q j)) (s (ix2 i k)) (b (ix2 i k)) k := by
  unfold modRow
  rw [← meansq_apply]
  pointwise [modulated]

/-- The weights with zero columns after them. -/
def wide (w : FVec Ideal S1024x3368 .f32) (k : Fin 1024) (n : Fin 3456) : EReal := if h : n.val < 3368 then w (ix2 k ⟨n.val, h⟩) else 0

theorem res_lo (x : FVec Ideal S2x16384x1024 .f32) (s b : FVec Ideal S2x1024 .f32) (w : FVec Ideal S1024x3368 .f32) (i : Fin 2) (q : Fin 16384) (n : Fin 3368) :
    res x s b w (ix3 i q ⟨n.val, by omega⟩) = ∑ k : Fin 1024, (modulated x s b (ix3 i q k) : EReal) * (w (ix2 k n) : EReal) := by
  pointwise [res]
theorem res_hi (x : FVec Ideal S2x16384x1024 .f32) (s b : FVec Ideal S2x1024 .f32) (w : FVec Ideal S1024x3368 .f32) (i : Fin 2) (q : Fin 16384) (n : Fin 88) :
    res x s b w (ix3 i q ⟨3368 + n.val, by omega⟩) = (0 : EReal) := by
  pointwise [res]
theorem res_apply (x : FVec Ideal S2x16384x1024 .f32) (s b : FVec Ideal S2x1024 .f32) (w : FVec Ideal S1024x3368 .f32) (i : Fin 2) (q : Fin 16384) (n : Fin 3456) :
    res x s b w (ix3 i q n) = ∑ k : Fin 1024, modRow (fun j => x (ix3 i q j)) (s (ix2 i k)) (b (ix2 i k)) k * wide w k n := by
  by_cases h : n.val < 3368
  · refine (res_lo x s b w i q ⟨n.val, h⟩).trans (Finset.sum_congr rfl fun k _ => ?_)
    rw [modulated_apply, wide, dif_pos h]
  · have e := res_hi x s b w i q ⟨n.val - 3368, by omega⟩
    have hn : (⟨3368 + (n.val - 3368), by omega⟩ : Fin 3456) = n := Fin.ext (by show 3368 + (n.val - 3368) = n.val; omega)
    dsimp only at e
    rw [hn] at e
    refine e.trans (Finset.sum_eq_zero fun k _ => ?_).symm
    rw [wide, dif_neg h, mul_zero]
end Cert.Reference2Ideal.Proj

namespace Cert.Kernel2Ideal.Proj
open Cert.Kernel2Ideal Cert.Kernel2Ideal.Gen
open Cert.Parts (modRow zero2 zero3 back narrow)
variable (m : (o : Loc nD τ sig) → Buf (Elt Ideal) o) (c : Dev nD)

/-! ## What the body writes -/

theorem pay1_apply (v10 : Vec Ideal S1x512x1024 .f32) (v12 v14 : Vec Ideal S1x1x1024 .f32) (l : Fin 512) (k : Fin 1024) :
    k0_pay1 v10 v12 v14 (ix2 l k) = modRow (fun j => v10 (ix3 0 l j)) (v12 (ix3 0 0 k)) (v14 (ix3 0 0 k)) k := by
  unfold modRow
  pointwise [k0_pay1]
theorem pay2_apply (v3 : Vec Ideal S512x1024 .bf16) (v4 : Vec Ideal S1024x3456 .bf16) (l : Fin 512) (n : Fin 3456) :
    k0_pay2 v3 v4 (ix3 0 l n) = ∑ k : Fin 1024, (v3 (ix2 l k) : EReal) * (v4 (ix2 k n) : EReal) := by
  pointwise [k0_pay2]

section
variable (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole)
  (arg6 : Memref sig .tc .vmem S1024x3456 .bf16) (harg6 : arg6.IsWhole) (arg7 : Memref sig .tc .vmem S1x512x3456 .f32) (harg7 : arg7.IsWhole) (arg8 : Memref sig .tc .vmem S512x1024 .bf16) (harg8 : arg8.IsWhole) (hc0 : cond0_0 i)
  (x0 : Vec Ideal S1x512x1024 .f32) (x1 x2 : Vec Ideal S1x1x1024 .f32) (x3 : Vec Ideal S1024x3456 .bf16)
theorem out_eq : out0_A_4 c i arg3 harg3 arg4 harg4 arg5 harg5 arg6 harg6 arg7 harg7 arg8 harg8 hc0 x0 x1 x2 x3 = k0_pay2 (k0_pay1 x0 x1 x2) x3 := by
  unfold out0_A_4
  rw [View.read_writes_junk_eq_canon]
  unfold kernelRun0_A
  dsimp only
  sl_unfold_run_names
  rw [View.canon_cons_unit_zero zero3]
  rw [View.readCov_cons_toLoadRect, back harg3 zero3, back harg4 zero3, back harg5 zero3, back harg6 zero2]
end

theorem out_apply (i : grid0.Coords) (x0 : Vec Ideal S1x512x1024 .f32) (x1 x2 : Vec Ideal S1x1x1024 .f32) (x3 : Vec Ideal S1024x3456 .bf16) (l : Fin 512) (n : Fin 3456) :
    k0_pay2 (k0_pay1 x0 x1 x2) x3 (ix3 0 l n) = ∑ k : Fin 1024, modRow (fun j => x0 (ix3 0 l j)) (x1 (ix3 0 0 k)) (x2 (ix3 0 0 k)) k * (x3 (ix2 k n) : EReal) := by
  refine (pay2_apply _ _ l n).trans (Finset.sum_congr rfl fun k _ => ?_)
  rw [pay1_apply]

/-! ## The host's arrays and the blocks -/

theorem v0_apply (b : Fin 2) (n : Fin 1024) : (V m c main_v0 : Vec Ideal S2x1x1024 .f32) (ix3 b 0 n) = m ((c : Thread nD τ).loc main_arg1) (ix2 b n) := by
  entry_read
  pointwise
theorem v1_apply (b : Fin 2) (n : Fin 1024) : (V m c main_v1 : Vec Ideal S2x1x1024 .f32) (ix3 b 0 n) = m ((c : Thread nD τ).loc main_arg2) (ix2 b n) := by
  entry_read
  pointwise
theorem a0_eq : V m c main_arg0 = m ((c : Thread nD τ).loc main_arg0) := by
  entry_read
  rfl

/-- Where an entry of the narrower weights lands. -/
theorem lands (idx : IVec S1 32) (hidx : ∀ j, idx j = 0#32) (k' : Fin 1024) (n' : Fin 3368) (k : Fin 1024) (n : Fin 3456) :
    scatter_S1024x3456_S1_S1024x3368_01_n_1_0.resultIdx? (ix2 k' n') idx = some (ix2 k n) ↔ k'.val = k.val ∧ n'.val = n.val := by
  have s0 : scatter_S1024x3456_S1_S1024x3368_01_n_1_0.start (ix2 k' n') idx 0 = 0 := by
    unfold ScatterDims.start
    rw [dif_neg (by decide)]
  have s1 : scatter_S1024x3456_S1_S1024x3368_01_n_1_0.start (ix2 k' n') idx 1 = 0 := by
    unfold ScatterDims.start
    rw [dif_pos (by decide), hidx]
    rfl
  have w0 : scatter_S1024x3456_S1_S1024x3368_01_n_1_0.window (ix2 k' n') 0 = k'.val := rfl
  have w1 : scatter_S1024x3456_S1_S1024x3368_01_n_1_0.window (ix2 k' n') 1 = n'.val := rfl
  rw [Routing.resultIdx?_eq_some]
  constructor
  · intro h
    have h0 : scatter_S1024x3456_S1_S1024x3368_01_n_1_0.start (ix2 k' n') idx 0 + (scatter_S1024x3456_S1_S1024x3368_01_n_1_0.window (ix2 k' n') 0 : Int) = (k.val : Int) := h 0
    have h1 : scatter_S1024x3456_S1_S1024x3368_01_n_1_0.start (ix2 k' n') idx 1 + (scatter_S1024x3456_S1_S1024x3368_01_n_1_0.window (ix2 k' n') 1 : Int) = (n.val : Int) := h 1
    rw [s0, w0] at h0
    rw [s1, w1] at h1
    omega
  · rintro ⟨h0, h1⟩ a
    match a with
    | ⟨0, _⟩ => exact (congrArg₂ (fun (a : Int) (b : Nat) => a + (b : Int)) s0 w0).trans (by show (0 : Int) + k'.val = k.val; omega)
    | ⟨1, _⟩ => exact (congrArg₂ (fun (a : Int) (b : Nat) => a + (b : Int)) s1 w1).trans (by show (0 : Int) + n'.val = n.val; omega)

theorem padded (z : FVec Ideal S1024x3456 .f32) (hz : ∀ j, z j = (0 : EReal)) (idx : IVec S1 32) (hidx : ∀ j, idx j = 0#32) (w : FVec Ideal S1024x3368 .f32) (k : Fin 1024) (n : Fin 3456) :
    Host.scatter scatter_S1024x3456_S1_S1024x3368_01_n_1_0 (fun _ b => b) z idx w (ix2 k n) = Cert.Reference2Ideal.Proj.wide w k n := by
  have hs : ∀ j : S1024x3368.Idx, j = ix2 (j 0) (j 1) := fun j => funext fun a => by
    match a with
    | ⟨0, _⟩ => rfl
    | ⟨1, _⟩ => rfl
  unfold Cert.Reference2Ideal.Proj.wide
  by_cases h : n.val < 3368
  · rw [dif_pos h]
    refine Routing.scatter_set_hit _ z idx w (ix2 k n) (w (ix2 k ⟨n.val, h⟩)) (fun j hj => ?_) (ix2 k ⟨n.val, h⟩) ((lands idx hidx k ⟨n.val, h⟩ k n).mpr ⟨rfl, rfl⟩)
    rw [hs j] at hj ⊢
    obtain ⟨h0, h1⟩ := (lands idx hidx (j 0) (j 1) k n).mp hj
    exact congrArg w (congrArg₂ ix2 (Fin.ext h0) (Fin.ext h1))
  · rw [dif_neg h]
    refine (Routing.scatter_set_miss _ z idx w (ix2 k n) (fun j hj => ?_)).trans (hz _)
    rw [hs j] at hj
    obtain ⟨_, h1⟩ := (lands idx hidx (j 0) (j 1) k n).mp hj
    have h2 : (j 1).val < 3368 := (j 1).isLt
    omega

/-- The host's array of zeros. -/
def zeros : FVec Ideal S1024x3456 .f32 := broadcastInDim S1024x3456 ![] bcast_S_S1024x3456 (constant S_ .f32 0x00000000#32)
theorem zeros_apply (j : S1024x3456.Idx) : zeros j = (0 : EReal) :=
  show Ideal.ofBits .f32 0x00000000#32 = 0 by simp [Ideal.ofBits, Ideal.ieee]

theorem v5_apply (k : Fin 1024) (n : Fin 3456) : (V m c main_v5 : Vec Ideal S1024x3456 .bf16) (ix2 k n) = Cert.Reference2Ideal.Proj.wide (m ((c : Thread nD τ).loc main_arg3)) k n := by
  entry_read
  rw [narrow]
  exact padded zeros zeros_apply _ (fun _ => rfl) _ k n

/-- The two coordinates of a grid point. -/
def tb (t : Fin cfg0.N) : Fin 2 := ⟨t.val / 32, by have := lt_of_lt_of_eq t.isLt (show cfg0.N = 64 from N_0); omega⟩
def ti (t : Fin cfg0.N) : Fin 32 := ⟨t.val % 32, by omega⟩
/-- The row of the whole array at row `l` of a grid point's tile. -/
def row (t : Fin cfg0.N) (l : Fin 512) : Fin 16384 := ⟨(ti t).val * 512 + l.val, by omega⟩

theorem index0 (t : Fin cfg0.N) : win0_0.index t 0 = (tb t).val ∧ win0_0.index t 1 = (ti t).val ∧ win0_0.index t 2 = 0 :=
  (by decide +kernel : ∀ t : Fin grid0.N, win0_0.index t 0 = t.val / 32 ∧ win0_0.index t 1 = t.val % 32 ∧ win0_0.index t 2 = 0) t
theorem index1 (t : Fin cfg0.N) : win0_1.index t 0 = (tb t).val ∧ win0_1.index t 1 = 0 ∧ win0_1.index t 2 = 0 :=
  (by decide +kernel : ∀ t : Fin grid0.N, win0_1.index t 0 = t.val / 32 ∧ win0_1.index t 1 = 0 ∧ win0_1.index t 2 = 0) t
theorem index2 (t : Fin cfg0.N) : win0_2.index t 0 = (tb t).val ∧ win0_2.index t 1 = 0 ∧ win0_2.index t 2 = 0 :=
  (by decide +kernel : ∀ t : Fin grid0.N, win0_2.index t 0 = t.val / 32 ∧ win0_2.index t 1 = 0 ∧ win0_2.index t 2 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = (tb t).val ∧ win0_4.index t 1 = (ti t).val ∧ win0_4.index t 2 = 0 :=
  (by decide +kernel : ∀ t : Fin grid0.N, win0_4.index t 0 = t.val / 32 ∧ win0_4.index t 1 = t.val % 32 ∧ win0_4.index t 2 = 0) t

theorem emb0 (t : Fin cfg0.N) (l : Fin 512) (k : Fin 1024) : ((cfg0.win 0).blk t).view.emb (ix3 0 l k) = ix3 (tb t) (row t l) k := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 512 + l.val = (ti t).val * 512 + l.val; rw [h1])
  | ⟨2, _⟩ => exact (Pipeline.Window.rect_emb_val _ _ _ _).trans (by show win0_0.index t 2 * 1024 + k.val = k.val; rw [h2, Nat.zero_mul, Nat.zero_add])
theorem emb1 (t : Fin cfg0.N) (k : Fin 1024) : ((cfg0.win 1).blk t).view.emb (ix3 0 0 k) = ix3 (tb t) 0 k := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 1 + 0 = 0; rw [h1])
  | ⟨2, _⟩ => exact (Pipeline.Window.rect_emb_val _ _ _ _).trans (by show win0_1.index t 2 * 1024 + k.val = k.val; rw [h2, Nat.zero_mul, Nat.zero_add])
theorem emb2 (t : Fin cfg0.N) (k : Fin 1024) : ((cfg0.win 2).blk t).view.emb (ix3 0 0 k) = ix3 (tb t) 0 k := by
  obtain ⟨h0, h1, h2⟩ := index2 t
  refine funext fun a => Fin.ext ?_
  match a with
  | ⟨0, _⟩ => exact (Pipeline.Window.rect_emb_val _ _ _ _).trans (by show win0_2.index t 0 * 1 + 0 = (tb t).val; rw [h0, Nat.mul_one, Nat.add_zero])
  | ⟨1, _⟩ => exact (Pipeline.Window.rect_emb_val _ _ _ _).trans (by show win0_2.index t 1 * 1 + 0 = 0; rw [h1])
  | ⟨2, _⟩ => exact (Pipeline.Window.rect_emb_val _ _ _ _).trans (by show win0_2.index t 2 * 1024 + k.val = k.val; rw [h2, Nat.zero_mul, Nat.zero_add])
theorem emb3 (t : Fin cfg0.N) (k : Fin 1024) (n : Fin 3456) : ((cfg0.win 3).blk t).view.emb (ix2 k n) = ix2 k n := by
  obtain ⟨h0, h1⟩ := index3 t
  refine funext fun a => Fin.ext ?_
  match a with
  | ⟨0, _⟩ => exact (Pipeline.Window.rect_emb_val _ _ _ _).trans (by show win0_3.index t 0 * 1024 + k.val = k.val; rw [h0, Nat.zero_mul, Nat.zero_add])
  | ⟨1, _⟩ => exact (Pipeline.Window.rect_emb_val _ _ _ _).trans (by show win0_3.index t 1 * 3456 + n.val = n.val; rw [h1, Nat.zero_mul, Nat.zero_add])
theorem emb4 (t : Fin cfg0.N) (l : Fin 512) (n : Fin 3456) : ((cfg0.win 4).blk t).view.emb (ix3 0 l n) = ix3 (tb t) (row t l) n := by
  obtain ⟨h0, h1, h2⟩ := index4 t
  refine funext fun a => Fin.ext ?_
  match a with
  | ⟨0, _⟩ => exact (Pipeline.Window.rect_emb_val _ _ _ _).trans (by show win0_4.index t 0 * 1 + 0 = (tb t).val; rw [h0, Nat.mul_one, Nat.add_zero])
  | ⟨1, _⟩ => exact (Pipeline.Window.rect_emb_val _ _ _ _).trans (by show win0_4.index t 1 * 512 + l.val = (ti t).val * 512 + l.val; rw [h1])
  | ⟨2, _⟩ => exact (Pipeline.Window.rect_emb_val _ _ _ _).trans (by show win0_4.index t 2 * 3456 + n.val = n.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_v0 (((cfg0.win 1).blk t).view.emb x) := rfl
theorem read2 (x) : ((cfg0.win 2).blk t).view.read (Elt Ideal) (X (Pipeline.arrRef spec0 2)) x = X main_v1 (((cfg0.win 2).blk t).view.emb x) := rfl
theorem read3 (x) : ((cfg0.win 3).blk t).view.read (Elt Ideal) (X (Pipeline.arrRef spec0 3)) x = X main_v5 (((cfg0.win 3).blk t).view.emb x) := rfl
end

theorem blk0_apply (t : Fin cfg0.N) (l : Fin 512) (k : Fin 1024) : (iblk m c 0 t : Vec Ideal S1x512x1024 .f32) (ix3 0 l k) = m ((c : Thread nD τ).loc main_arg0) (ix3 (tb t) (row t l) k) :=
  (read0 c (V m c) t _).trans ((congrArg (V m c main_arg0) (emb0 t l k)).trans (congrFun (a0_eq m c) _))
theorem blk1_apply (t : Fin cfg0.N) (k : Fin 1024) : (iblk m c 1 t : Vec Ideal S1x1x1024 .f32) (ix3 0 0 k) = m ((c : Thread nD τ).loc main_arg1) (ix2 (tb t) k) :=
  (read1 c (V m c) t _).trans ((congrArg (V m c main_v0) (emb1 t k)).trans (v0_apply m c (tb t) k))
theorem blk2_apply (t : Fin cfg0.N) (k : Fin 1024) : (iblk m c 2 t : Vec Ideal S1x1x1024 .f32) (ix3 0 0 k) = m ((c : Thread nD τ).loc main_arg2) (ix2 (tb t) k) :=
  (read2 c (V m c) t _).trans ((congrArg (V m c main_v1) (emb2 t k)).trans (v1_apply m c (tb t) k))
theorem blk3_apply (t : Fin cfg0.N) (k : Fin 1024) (n : Fin 3456) : (iblk m c 3 t : Vec Ideal S1024x3456 .bf16) (ix2 k n) = Cert.Reference2Ideal.Proj.wide (m ((c : Thread nD τ).loc main_arg3)) k n :=
  (read3 c (V m c) t _).trans ((congrArg (V m c main_v5) (emb3 t k n)).trans (v5_apply m c k n))

/-! ## The whole result -/

/-- The reference's result of the kernel's arguments. -/
def result : FVec Ideal Cert.Reference2Ideal.S2x16384x3456 .f32 :=
  Cert.Reference2Ideal.Proj.res (m ((c : Thread nD τ).loc main_arg0)) (m ((c : Thread nD τ).loc main_arg1)) (m ((c : Thread nD τ).loc main_arg2)) (m ((c : Thread nD τ).loc main_arg3))

theorem left_eq (t : Fin cfg0.N) (l : Fin 512) (n : Fin 3456) : outsAt0 m c t (ix3 0 l n) = result m c (ix3 (tb t) (row t l) n) := by
  unfold outsAt0
  rw [out_eq]
  refine (out_apply (grid0.coords t) _ _ _ _ l n).trans (Eq.trans ?_ (Cert.Reference2Ideal.Proj.res_apply _ _ _ _ (tb t) (row t l) n).symm)
  simp only [blk0_apply, blk1_apply, blk2_apply, blk3_apply]

theorem array_eq : (dats m 0 c).arrAt 4 cfg0.N = (result m c : Vec Ideal S2x16384x3456 .f32) := by
  refine (dats m 0 c).arrAt_eq_of_covers 4 _ (by decide +kernel) fun t hf y => ?_
  have hy : (y : S1x512x3456.Idx) = ix3 0 (y 1) (y 2) := funext fun a => by
    match a with
    | ⟨0, _⟩ => exact Subsingleton.elim (α := Fin 1) _ _
    | ⟨1, _⟩ => rfl
    | ⟨2, _⟩ => rfl
  blk_simp
  rw [after0_4]
  refine (congrArg (outsAt0 m c t) hy).trans ((left_eq m c t (y 1) (y 2)).trans (congrArg (result m c) ?_))
  exact (emb4 t (y 1) (y 2)).symm.trans (congrArg ((win0_4.blk t).view.emb) hy.symm)
end Cert.Kernel2Ideal.Proj

namespace Cert.InEven
theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem preserves : Cert.preserves_Kernel2_Kernel2Ideal := trivial

/-- The two programs' results are one array. -/
theorem algebraic : Cert.algebraic_Kernel2Ideal_Reference2Ideal := by
  intro m ρ m' ρ' hpre hagree
  refine ⟨fun c => Cert.Kernel2Ideal.Proj.result m c, ?_, ?_⟩
  · refine (θ_run Cert.Kernel2Ideal.defs _ _).mono (fun _ h c => ⟨(h c).1.trans ?_, (h c).2⟩) (Cert.Kernel2Ideal.Value.run_blocks (F := Ideal) m ρ)
    exact Cert.Kernel2Ideal.Proj.array_eq m c
  · refine (θ_run Cert.Reference2Ideal.defs _ _).mono (fun _ h c => ⟨(h c).1.trans ?_, (h c).2⟩) (Cert.Reference2Ideal.Value.run (F := Ideal) m' ρ')
    obtain ⟨e0, e1, e2, e3⟩ := hagree c
    rw [e0, e1, e2, e3]
    rfl
end Cert.InEven
-- ==== Proof.InOdd.lean ====
/- The odd layers' in projection: each grid point's block is the reference's result there, and the blocks tile the array. -/
module

public import proofs.«01_k».proof.Defs
public import proofs.«01_k».proof.Proof.Parts
public import proofs.«01_k».proof.Proof.Gen.Kernel3.Frame
public import proofs.«01_k».proof.Proof.Gen.Kernel3Ideal.Value
public import proofs.«01_k».proof.Proof.Gen.Reference3Ideal.Run
public import Idealize.ShloMosaic.Lib.Routing.OpsSet
public import Idealize.ShloMosaic.Lib.Routing.OpsPair
public import Idealize.ShloMosaic.Lib.WritesUnit
public import Idealize.ShloMosaic.Lib.Quiescent

@[expose] public section
set_option maxRecDepth 16384
noncomputable section
open Idealize.ShloMosaic Idealize.ShloMosaic.TcCoe Idealize.SL.Sem

namespace Cert.Reference3Ideal.Proj
open Cert.Reference3Ideal Cert.Reference3Ideal.Gen
open Cert.Parts (modRow)

/-- The mean square of each row, the modulated norm, and its product with the weights. -/
def meansq (x : FVec Ideal S2x16384x1024 .f32) : FVec Ideal S2x16384x1 .f32 :=
  Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))
def modulated (x : FVec Ideal S2x16384x1024 .f32) (s b : FVec Ideal S2x1024 .f32) : FVec Ideal S2x16384x1024 .f32 :=
  addf (mulf (mulf x (broadcastInDim S2x16384x1024 ![0, 1, 2] bcast_S2x16384x1_S2x16384x1024_0_1_2 (Host.rsqrt (addf (meansq x) (broadcastInDim S2x16384x1 ![] bcast_S_S2x16384x1 (constant S_ .f32 0x358637BD#32)))))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 s)))) (broadcastInDim S2x16384x1024 ![0, 1, 2] bcast_S2x1x1024_S2x16384x1024_0_1_2 (broadcastInDim S2x1x1024 ![0, 2] bcast_S2x1024_S2x1x1024_0_2 b))
def res (x : FVec Ideal S2x16384x1024 .f32) (s b : FVec Ideal S2x1024 .f32) (w : FVec Ideal S1024x2048 .f32) : FVec Ideal S2x16384x2048 .f32 :=
  Host.dotGeneral dot_S2x16384x1024_S1024x2048_S2x16384x2048_2_0_01_1_n_n none (modulated x s b) w

theorem meansq_apply (x : FVec Ideal S2x16384x1024 .f32) (i : Fin 2) (q : Fin 16384) :
    meansq x (ix3 i q 0) = Ideal.div (∑ j : Fin 1024, (x (ix3 i q j) : EReal) * (x (ix3 i q j) : EReal)) (Ideal.ofBits .f32 0x44800000#32) := by
  pointwise [meansq]
theorem modulated_apply (x : FVec Ideal S2x16384x1024 .f32) (s b : FVec Ideal S2x1024 .f32) (i : Fin 2) (q : Fin 16384) (k : Fin 1024) :
    modulated x s b (ix3 i q k) = modRow (fun j => x (ix3 i q j)) (s (ix2 i k)) (b (ix2 i k)) k := by
  unfold modRow
  rw [← meansq_apply]
  pointwise [modulated]

theorem res_sum (x : FVec Ideal S2x16384x1024 .f32) (s b : FVec Ideal S2x1024 .f32) (w : FVec Ideal S1024x2048 .f32) (i : Fin 2) (q : Fin 16384) (n : Fin 2048) :
    res x s b w (ix3 i q n) = ∑ k : Fin 1024, (modulated x s b (ix3 i q k) : EReal) * (w (ix2 k n) : EReal) := by
  pointwise [res]
theorem res_apply (x : FVec Ideal S2x16384x1024 .f32) (s b : FVec Ideal S2x1024 .f32) (w : FVec Ideal S1024x2048 .f32) (i : Fin 2) (q : Fin 16384) (n : Fin 2048) :
    res x s b w (ix3 i q n) = ∑ k : Fin 1024, modRow (fun j => x (ix3 i q j)) (s (ix2 i k)) (b (ix2 i k)) k * (w (ix2 k n) : EReal) := by
  refine (res_sum x s b w i q n).trans (Finset.sum_congr rfl fun k _ => ?_)
  rw [modulated_apply]
end Cert.Reference3Ideal.Proj

namespace Cert.Kernel3Ideal.Proj
open Cert.Kernel3Ideal Cert.Kernel3Ideal.Gen
open Cert.Parts (modRow zero2 zero3 back narrow)
variable (m : (o : Loc nD τ sig) → Buf (Elt Ideal) o) (c : Dev nD)

/-! ## What the body writes -/

theorem pay1_apply (v10 : Vec Ideal S1x512x1024 .f32) (v12 v14 : Vec Ideal S1x1x1024 .f32) (l : Fin 512) (k : Fin 1024) :
    k0_pay1 v10 v12 v14 (ix2 l k) = modRow (fun j => v10 (ix3 0 l j)) (v12 (ix3 0 0 k)) (v14 (ix3 0 0 k)) k := by
  unfold modRow
  pointwise [k0_pay1]
theorem pay2_apply (v3 : Vec Ideal S512x1024 .bf16) (v4 : Vec Ideal S1024x2048 .bf16) (l : Fin 512) (n : Fin 2048) :
    k0_pay2 v3 v4 (ix3 0 l n) = ∑ k : Fin 1024, (v3 (ix2 l k) : EReal) * (v4 (ix2 k n) : EReal) := by
  pointwise [k0_pay2]

section
variable (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole)
  (arg6 : Memref sig .tc .vmem S1024x2048 .bf16) (harg6 : arg6.IsWhole) (arg7 : Memref sig .tc .vmem S1x512x2048 .f32) (harg7 : arg7.IsWhole) (arg8 : Memref sig .tc .vmem S512x1024 .bf16) (harg8 : arg8.IsWhole) (hc0 : cond0_0 i)
  (x0 : Vec Ideal S1x512x1024 .f32) (x1 x2 : Vec Ideal S1x1x1024 .f32) (x3 : Vec Ideal S1024x2048 .bf16)
theorem out_eq : out0_A_4 c i arg3 harg3 arg4 harg4 arg5 harg5 arg6 harg6 arg7 harg7 arg8 harg8 hc0 x0 x1 x2 x3 = k0_pay2 (k0_pay1 x0 x1 x2) x3 := by
  unfold out0_A_4
  rw [View.read_writes_junk_eq_canon]
  unfold kernelRun0_A
  dsimp only
  sl_unfold_run_names
  rw [View.canon_cons_unit_zero zero3]
  rw [View.readCov_cons_toLoadRect, back harg3 zero3, back harg4 zero3, back harg5 zero3, back harg6 zero2]
end

theorem out_apply (i : grid0.Coords) (x0 : Vec Ideal S1x512x1024 .f32) (x1 x2 : Vec Ideal S1x1x1024 .f32) (x3 : Vec Ideal S1024x2048 .bf16) (l : Fin 512) (n : Fin 2048) :
    k0_pay2 (k0_pay1 x0 x1 x2) x3 (ix3 0 l n) = ∑ k : Fin 1024, modRow (fun j => x0 (ix3 0 l j)) (x1 (ix3 0 0 k)) (x2 (ix3 0 0 k)) k * (x3 (ix2 k n) : EReal) := by
  refine (pay2_apply _ _ l n).trans (Finset.sum_congr rfl fun k _ => ?_)
  rw [pay1_apply]

/-! ## The host's arrays and the blocks -/

theorem v0_apply (b : Fin 2) (n : Fin 1024) : (V m c main_v0 : Vec Ideal S2x1x1024 .f32) (ix3 b 0 n) = m ((c : Thread nD τ).loc main_arg1) (ix2 b n) := by
  entry_read
  pointwise
theorem v1_apply (b : Fin 2) (n : Fin 1024) : (V m c main_v1 : Vec Ideal S2x1x1024 .f32) (ix3 b 0 n) = m ((c : Thread nD τ).loc main_arg2) (ix2 b n) := by
  entry_read
  pointwise
theorem a0_eq : V m c main_arg0 = m ((c : Thread nD τ).loc main_arg0) := by
  entry_read
  rfl

/-- Where an entry of the weights lands. -/
theorem lands (idx : IVec S0 32) (k' : Fin 1024) (n' : Fin 2048) (k : Fin 1024) (n : Fin 2048) :
    scatter_S1024x2048_S0_S1024x2048_01_n_n_0.resultIdx? (ix2 k' n') idx = some (ix2 k n) ↔ k'.val = k.val ∧ n'.val = n.val := by
  have s0 : scatter_S1024x2048_S0_S1024x2048_01_n_n_0.start (ix2 k' n') idx 0 = 0 := by
    unfold ScatterDims.start
    rw [dif_neg (by decide)]
  have s1 : scatter_S1024x2048_S0_S1024x2048_01_n_n_0.start (ix2 k' n') idx 1 = 0 := by
    unfold ScatterDims.start
    rw [dif_neg (by decide)]
  have w0 : scatter_S1024x2048_S0_S1024x2048_01_n_n_0.window (ix2 k' n') 0 = k'.val := rfl
  have w1 : scatter_S1024x2048_S0_S1024x2048_01_n_n_0.window (ix2 k' n') 1 = n'.val := rfl
  rw [Routing.resultIdx?_eq_some]
  constructor
  · intro h
    have h0 : scatter_S1024x2048_S0_S1024x2048_01_n_n_0.start (ix2 k' n') idx 0 + (scatter_S1024x2048_S0_S1024x2048_01_n_n_0.window (ix2 k' n') 0 : Int) = (k.val : Int) := h 0
    have h1 : scatter_S1024x2048_S0_S1024x2048_01_n_n_0.start (ix2 k' n') idx 1 + (scatter_S1024x2048_S0_S1024x2048_01_n_n_0.window (ix2 k' n') 1 : Int) = (n.val : Int) := h 1
    rw [s0, w0] at h0
    rw [s1, w1] at h1
    omega
  · rintro ⟨h0, h1⟩ a
    match a with
    | ⟨0, _⟩ => exact (congrArg₂ (fun (a : Int) (b : Nat) => a + (b : Int)) s0 w0).trans (by show (0 : Int) + k'.val = k.val; omega)
    | ⟨1, _⟩ => exact (congrArg₂ (fun (a : Int) (b : Nat) => a + (b : Int)) s1 w1).trans (by show (0 : Int) + n'.val = n.val; omega)

theorem padded (z : FVec Ideal S1024x2048 .f32) (idx : IVec S0 32) (w : FVec Ideal S1024x2048 .f32) (k : Fin 1024) (n : Fin 2048) :
    Host.scatter scatter_S1024x2048_S0_S1024x2048_01_n_n_0 (fun _ b => b) z idx w (ix2 k n) = w (ix2 k n) := by
  have hs : ∀ j : S1024x2048.Idx, j = ix2 (j 0) (j 1) := fun j => funext fun a => by
    match a with
    | ⟨0, _⟩ => rfl
    | ⟨1, _⟩ => rfl
  refine Routing.scatter_set_hit _ z idx w (ix2 k n) (w (ix2 k n)) (fun j hj => ?_) (ix2 k n) ((lands idx k n k n).mpr ⟨rfl, rfl⟩)
  rw [hs j] at hj ⊢
  obtain ⟨h0, h1⟩ := (lands idx (j 0) (j 1) k n).mp hj
  exact congrArg w (congrArg₂ ix2 (Fin.ext h0) (Fin.ext h1))

theorem v4_apply (k : Fin 1024) (n : Fin 2048) : (V m c main_v4 : Vec Ideal S1024x2048 .bf16) (ix2 k n) = m ((c : Thread nD τ).loc main_arg3) (ix2 k n) := by
  entry_read
  rw [narrow]
  exact padded _ _ _ k n

/-- The two coordinates of a grid point. -/
def tb (t : Fin cfg0.N) : Fin 2 := ⟨t.val / 32, by have := lt_of_lt_of_eq t.isLt (show cfg0.N = 64 from N_0); omega⟩
def ti (t : Fin cfg0.N) : Fin 32 := ⟨t.val % 32, by omega⟩
/-- The row of the whole array at row `l` of a grid point's tile. -/
def row (t : Fin cfg0.N) (l : Fin 512) : Fin 16384 := ⟨(ti t).val * 512 + l.val, by omega⟩

theorem index0 (t : Fin cfg0.N) : win0_0.index t 0 = (tb t).val ∧ win0_0.index t 1 = (ti t).val ∧ win0_0.index t 2 = 0 :=
  (by decide +kernel : ∀ t : Fin grid0.N, win0_0.index t 0 = t.val / 32 ∧ win0_0.index t 1 = t.val % 32 ∧ win0_0.index t 2 = 0) t
theorem index1 (t : Fin cfg0.N) : win0_1.index t 0 = (tb t).val ∧ win0_1.index t 1 = 0 ∧ win0_1.index t 2 = 0 :=
  (by decide +kernel : ∀ t : Fin grid0.N, win0_1.index t 0 = t.val / 32 ∧ win0_1.index t 1 = 0 ∧ win0_1.index t 2 = 0) t
theorem index2 (t : Fin cfg0.N) : win0_2.index t 0 = (tb t).val ∧ win0_2.index t 1 = 0 ∧ win0_2.index t 2 = 0 :=
  (by decide +kernel : ∀ t : Fin grid0.N, win0_2.index t 0 = t.val / 32 ∧ win0_2.index t 1 = 0 ∧ win0_2.index t 2 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = (tb t).val ∧ win0_4.index t 1 = (ti t).val ∧ win0_4.index t 2 = 0 :=
  (by decide +kernel : ∀ t : Fin grid0.N, win0_4.index t 0 = t.val / 32 ∧ win0_4.index t 1 = t.val % 32 ∧ win0_4.index t 2 = 0) t

theorem emb0 (t : Fin cfg0.N) (l : Fin 512) (k : Fin 1024) : ((cfg0.win 0).blk t).view.emb (ix3 0 l k) = ix3 (tb t) (row t l) k := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 512 + l.val = (ti t).val * 512 + l.val; rw [h1])
  | ⟨2, _⟩ => exact (Pipeline.Window.rect_emb_val _ _ _ _).trans (by show win0_0.index t 2 * 1024 + k.val = k.val; rw [h2, Nat.zero_mul, Nat.zero_add])
theorem emb1 (t : Fin cfg0.N) (k : Fin 1024) : ((cfg0.win 1).blk t).view.emb (ix3 0 0 k) = ix3 (tb t) 0 k := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 1 + 0 = 0; rw [h1])
  | ⟨2, _⟩ => exact (Pipeline.Window.rect_emb_val _ _ _ _).trans (by show win0_1.index t 2 * 1024 + k.val = k.val; rw [h2, Nat.zero_mul, Nat.zero_add])
theorem emb2 (t : Fin cfg0.N) (k : Fin 1024) : ((cfg0.win 2).blk t).view.emb (ix3 0 0 k) = ix3 (tb t) 0 k := by
  obtain ⟨h0, h1, h2⟩ := index2 t
  refine funext fun a => Fin.ext ?_
  match a with
  | ⟨0, _⟩ => exact (Pipeline.Window.rect_emb_val _ _ _ _).trans (by show win0_2.index t 0 * 1 + 0 = (tb t).val; rw [h0, Nat.mul_one, Nat.add_zero])
  | ⟨1, _⟩ => exact (Pipeline.Window.rect_emb_val _ _ _ _).trans (by show win0_2.index t 1 * 1 + 0 = 0; rw [h1])
  | ⟨2, _⟩ => exact (Pipeline.Window.rect_emb_val _ _ _ _).trans (by show win0_2.index t 2 * 1024 + k.val = k.val; rw [h2, Nat.zero_mul, Nat.zero_add])
theorem emb3 (t : Fin cfg0.N) (k : Fin 1024) (n : Fin 2048) : ((cfg0.win 3).blk t).view.emb (ix2 k n) = ix2 k n := by
  obtain ⟨h0, h1⟩ := index3 t
  refine funext fun a => Fin.ext ?_
  match a with
  | ⟨0, _⟩ => exact (Pipeline.Window.rect_emb_val _ _ _ _).trans (by show win0_3.index t 0 * 1024 + k.val = k.val; rw [h0, Nat.zero_mul, Nat.zero_add])
  | ⟨1, _⟩ => exact (Pipeline.Window.rect_emb_val _ _ _ _).trans (by show win0_3.index t 1 * 2048 + n.val = n.val; rw [h1, Nat.zero_mul, Nat.zero_add])
theorem emb4 (t : Fin cfg0.N) (l : Fin 512) (n : Fin 2048) : ((cfg0.win 4).blk t).view.emb (ix3 0 l n) = ix3 (tb t) (row t l) n := by
  obtain ⟨h0, h1, h2⟩ := index4 t
  refine funext fun a => Fin.ext ?_
  match a with
  | ⟨0, _⟩ => exact (Pipeline.Window.rect_emb_val _ _ _ _).trans (by show win0_4.index t 0 * 1 + 0 = (tb t).val; rw [h0, Nat.mul_one, Nat.add_zero])
  | ⟨1, _⟩ => exact (Pipeline.Window.rect_emb_val _ _ _ _).trans (by show win0_4.index t 1 * 512 + l.val = (ti t).val * 512 + l.val; rw [h1])
  | ⟨2, _⟩ => exact (Pipeline.Window.rect_emb_val _ _ _ _).trans (by show win0_4.index t 2 * 2048 + n.val = n.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_v0 (((cfg0.win 1).blk t).view.emb x) := rfl
theorem read2 (x) : ((cfg0.win 2).blk t).view.read (Elt Ideal) (X (Pipeline.arrRef spec0 2)) x = X main_v1 (((cfg0.win 2).blk t).view.emb x) := rfl
theorem read3 (x) : ((cfg0.win 3).blk t).view.read (Elt Ideal) (X (Pipeline.arrRef spec0 3)) x = X main_v4 (((cfg0.win 3).blk t).view.emb x) := rfl
end

theorem blk0_apply (t : Fin cfg0.N) (l : Fin 512) (k : Fin 1024) : (iblk m c 0 t : Vec Ideal S1x512x1024 .f32) (ix3 0 l k) = m ((c : Thread nD τ).loc main_arg0) (ix3 (tb t) (row t l) k) :=
  (read0 c (V m c) t _).trans ((congrArg (V m c main_arg0) (emb0 t l k)).trans (congrFun (a0_eq m c) _))
theorem blk1_apply (t : Fin cfg0.N) (k : Fin 1024) : (iblk m c 1 t : Vec Ideal S1x1x1024 .f32) (ix3 0 0 k) = m ((c : Thread nD τ).loc main_arg1) (ix2 (tb t) k) :=
  (read1 c (V m c) t _).trans ((congrArg (V m c main_v0) (emb1 t k)).trans (v0_apply m c (tb t) k))
theorem blk2_apply (t : Fin cfg0.N) (k : Fin 1024) : (iblk m c 2 t : Vec Ideal S1x1x1024 .f32) (ix3 0 0 k) = m ((c : Thread nD τ).loc main_arg2) (ix2 (tb t) k) :=
  (read2 c (V m c) t _).trans ((congrArg (V m c main_v1) (emb2 t k)).trans (v1_apply m c (tb t) k))
theorem blk3_apply (t : Fin cfg0.N) (k : Fin 1024) (n : Fin 2048) : (iblk m c 3 t : Vec Ideal S1024x2048 .bf16) (ix2 k n) = m ((c : Thread nD τ).loc main_arg3) (ix2 k n) :=
  (read3 c (V m c) t _).trans ((congrArg (V m c main_v4) (emb3 t k n)).trans (v4_apply m c k n))

/-! ## The whole result -/

/-- The reference's result of the kernel's arguments. -/
def result : FVec Ideal Cert.Reference3Ideal.S2x16384x2048 .f32 :=
  Cert.Reference3Ideal.Proj.res (m ((c : Thread nD τ).loc main_arg0)) (m ((c : Thread nD τ).loc main_arg1)) (m ((c : Thread nD τ).loc main_arg2)) (m ((c : Thread nD τ).loc main_arg3))

theorem left_eq (t : Fin cfg0.N) (l : Fin 512) (n : Fin 2048) : outsAt0 m c t (ix3 0 l n) = result m c (ix3 (tb t) (row t l) n) := by
  unfold outsAt0
  rw [out_eq]
  refine (out_apply (grid0.coords t) _ _ _ _ l n).trans (Eq.trans ?_ (Cert.Reference3Ideal.Proj.res_apply _ _ _ _ (tb t) (row t l) n).symm)
  simp only [blk0_apply, blk1_apply, blk2_apply, blk3_apply]

theorem array_eq : (dats m 0 c).arrAt 4 cfg0.N = (result m c : Vec Ideal S2x16384x2048 .f32) := by
  refine (dats m 0 c).arrAt_eq_of_covers 4 _ (by decide +kernel) fun t hf y => ?_
  have hy : (y : S1x512x2048.Idx) = ix3 0 (y 1) (y 2) := funext fun a => by
    match a with
    | ⟨0, _⟩ => exact Subsingleton.elim (α := Fin 1) _ _
    | ⟨1, _⟩ => rfl
    | ⟨2, _⟩ => rfl
  blk_simp
  rw [after0_4]
  refine (congrArg (outsAt0 m c t) hy).trans ((left_eq m c t (y 1) (y 2)).trans (congrArg (result m c) ?_))
  exact (emb4 t (y 1) (y 2)).symm.trans (congrArg ((win0_4.blk t).view.emb) hy.symm)
end Cert.Kernel3Ideal.Proj

namespace Cert.InOdd
theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves : Cert.preserves_Kernel3_Kernel3Ideal := trivial

/-- The two programs' results are one array. -/
theorem algebraic : Cert.algebraic_Kernel3Ideal_Reference3Ideal := by
  intro m ρ m' ρ' hpre hagree
  refine ⟨fun c => Cert.Kernel3Ideal.Proj.result m c, ?_, ?_⟩
  · refine (θ_run Cert.Kernel3Ideal.defs _ _).mono (fun _ h c => ⟨(h c).1.trans ?_, (h c).2⟩) (Cert.Kernel3Ideal.Value.run_blocks (F := Ideal) m ρ)
    exact Cert.Kernel3Ideal.Proj.array_eq m c
  · refine (θ_run Cert.Reference3Ideal.defs _ _).mono (fun _ h c => ⟨(h c).1.trans ?_, (h c).2⟩) (Cert.Reference3Ideal.Value.run (F := Ideal) m' ρ')
    obtain ⟨e0, e1, e2, e3⟩ := hagree c
    rw [e0, e1, e2, e3]
    rfl
end Cert.InOdd
-- ==== Proof.OutEven.lean ====
/- The even layers' out projection: each grid point's block is the reference's result there, and the blocks tile the array. -/
module

public import proofs.«01_k».proof.Defs
public import proofs.«01_k».proof.Proof.Parts
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.Value
public import Idealize.ShloMosaic.Lib.Pipeline.ValueKit
public import Idealize.ShloMosaic.Lib.Quiescent
public import Idealize.ShloMosaic.Lib.Claim

@[expose] public section
set_option maxRecDepth 16384
noncomputable section
open Idealize.ShloMosaic Idealize.ShloMosaic.TcCoe Idealize.SL.Sem

namespace Cert.Reference4Ideal.Proj
open Cert.Reference4Ideal Cert.Reference4Ideal.Gen
open Cert.Parts (halves)

/-- The two halves side by side, the product with the weights, and the gated residual sum. -/
def joined (a : FVec Ideal S2x512x16384 .f32) (b : FVec Ideal S2x512x16384 .f32) : FVec Ideal S2x16384x1024 .f32 :=
  concatenate S2x16384x1024 2 [⟨S2x16384x512, (transpose S2x16384x512 [0, 2, 1] a transposes_S2x512x16384_S2x16384x512_0_2_1)⟩, ⟨S2x16384x512, (transpose S2x16384x512 [0, 2, 1] b transposes_S2x512x16384_S2x16384x512_0_2_1)⟩] concatenates_S2x16384x512_S2x16384x512_S2x16384x1024_d2
def res (a : FVec Ideal S2x512x16384 .f32) (b : FVec Ideal S2x512x16384 .f32) (w : FVec Ideal S1024x1024 .f32) (x : FVec Ideal S2x16384x1024 .f32) (g : FVec Ideal S2x1024 .f32) : FVec Ideal S2x16384x1024 .f32 :=
  addf x (mulf (broadcastInDim S2x16384x1024 ![0, 1, 2] bcast_S2x1x1024_S2x16384x1024_0_1_2 (broadcastInDim S2x1x1024 ![0, 2] bcast_S2x1024_S2x1x1024_0_2 g)) (Host.dotGeneral dot_S2x16384x1024_S1024x1024_S2x16384x1024_2_0_01_1_n_n none (joined a b) w))

theorem joined_lo (a : FVec Ideal S2x512x16384 .f32) (b : FVec Ideal S2x512x16384 .f32) (i : Fin 2) (q : Fin 16384) (t : Fin 512) :
    joined a b (ix3 i q ⟨t.val, by omega⟩) = a (ix3 i t q) := by
  pointwise [joined]
theorem joined_hi (a : FVec Ideal S2x512x16384 .f32) (b : FVec Ideal S2x512x16384 .f32) (i : Fin 2) (q : Fin 16384) (t : Fin 512) :
    joined a b (ix3 i q ⟨512 + t.val, by omega⟩) = b (ix3 i t q) := by
  pointwise [joined]

theorem res_sum (a : FVec Ideal S2x512x16384 .f32) (b : FVec Ideal S2x512x16384 .f32) (w : FVec Ideal S1024x1024 .f32) (x : FVec Ideal S2x16384x1024 .f32) (g : FVec Ideal S2x1024 .f32) (i : Fin 2) (q : Fin 16384) (n : Fin 1024) :
    res a b w x g (ix3 i q n) = (x (ix3 i q n) : EReal) + (g (ix2 i n) : EReal) * ∑ k : Fin 1024, (joined a b (ix3 i q k) : EReal) * (w (ix2 k n) : EReal) := by
  pointwise [res]
theorem res_apply (a : FVec Ideal S2x512x16384 .f32) (b : FVec Ideal S2x512x16384 .f32) (w : FVec Ideal S1024x1024 .f32) (x : FVec Ideal S2x16384x1024 .f32) (g : FVec Ideal S2x1024 .f32) (i : Fin 2) (q : Fin 16384) (n : Fin 1024) :
    res a b w x g (ix3 i q n) = (x (ix3 i q n) : EReal) + (g (ix2 i n) : EReal) *
      ((∑ t : Fin 512, (a (ix3 i t q) : EReal) * (w (ix2 ⟨t.val, by omega⟩ n) : EReal)) + ∑ t : Fin 512, (b (ix3 i t q) : EReal) * (w (ix2 ⟨512 + t.val, by omega⟩ n) : EReal)) := by
  rw [res_sum, halves]
  simp only [joined_lo, joined_hi]
end Cert.Reference4Ideal.Proj

namespace Cert.Kernel4Ideal.Proj
open Cert.Kernel4Ideal Cert.Kernel4Ideal.Gen
open Cert.Parts (zero3)
variable (m : (o : Loc nD τ sig) → Buf (Elt Ideal) o) (c : Dev nD)

/-! ## What the body writes -/

theorem ld_lo (w : Vec Ideal S1024x1024 .bf16) (t : Fin 512) (n : Fin 1024) : View.ld w r0_1 (ix2 t n) = w (ix2 ⟨t.val, by omega⟩ n) := by
  refine congrArg w (funext fun a => Fin.ext ?_)
  match a with
  | ⟨0, _⟩ => show 0 + 1 * t.val = t.val; omega
  | ⟨1, _⟩ => show 0 + 1 * n.val = n.val; omega
theorem ld_hi (w : Vec Ideal S1024x1024 .bf16) (t : Fin 512) (n : Fin 1024) : View.ld w r0_2 (ix2 t n) = w (ix2 ⟨512 + t.val, by omega⟩ n) := by
  refine congrArg w (funext fun a => Fin.ext ?_)
  match a with
  | ⟨0, _⟩ => show 512 + 1 * t.val = 512 + t.val; omega
  | ⟨1, _⟩ => show 0 + 1 * n.val = n.val; omega

theorem pay_apply (v0 : Vec Ideal S1x512x1024 .f32) (v3 : Vec Ideal S1x512x1024 .f32) (v7 v11 : Vec Ideal S512x1024 .bf16) (v15 : Vec Ideal S1x1024x1024 .f32) (v17 : Vec Ideal S1x1x1024 .f32) (l n : Fin 1024) :
    k0_pay1 v0 v3 v7 v11 v15 v17 (ix3 0 l n) = (v15 (ix3 0 l n) : EReal) + (v17 (ix3 0 0 n) : EReal) *
      ((∑ t : Fin 512, (v0 (ix3 0 t l) : EReal) * (v7 (ix2 t n) : EReal)) + ∑ t : Fin 512, (v3 (ix3 0 t l) : EReal) * (v11 (ix2 t n) : EReal)) := by
  pointwise [k0_pay1]

theorem out_apply (x0 : Vec Ideal S1x512x1024 .f32) (x1 : Vec Ideal S1x512x1024 .f32) (x2 : Vec Ideal S1024x1024 .bf16) (x3 : Vec Ideal S1x1024x1024 .f32) (x4 : Vec Ideal S1x1x1024 .f32) (l n : Fin 1024) :
    out0_5 x0 x1 x2 x3 x4 (ix3 0 l n) = (x3 (ix3 0 l n) : EReal) + (x4 (ix3 0 0 n) : EReal) *
      ((∑ t : Fin 512, (x0 (ix3 0 t l) : EReal) * (x2 (ix2 ⟨t.val, by omega⟩ n) : EReal)) + ∑ t : Fin 512, (x1 (ix3 0 t l) : EReal) * (x2 (ix2 ⟨512 + t.val, by omega⟩ n) : EReal)) := by
  unfold out0_5
  rw [View.canon_cons_unit_zero zero3, View.ld_unit_zero zero3 _ x0, View.ld_unit_zero zero3 _ x1, View.ld_unit_zero zero3 _ x3, View.ld_unit_zero zero3 _ x4]
  refine (pay_apply _ _ _ _ _ _ l n).trans ?_
  exact congrArg (x3 (ix3 0 l n) + x4 (ix3 0 0 n) * ·) (congrArg₂ (· + ·)
    (Finset.sum_congr rfl fun t _ => congrArg (x0 (ix3 0 t l) * ·) (ld_lo x2 t n))
    (Finset.sum_congr rfl fun t _ => congrArg (x1 (ix3 0 t l) * ·) (ld_hi x2 t n)))

/-! ## The host's arrays and the blocks -/

theorem v0_apply (k n : Fin 1024) : (V m c main_v0 : Vec Ideal S1024x1024 .bf16) (ix2 k n) = m ((c : Thread nD τ).loc main_arg2) (ix2 k n) := by
  entry_read
  pointwise
theorem v1_apply (b : Fin 2) (n : Fin 1024) : (V m c main_v1 : Vec Ideal S2x1x1024 .f32) (ix3 b 0 n) = m ((c : Thread nD τ).loc main_arg4) (ix2 b n) := by
  entry_read
  pointwise
theorem a0_eq : V m c main_arg0 = m ((c : Thread nD τ).loc main_arg0) := by
  entry_read
  rfl
theorem a1_eq : V m c main_arg1 = m ((c : Thread nD τ).loc main_arg1) := by
  entry_read
  rfl
theorem a3_eq : V m c main_arg3 = m ((c : Thread nD τ).loc main_arg3) := by
  entry_read
  rfl

/-- The two coordinates of a grid point. -/
def tb (t : Fin cfg0.N) : Fin 2 := ⟨t.val / 16, by have := lt_of_lt_of_eq t.isLt (show cfg0.N = 32 from N_0); omega⟩
def ti (t : Fin cfg0.N) : Fin 16 := ⟨t.val % 16, by omega⟩
/-- The row of the whole array at row `l` of a grid point's tile. -/
def row (t : Fin cfg0.N) (l : Fin 1024) : Fin 16384 := ⟨(ti t).val * 1024 + l.val, by omega⟩

theorem index0 (t : Fin cfg0.N) : win0_0.index t 0 = (tb t).val ∧ win0_0.index t 1 = 0 ∧ win0_0.index t 2 = (ti t).val :=
  (by decide +kernel : ∀ t : Fin grid0.N, win0_0.index t 0 = t.val / 16 ∧ win0_0.index t 1 = 0 ∧ win0_0.index t 2 = t.val % 16) t
theorem index1 (t : Fin cfg0.N) : win0_1.index t 0 = (tb t).val ∧ win0_1.index t 1 = 0 ∧ win0_1.index t 2 = (ti t).val :=
  (by decide +kernel : ∀ t : Fin grid0.N, win0_1.index t 0 = t.val / 16 ∧ win0_1.index t 1 = 0 ∧ win0_1.index t 2 = t.val % 16) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = (tb t).val ∧ win0_3.index t 1 = (ti t).val ∧ win0_3.index t 2 = 0 :=
  (by decide +kernel : ∀ t : Fin grid0.N, win0_3.index t 0 = t.val / 16 ∧ win0_3.index t 1 = t.val % 16 ∧ win0_3.index t 2 = 0) t
theorem index4 (t : Fin cfg0.N) : win0_4.index t 0 = (tb t).val ∧ win0_4.index t 1 = 0 ∧ win0_4.index t 2 = 0 :=
  (by decide +kernel : ∀ t : Fin grid0.N, win0_4.index t 0 = t.val / 16 ∧ win0_4.index t 1 = 0 ∧ win0_4.index t 2 = 0) t
theorem index5 (t : Fin cfg0.N) : win0_5.index t 0 = (tb t).val ∧ win0_5.index t 1 = (ti t).val ∧ win0_5.index t 2 = 0 :=
  (by decide +kernel : ∀ t : Fin grid0.N, win0_5.index t 0 = t.val / 16 ∧ win0_5.index t 1 = t.val % 16 ∧ win0_5.index t 2 = 0) t

theorem emb0 (t : Fin cfg0.N) (d : Fin 512) (l : Fin 1024) : ((cfg0.win 0).blk t).view.emb (ix3 0 d l) = ix3 (tb t) d (row t l) := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 512 + d.val = d.val; rw [h1, Nat.zero_mul, Nat.zero_add])
  | ⟨2, _⟩ => exact (Pipeline.Window.rect_emb_val _ _ _ _).trans (by show win0_0.index t 2 * 1024 + l.val = (ti t).val * 1024 + l.val; rw [h2])
theorem emb1 (t : Fin cfg0.N) (d : Fin 512) (l : Fin 1024) : ((cfg0.win 1).blk t).view.emb (ix3 0 d l) = ix3 (tb t) d (row t l) := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 512 + d.val = d.val; rw [h1, Nat.zero_mul, Nat.zero_add])
  | ⟨2, _⟩ => exact (Pipeline.Window.rect_emb_val _ _ _ _).trans (by show win0_1.index t 2 * 1024 + l.val = (ti t).val * 1024 + l.val; rw [h2])
theorem emb2 (t : Fin cfg0.N) (k n : Fin 1024) : ((cfg0.win 2).blk t).view.emb (ix2 k n) = ix2 k n := by
  obtain ⟨h0, h1⟩ := index2 t
  refine funext fun a => Fin.ext ?_
  match a with
  | ⟨0, _⟩ => exact (Pipeline.Window.rect_emb_val _ _ _ _).trans (by show win0_2.index t 0 * 1024 + k.val = k.val; rw [h0, Nat.zero_mul, Nat.zero_add])
  | ⟨1, _⟩ => exact (Pipeline.Window.rect_emb_val _ _ _ _).trans (by show win0_2.index t 1 * 1024 + n.val = n.val; rw [h1, Nat.zero_mul, Nat.zero_add])
theorem emb3 (t : Fin cfg0.N) (l n : Fin 1024) : ((cfg0.win 3).blk t).view.emb (ix3 0 l n) = ix3 (tb t) (row t l) n := by
  obtain ⟨h0, h1, h2⟩ := index3 t
  refine funext fun a => Fin.ext ?_
  match a with
  | ⟨0, _⟩ => exact (Pipeline.Window.rect_emb_val _ _ _ _).trans (by show win0_3.index t 0 * 1 + 0 = (tb t).val; rw [h0, Nat.mul_one, Nat.add_zero])
  | ⟨1, _⟩ => exact (Pipeline.Window.rect_emb_val _ _ _ _).trans (by show win0_3.index t 1 * 1024 + l.val = (ti t).val * 1024 + l.val; rw [h1])
  | ⟨2, _⟩ => exact (Pipeline.Window.rect_emb_val _ _ _ _).trans (by show win0_3.index t 2 * 1024 + n.val = n.val; rw [h2, Nat.zero_mul, Nat.zero_add])
theorem emb4 (t : Fin cfg0.N) (n : Fin 1024) : ((cfg0.win 4).blk t).view.emb (ix3 0 0 n) = ix3 (tb t) 0 n := by
  obtain ⟨h0, h1, h2⟩ := index4 t
  refine funext fun a => Fin.ext ?_
  match a with
  | ⟨0, _⟩ => exact (Pipeline.Window.rect_emb_val _ _ _ _).trans (by show win0_4.index t 0 * 1 + 0 = (tb t).val; rw [h0, Nat.mul_one, Nat.add_zero])
  | ⟨1, _⟩ => exact (Pipeline.Window.rect_emb_val _ _ _ _).trans (by show win0_4.index t 1 * 1 + 0 = 0; rw [h1])
  | ⟨2, _⟩ => exact (Pipeline.Window.rect_emb_val _ _ _ _).trans (by show win0_4.index t 2 * 1024 + n.val = n.val; rw [h2, Nat.zero_mul, Nat.zero_add])
theorem emb5 (t : Fin cfg0.N) (l n : Fin 1024) : ((cfg0.win 5).blk t).view.emb (ix3 0 l n) = ix3 (tb t) (row t l) n := by
  obtain ⟨h0, h1, h2⟩ := index5 t
  refine funext fun a => Fin.ext ?_
  match a with
  | ⟨0, _⟩ => exact (Pipeline.Window.rect_emb_val _ _ _ _).trans (by show win0_5.index t 0 * 1 + 0 = (tb t).val; rw [h0, Nat.mul_one, Nat.add_zero])
  | ⟨1, _⟩ => exact (Pipeline.Window.rect_emb_val _ _ _ _).trans (by show win0_5.index t 1 * 1024 + l.val = (ti t).val * 1024 + l.val; rw [h1])
  | ⟨2, _⟩ => exact (Pipeline.Window.rect_emb_val _ _ _ _).trans (by show win0_5.index t 2 * 1024 + n.val = n.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_arg1 (((cfg0.win 1).blk t).view.emb x) := rfl
theorem read2 (x) : ((cfg0.win 2).blk t).view.read (Elt Ideal) (X (Pipeline.arrRef spec0 2)) x = X main_v0 (((cfg0.win 2).blk t).view.emb x) := rfl
theorem read3 (x) : ((cfg0.win 3).blk t).view.read (Elt Ideal) (X (Pipeline.arrRef spec0 3)) x = X main_arg3 (((cfg0.win 3).blk t).view.emb x) := rfl
theorem read4 (x) : ((cfg0.win 4).blk t).view.read (Elt Ideal) (X (Pipeline.arrRef spec0 4)) x = X main_v1 (((cfg0.win 4).blk t).view.emb x) := rfl
end

theorem blk0_apply (t : Fin cfg0.N) (d : Fin 512) (l : Fin 1024) : (iblk m c 0 t : Vec Ideal S1x512x1024 .f32) (ix3 0 d l) = m ((c : Thread nD τ).loc main_arg0) (ix3 (tb t) d (row t l)) :=
  (read0 c (V m c) t _).trans ((congrArg (V m c main_arg0) (emb0 t d l)).trans (congrFun (a0_eq m c) _))
theorem blk1_apply (t : Fin cfg0.N) (d : Fin 512) (l : Fin 1024) : (iblk m c 1 t : Vec Ideal S1x512x1024 .f32) (ix3 0 d l) = m ((c : Thread nD τ).loc main_arg1) (ix3 (tb t) d (row t l)) :=
  (read1 c (V m c) t _).trans ((congrArg (V m c main_arg1) (emb1 t d l)).trans (congrFun (a1_eq m c) _))
theorem blk2_apply (t : Fin cfg0.N) (k n : Fin 1024) : (iblk m c 2 t : Vec Ideal S1024x1024 .bf16) (ix2 k n) = m ((c : Thread nD τ).loc main_arg2) (ix2 k n) :=
  (read2 c (V m c) t _).trans ((congrArg (V m c main_v0) (emb2 t k n)).trans (v0_apply m c k n))
theorem blk3_apply (t : Fin cfg0.N) (l n : Fin 1024) : (iblk m c 3 t : Vec Ideal S1x1024x1024 .f32) (ix3 0 l n) = m ((c : Thread nD τ).loc main_arg3) (ix3 (tb t) (row t l) n) :=
  (read3 c (V m c) t _).trans ((congrArg (V m c main_arg3) (emb3 t l n)).trans (congrFun (a3_eq m c) _))
theorem blk4_apply (t : Fin cfg0.N) (n : Fin 1024) : (iblk m c 4 t : Vec Ideal S1x1x1024 .f32) (ix3 0 0 n) = m ((c : Thread nD τ).loc main_arg4) (ix2 (tb t) n) :=
  (read4 c (V m c) t _).trans ((congrArg (V m c main_v1) (emb4 t n)).trans (v1_apply m c (tb t) n))

/-! ## The whole result -/

/-- The reference's result of the kernel's arguments. -/
def result : FVec Ideal Cert.Reference4Ideal.S2x16384x1024 .f32 :=
  Cert.Reference4Ideal.Proj.res (m ((c : Thread nD τ).loc main_arg0)) (m ((c : Thread nD τ).loc main_arg1)) (m ((c : Thread nD τ).loc main_arg2)) (m ((c : Thread nD τ).loc main_arg3)) (m ((c : Thread nD τ).loc main_arg4))

theorem left_eq (t : Fin cfg0.N) (l n : Fin 1024) :
    out0_5 (iblk m c 0 t) (iblk m c 1 t) (iblk m c 2 t) (iblk m c 3 t) (iblk m c 4 t) (ix3 0 l n) = result m c (ix3 (tb t) (row t l) n) := by
  refine (out_apply _ _ _ _ _ l n).trans (Eq.trans ?_ (Cert.Reference4Ideal.Proj.res_apply _ _ _ _ _ (tb t) (row t l) n).symm)
  rw [blk3_apply, blk4_apply]
  simp only [blk0_apply, blk1_apply, blk2_apply]

theorem array_eq : (dats m 0 c).arrAt 5 cfg0.N = (result m c : Vec Ideal S2x16384x1024 .f32) := by
  refine (dats m 0 c).arrAt_eq_of_covers 5 _ (by decide +kernel) fun t hf y => ?_
  have hy : (y : S1x1024x1024.Idx) = ix3 0 (y 1) (y 2) := funext fun a => by
    match a with
    | ⟨0, _⟩ => exact Subsingleton.elim (α := Fin 1) _ _
    | ⟨1, _⟩ => rfl
    | ⟨2, _⟩ => rfl
  blk_simp
  rw [after0_5]
  refine (congrArg (out0_5 (iblk m c 0 t) (iblk m c 1 t) (iblk m c 2 t) (iblk m c 3 t) (iblk m c 4 t)) hy).trans ((left_eq m c t (y 1) (y 2)).trans (congrArg (result m c) ?_))
  exact (emb5 t (y 1) (y 2)).symm.trans (congrArg ((win0_5.blk t).view.emb) hy.symm)
end Cert.Kernel4Ideal.Proj

namespace Cert.OutEven
theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem preserves : Cert.preserves_Kernel4_Kernel4Ideal := trivial

/-- The two programs' results are one array. -/
theorem algebraic : Cert.algebraic_Kernel4Ideal_Reference4Ideal := by
  intro m ρ m' ρ' hpre hagree
  refine ⟨fun c => Cert.Kernel4Ideal.Proj.result m c, ?_, ?_⟩
  · refine (θ_run Cert.Kernel4Ideal.defs _ _).mono (fun _ h c => ⟨(h c).1.trans ?_, (h c).2⟩) (Cert.Kernel4Ideal.Value.run_blocks (F := Ideal) m ρ)
    exact Cert.Kernel4Ideal.Proj.array_eq m c
  · refine (θ_run Cert.Reference4Ideal.defs _ _).mono (fun _ h c => ⟨(h c).1.trans ?_, (h c).2⟩) (Cert.Reference4Ideal.Value.run (F := Ideal) m' ρ')
    obtain ⟨e0, e1, e2, e3, e4⟩ := hagree c
    rw [e0, e1, e2, e3, e4]
    rfl
end Cert.OutEven
-- ==== Proof.OutOdd.lean ====
/- The odd layers' out projection: each grid point's block is the reference's result there, and the blocks tile the array. -/
module

public import proofs.«01_k».proof.Defs
public import proofs.«01_k».proof.Proof.Parts
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.Value
public import Idealize.ShloMosaic.Lib.Pipeline.ValueKit
public import Idealize.ShloMosaic.Lib.Quiescent
public import Idealize.ShloMosaic.Lib.Claim

@[expose] public section
set_option maxRecDepth 16384
noncomputable section
open Idealize.ShloMosaic Idealize.ShloMosaic.TcCoe Idealize.SL.Sem

namespace Cert.Reference5Ideal.Proj
open Cert.Reference5Ideal Cert.Reference5Ideal.Gen
open Cert.Parts (halves)

/-- The two halves side by side, the product with the weights, and the gated residual sum. -/
def joined (a : FVec Ideal S2x512x16384 .f32) (b : FVec Ideal S2x16384x512 .f32) : FVec Ideal S2x16384x1024 .f32 :=
  concatenate S2x16384x1024 2 [⟨S2x16384x512, (transpose S2x16384x512 [0, 2, 1] a transposes_S2x512x16384_S2x16384x512_0_2_1)⟩, ⟨S2x16384x512, b⟩] concatenates_S2x16384x512_S2x16384x512_S2x16384x1024_d2
def res (a : FVec Ideal S2x512x16384 .f32) (b : FVec Ideal S2x16384x512 .f32) (w : FVec Ideal S1024x1024 .f32) (x : FVec Ideal S2x16384x1024 .f32) (g : FVec Ideal S2x1024 .f32) : FVec Ideal S2x16384x1024 .f32 :=
  addf x (mulf (broadcastInDim S2x16384x1024 ![0, 1, 2] bcast_S2x1x1024_S2x16384x1024_0_1_2 (broadcastInDim S2x1x1024 ![0, 2] bcast_S2x1024_S2x1x1024_0_2 g)) (Host.dotGeneral dot_S2x16384x1024_S1024x1024_S2x16384x1024_2_0_01_1_n_n none (joined a b) w))

theorem joined_lo (a : FVec Ideal S2x512x16384 .f32) (b : FVec Ideal S2x16384x512 .f32) (i : Fin 2) (q : Fin 16384) (t : Fin 512) :
    joined a b (ix3 i q ⟨t.val, by omega⟩) = a (ix3 i t q) := by
  pointwise [joined]
theorem joined_hi (a : FVec Ideal S2x512x16384 .f32) (b : FVec Ideal S2x16384x512 .f32) (i : Fin 2) (q : Fin 16384) (t : Fin 512) :
    joined a b (ix3 i q ⟨512 + t.val, by omega⟩) = b (ix3 i q t) := by
  pointwise [joined]

theorem res_sum (a : FVec Ideal S2x512x16384 .f32) (b : FVec Ideal S2x16384x512 .f32) (w : FVec Ideal S1024x1024 .f32) (x : FVec Ideal S2x16384x1024 .f32) (g : FVec Ideal S2x1024 .f32) (i : Fin 2) (q : Fin 16384) (n : Fin 1024) :
    res a b w x g (ix3 i q n) = (x (ix3 i q n) : EReal) + (g (ix2 i n) : EReal) * ∑ k : Fin 1024, (joined a b (ix3 i q k) : EReal) * (w (ix2 k n) : EReal) := by
  pointwise [res]
theorem res_apply (a : FVec Ideal S2x512x16384 .f32) (b : FVec Ideal S2x16384x512 .f32) (w : FVec Ideal S1024x1024 .f32) (x : FVec Ideal S2x16384x1024 .f32) (g : FVec Ideal S2x1024 .f32) (i : Fin 2) (q : Fin 16384) (n : Fin 1024) :
    res a b w x g (ix3 i q n) = (x (ix3 i q n) : EReal) + (g (ix2 i n) : EReal) *
      ((∑ t : Fin 512, (a (ix3 i t q) : EReal) * (w (ix2 ⟨t.val, by omega⟩ n) : EReal)) + ∑ t : Fin 512, (b (ix3 i q t) : EReal) * (w (ix2 ⟨512 + t.val, by omega⟩ n) : EReal)) := by
  rw [res_sum, halves]
  simp only [joined_lo, joined_hi]
end Cert.Reference5Ideal.Proj

namespace Cert.Kernel5Ideal.Proj
open Cert.Kernel5Ideal Cert.Kernel5Ideal.Gen
open Cert.Parts (zero3)
variable (m : (o : Loc nD τ sig) → Buf (Elt Ideal) o) (c : Dev nD)

/-! ## What the body writes -/

theorem ld_lo (w : Vec Ideal S1024x1024 .bf16) (t : Fin 512) (n : Fin 1024) : View.ld w r0_2 (ix2 t n) = w (ix2 ⟨t.val, by omega⟩ n) := by
  refine congrArg w (funext fun a => Fin.ext ?_)
  match a with
  | ⟨0, _⟩ => show 0 + 1 * t.val = t.val; omega
  | ⟨1, _⟩ => show 0 + 1 * n.val = n.val; omega
theorem ld_hi (w : Vec Ideal S1024x1024 .bf16) (t : Fin 512) (n : Fin 1024) : View.ld w r0_3 (ix2 t n) = w (ix2 ⟨512 + t.val, by omega⟩ n) := by
  refine congrArg w (funext fun a => Fin.ext ?_)
  match a with
  | ⟨0, _⟩ => show 512 + 1 * t.val = 512 + t.val; omega
  | ⟨1, _⟩ => show 0 + 1 * n.val = n.val; omega

theorem pay_apply (v0 : Vec Ideal S1x512x1024 .f32) (v3 : Vec Ideal S1x1024x512 .f32) (v7 v11 : Vec Ideal S512x1024 .bf16) (v15 : Vec Ideal S1x1024x1024 .f32) (v17 : Vec Ideal S1x1x1024 .f32) (l n : Fin 1024) :
    k0_pay1 v0 v3 v7 v11 v15 v17 (ix3 0 l n) = (v15 (ix3 0 l n) : EReal) + (v17 (ix3 0 0 n) : EReal) *
      ((∑ t : Fin 512, (v0 (ix3 0 t l) : EReal) * (v7 (ix2 t n) : EReal)) + ∑ t : Fin 512, (v3 (ix3 0 l t) : EReal) * (v11 (ix2 t n) : EReal)) := by
  pointwise [k0_pay1]

theorem out_apply (x0 : Vec Ideal S1x512x1024 .f32) (x1 : Vec Ideal S1x1024x512 .f32) (x2 : Vec Ideal S1024x1024 .bf16) (x3 : Vec Ideal S1x1024x1024 .f32) (x4 : Vec Ideal S1x1x1024 .f32) (l n : Fin 1024) :
    out0_5 x0 x1 x2 x3 x4 (ix3 0 l n) = (x3 (ix3 0 l n) : EReal) + (x4 (ix3 0 0 n) : EReal) *
      ((∑ t : Fin 512, (x0 (ix3 0 t l) : EReal) * (x2 (ix2 ⟨t.val, by omega⟩ n) : EReal)) + ∑ t : Fin 512, (x1 (ix3 0 l t) : EReal) * (x2 (ix2 ⟨512 + t.val, by omega⟩ n) : EReal)) := by
  unfold out0_5
  rw [View.canon_cons_unit_zero zero3, View.ld_unit_zero zero3 _ x0, View.ld_unit_zero zero3 _ x1, View.ld_unit_zero zero3 _ x3, View.ld_unit_zero zero3 _ x4]
  refine (pay_apply _ _ _ _ _ _ l n).trans ?_
  exact congrArg (x3 (ix3 0 l n) + x4 (ix3 0 0 n) * ·) (congrArg₂ (· + ·)
    (Finset.sum_congr rfl fun t _ => congrArg (x0 (ix3 0 t l) * ·) (ld_lo x2 t n))
    (Finset.sum_congr rfl fun t _ => congrArg (x1 (ix3 0 l t) * ·) (ld_hi x2 t n)))

/-! ## The host's arrays and the blocks -/

theorem v0_apply (k n : Fin 1024) : (V m c main_v0 : Vec Ideal S1024x1024 .bf16) (ix2 k n) = m ((c : Thread nD τ).loc main_arg2) (ix2 k n) := by
  entry_read
  pointwise
theorem v1_apply (b : Fin 2) (n : Fin 1024) : (V m c main_v1 : Vec Ideal S2x1x1024 .f32) (ix3 b 0 n) = m ((c : Thread nD τ).loc main_arg4) (ix2 b n) := by
  entry_read
  pointwise
theorem a0_eq : V m c main_arg0 = m ((c : Thread nD τ).loc main_arg0) := by
  entry_read
  rfl
theorem a1_eq : V m c main_arg1 = m ((c : Thread nD τ).loc main_arg1) := by
  entry_read
  rfl
theorem a3_eq : V m c main_arg3 = m ((c : Thread nD τ).loc main_arg3) := by
  entry_read
  rfl

/-- The two coordinates of a grid point. -/
def tb (t : Fin cfg0.N) : Fin 2 := ⟨t.val / 16, by have := lt_of_lt_of_eq t.isLt (show cfg0.N = 32 from N_0); omega⟩
def ti (t : Fin cfg0.N) : Fin 16 := ⟨t.val % 16, by omega⟩
/-- The row of the whole array at row `l` of a grid point's tile. -/
def row (t : Fin cfg0.N) (l : Fin 1024) : Fin 16384 := ⟨(ti t).val * 1024 + l.val, by omega⟩

theorem index0 (t : Fin cfg0.N) : win0_0.index t 0 = (tb t).val ∧ win0_0.index t 1 = 0 ∧ win0_0.index t 2 = (ti t).val :=
  (by decide +kernel : ∀ t : Fin grid0.N, win0_0.index t 0 = t.val / 16 ∧ win0_0.index t 1 = 0 ∧ win0_0.index t 2 = t.val % 16) t
theorem index1 (t : Fin cfg0.N) : win0_1.index t 0 = (tb t).val ∧ win0_1.index t 1 = (ti t).val ∧ win0_1.index t 2 = 0 :=
  (by decide +kernel : ∀ t : Fin grid0.N, win0_1.index t 0 = t.val / 16 ∧ win0_1.index t 1 = t.val % 16 ∧ win0_1.index t 2 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = (tb t).val ∧ win0_3.index t 1 = (ti t).val ∧ win0_3.index t 2 = 0 :=
  (by decide +kernel : ∀ t : Fin grid0.N, win0_3.index t 0 = t.val / 16 ∧ win0_3.index t 1 = t.val % 16 ∧ win0_3.index t 2 = 0) t
theorem index4 (t : Fin cfg0.N) : win0_4.index t 0 = (tb t).val ∧ win0_4.index t 1 = 0 ∧ win0_4.index t 2 = 0 :=
  (by decide +kernel : ∀ t : Fin grid0.N, win0_4.index t 0 = t.val / 16 ∧ win0_4.index t 1 = 0 ∧ win0_4.index t 2 = 0) t
theorem index5 (t : Fin cfg0.N) : win0_5.index t 0 = (tb t).val ∧ win0_5.index t 1 = (ti t).val ∧ win0_5.index t 2 = 0 :=
  (by decide +kernel : ∀ t : Fin grid0.N, win0_5.index t 0 = t.val / 16 ∧ win0_5.index t 1 = t.val % 16 ∧ win0_5.index t 2 = 0) t

theorem emb0 (t : Fin cfg0.N) (d : Fin 512) (l : Fin 1024) : ((cfg0.win 0).blk t).view.emb (ix3 0 d l) = ix3 (tb t) d (row t l) := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 512 + d.val = d.val; rw [h1, Nat.zero_mul, Nat.zero_add])
  | ⟨2, _⟩ => exact (Pipeline.Window.rect_emb_val _ _ _ _).trans (by show win0_0.index t 2 * 1024 + l.val = (ti t).val * 1024 + l.val; rw [h2])
theorem emb1 (t : Fin cfg0.N) (l : Fin 1024) (d : Fin 512) : ((cfg0.win 1).blk t).view.emb (ix3 0 l d) = ix3 (tb t) (row t l) d := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 1024 + l.val = (ti t).val * 1024 + l.val; rw [h1])
  | ⟨2, _⟩ => exact (Pipeline.Window.rect_emb_val _ _ _ _).trans (by show win0_1.index t 2 * 512 + d.val = d.val; rw [h2, Nat.zero_mul, Nat.zero_add])
theorem emb2 (t : Fin cfg0.N) (k n : Fin 1024) : ((cfg0.win 2).blk t).view.emb (ix2 k n) = ix2 k n := by
  obtain ⟨h0, h1⟩ := index2 t
  refine funext fun a => Fin.ext ?_
  match a with
  | ⟨0, _⟩ => exact (Pipeline.Window.rect_emb_val _ _ _ _).trans (by show win0_2.index t 0 * 1024 + k.val = k.val; rw [h0, Nat.zero_mul, Nat.zero_add])
  | ⟨1, _⟩ => exact (Pipeline.Window.rect_emb_val _ _ _ _).trans (by show win0_2.index t 1 * 1024 + n.val = n.val; rw [h1, Nat.zero_mul, Nat.zero_add])
theorem emb3 (t : Fin cfg0.N) (l n : Fin 1024) : ((cfg0.win 3).blk t).view.emb (ix3 0 l n) = ix3 (tb t) (row t l) n := by
  obtain ⟨h0, h1, h2⟩ := index3 t
  refine funext fun a => Fin.ext ?_
  match a with
  | ⟨0, _⟩ => exact (Pipeline.Window.rect_emb_val _ _ _ _).trans (by show win0_3.index t 0 * 1 + 0 = (tb t).val; rw [h0, Nat.mul_one, Nat.add_zero])
  | ⟨1, _⟩ => exact (Pipeline.Window.rect_emb_val _ _ _ _).trans (by show win0_3.index t 1 * 1024 + l.val = (ti t).val * 1024 + l.val; rw [h1])
  | ⟨2, _⟩ => exact (Pipeline.Window.rect_emb_val _ _ _ _).trans (by show win0_3.index t 2 * 1024 + n.val = n.val; rw [h2, Nat.zero_mul, Nat.zero_add])
theorem emb4 (t : Fin cfg0.N) (n : Fin 1024) : ((cfg0.win 4).blk t).view.emb (ix3 0 0 n) = ix3 (tb t) 0 n := by
  obtain ⟨h0, h1, h2⟩ := index4 t
  refine funext fun a => Fin.ext ?_
  match a with
  | ⟨0, _⟩ => exact (Pipeline.Window.rect_emb_val _ _ _ _).trans (by show win0_4.index t 0 * 1 + 0 = (tb t).val; rw [h0, Nat.mul_one, Nat.add_zero])
  | ⟨1, _⟩ => exact (Pipeline.Window.rect_emb_val _ _ _ _).trans (by show win0_4.index t 1 * 1 + 0 = 0; rw [h1])
  | ⟨2, _⟩ => exact (Pipeline.Window.rect_emb_val _ _ _ _).trans (by show win0_4.index t 2 * 1024 + n.val = n.val; rw [h2, Nat.zero_mul, Nat.zero_add])
theorem emb5 (t : Fin cfg0.N) (l n : Fin 1024) : ((cfg0.win 5).blk t).view.emb (ix3 0 l n) = ix3 (tb t) (row t l) n := by
  obtain ⟨h0, h1, h2⟩ := index5 t
  refine funext fun a => Fin.ext ?_
  match a with
  | ⟨0, _⟩ => exact (Pipeline.Window.rect_emb_val _ _ _ _).trans (by show win0_5.index t 0 * 1 + 0 = (tb t).val; rw [h0, Nat.mul_one, Nat.add_zero])
  | ⟨1, _⟩ => exact (Pipeline.Window.rect_emb_val _ _ _ _).trans (by show win0_5.index t 1 * 1024 + l.val = (ti t).val * 1024 + l.val; rw [h1])
  | ⟨2, _⟩ => exact (Pipeline.Window.rect_emb_val _ _ _ _).trans (by show win0_5.index t 2 * 1024 + n.val = n.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_arg1 (((cfg0.win 1).blk t).view.emb x) := rfl
theorem read2 (x) : ((cfg0.win 2).blk t).view.read (Elt Ideal) (X (Pipeline.arrRef spec0 2)) x = X main_v0 (((cfg0.win 2).blk t).view.emb x) := rfl
theorem read3 (x) : ((cfg0.win 3).blk t).view.read (Elt Ideal) (X (Pipeline.arrRef spec0 3)) x = X main_arg3 (((cfg0.win 3).blk t).view.emb x) := rfl
theorem read4 (x) : ((cfg0.win 4).blk t).view.read (Elt Ideal) (X (Pipeline.arrRef spec0 4)) x = X main_v1 (((cfg0.win 4).blk t).view.emb x) := rfl
end

theorem blk0_apply (t : Fin cfg0.N) (d : Fin 512) (l : Fin 1024) : (iblk m c 0 t : Vec Ideal S1x512x1024 .f32) (ix3 0 d l) = m ((c : Thread nD τ).loc main_arg0) (ix3 (tb t) d (row t l)) :=
  (read0 c (V m c) t _).trans ((congrArg (V m c main_arg0) (emb0 t d l)).trans (congrFun (a0_eq m c) _))
theorem blk1_apply (t : Fin cfg0.N) (l : Fin 1024) (d : Fin 512) : (iblk m c 1 t : Vec Ideal S1x1024x512 .f32) (ix3 0 l d) = m ((c : Thread nD τ).loc main_arg1) (ix3 (tb t) (row t l) d) :=
  (read1 c (V m c) t _).trans ((congrArg (V m c main_arg1) (emb1 t l d)).trans (congrFun (a1_eq m c) _))
theorem blk2_apply (t : Fin cfg0.N) (k n : Fin 1024) : (iblk m c 2 t : Vec Ideal S1024x1024 .bf16) (ix2 k n) = m ((c : Thread nD τ).loc main_arg2) (ix2 k n) :=
  (read2 c (V m c) t _).trans ((congrArg (V m c main_v0) (emb2 t k n)).trans (v0_apply m c k n))
theorem blk3_apply (t : Fin cfg0.N) (l n : Fin 1024) : (iblk m c 3 t : Vec Ideal S1x1024x1024 .f32) (ix3 0 l n) = m ((c : Thread nD τ).loc main_arg3) (ix3 (tb t) (row t l) n) :=
  (read3 c (V m c) t _).trans ((congrArg (V m c main_arg3) (emb3 t l n)).trans (congrFun (a3_eq m c) _))
theorem blk4_apply (t : Fin cfg0.N) (n : Fin 1024) : (iblk m c 4 t : Vec Ideal S1x1x1024 .f32) (ix3 0 0 n) = m ((c : Thread nD τ).loc main_arg4) (ix2 (tb t) n) :=
  (read4 c (V m c) t _).trans ((congrArg (V m c main_v1) (emb4 t n)).trans (v1_apply m c (tb t) n))

/-! ## The whole result -/

/-- The reference's result of the kernel's arguments. -/
def result : FVec Ideal Cert.Reference5Ideal.S2x16384x1024 .f32 :=
  Cert.Reference5Ideal.Proj.res (m ((c : Thread nD τ).loc main_arg0)) (m ((c : Thread nD τ).loc main_arg1)) (m ((c : Thread nD τ).loc main_arg2)) (m ((c : Thread nD τ).loc main_arg3)) (m ((c : Thread nD τ).loc main_arg4))

theorem left_eq (t : Fin cfg0.N) (l n : Fin 1024) :
    out0_5 (iblk m c 0 t) (iblk m c 1 t) (iblk m c 2 t) (iblk m c 3 t) (iblk m c 4 t) (ix3 0 l n) = result m c (ix3 (tb t) (row t l) n) := by
  refine (out_apply _ _ _ _ _ l n).trans (Eq.trans ?_ (Cert.Reference5Ideal.Proj.res_apply _ _ _ _ _ (tb t) (row t l) n).symm)
  rw [blk3_apply, blk4_apply]
  simp only [blk0_apply, blk1_apply, blk2_apply]

theorem array_eq : (dats m 0 c).arrAt 5 cfg0.N = (result m c : Vec Ideal S2x16384x1024 .f32) := by
  refine (dats m 0 c).arrAt_eq_of_covers 5 _ (by decide +kernel) fun t hf y => ?_
  have hy : (y : S1x1024x1024.Idx) = ix3 0 (y 1) (y 2) := funext fun a => by
    match a with
    | ⟨0, _⟩ => exact Subsingleton.elim (α := Fin 1) _ _
    | ⟨1, _⟩ => rfl
    | ⟨2, _⟩ => rfl
  blk_simp
  rw [after0_5]
  refine (congrArg (out0_5 (iblk m c 0 t) (iblk m c 1 t) (iblk m c 2 t) (iblk m c 3 t) (iblk m c 4 t)) hy).trans ((left_eq m c t (y 1) (y 2)).trans (congrArg (result m c) ?_))
  exact (emb5 t (y 1) (y 2)).symm.trans (congrArg ((win0_5.blk t).view.emb) hy.symm)
end Cert.Kernel5Ideal.Proj

namespace Cert.OutOdd
theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem preserves : Cert.preserves_Kernel5_Kernel5Ideal := trivial

/-- The two programs' results are one array. -/
theorem algebraic : Cert.algebraic_Kernel5Ideal_Reference5Ideal := by
  intro m ρ m' ρ' hpre hagree
  refine ⟨fun c => Cert.Kernel5Ideal.Proj.result m c, ?_, ?_⟩
  · refine (θ_run Cert.Kernel5Ideal.defs _ _).mono (fun _ h c => ⟨(h c).1.trans ?_, (h c).2⟩) (Cert.Kernel5Ideal.Value.run_blocks (F := Ideal) m ρ)
    exact Cert.Kernel5Ideal.Proj.array_eq m c
  · refine (θ_run Cert.Reference5Ideal.defs _ _).mono (fun _ h c => ⟨(h c).1.trans ?_, (h c).2⟩) (Cert.Reference5Ideal.Value.run (F := Ideal) m' ρ')
    obtain ⟨e0, e1, e2, e3, e4⟩ := hagree c
    rw [e0, e1, e2, e3, e4]
    rfl
end Cert.OutOdd
-- ==== Proof.AttendSecond.lean ====
/- The second even layer: the two halves of the queries, and what the block on the diagonal adds to an accumulator. -/
module

public import proofs.«01_k».proof.Proof.Attend
public import proofs.«01_k».proof.Proof.Gen.Kernel6Ideal.Skeleton
public import Idealize.ShloMosaic.Lib.Pointwise
public import Idealize.ShloMosaic.PureOps.IdealRules

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (kf kf_of_lt qh ew acc acc_add acc_block)

/-- The name "mask" is worth minus infinity. -/
theorem mask_eq : Named.named (F := Ideal) κ "mask" (φ := .f32) 0xF149F2CA#32 = (⊥ : EReal) :=
  IdealRules.named_const.ideal_named_scalar _ _ _ _ rfl

section
variable {x0 : Vec Ideal S1x128x512 .bf16} {x1 : Vec Ideal S1x16384x128 .bf16} {x2 : Vec Ideal S1x144x16384 .bf16}

/-- The first half of the queries, as the kernel masks them. -/
theorem pay17_apply (d : Fin 128) (l : Fin 512) : k0_pay17 (F := Ideal) x0 (ix2 d l) = qh x0 0 d l := by
  have h : ∀ d : Fin 128, IntOp.andi (IntOp.cmpi CmpIPredicate.sge (BitVec.ofNat 32 ↑d) 0#32)
      (IntOp.cmpi CmpIPredicate.slt (BitVec.ofNat 32 ↑d) 64#32) = if d.val / 64 = 0 then 1#1 else 0#1 := by decide
  pointwise [k0_pay17, k0_pay16, qh]
  rw [h d]
  split <;> rfl

/-- The second half of the queries. -/
theorem pay18_apply (d : Fin 128) (l : Fin 512) : k0_pay18 (F := Ideal) x0 (ix2 d l) = qh x0 1 d l := by
  have h : ∀ d : Fin 128, IntOp.andi (IntOp.cmpi CmpIPredicate.sge (BitVec.ofNat 32 ↑d) 64#32)
      (IntOp.cmpi CmpIPredicate.slt (BitVec.ofNat 32 ↑d) 128#32) = if d.val / 64 = 1 then 1#1 else 0#1 := by decide
  pointwise [k0_pay18, k0_pay16, qh]
  rw [h d]
  split <;> rfl

/-- The block on the diagonal, whose keys past the query weigh nothing. -/
theorem acc_diag {n ch : ℕ} (r : Fin 144) (l : Fin 512) {q : Fin 128 → EReal} {K : Fin 512 → Fin 128 → EReal} {V : Fin 512 → EReal}
    {a : EReal} (hq : ∀ d, q d = qh x0 ch d l) (hK : ∀ j d, K j d = x1 (ix3 0 (kf (n + j)) d))
    (hV : ∀ j, V j = x2 (ix3 0 r (kf (n + j)))) (ha : a = acc x0 x1 x2 ch r l n) :
    a + ∑ j : Fin 512, V j * FloatOps.exp2 (F := Ideal) (φ := .f32)
        (Scalar.select (IntOp.cmpi CmpIPredicate.sle (BitVec.ofNat 32 ↑j) (BitVec.ofNat 32 ↑l)) (∑ d, K j d * q d)
          (Named.named (F := Ideal) κ "mask" (φ := .f32) 0xF149F2CA#32))
      = acc x0 x1 x2 ch r l (n + (l.val + 1)) := by
  rw [acc_add, ha, mask_eq]
  congr 1
  have hs : ∀ j : Fin 512, IntOp.cmpi CmpIPredicate.sle (BitVec.ofNat 32 ↑j) (BitVec.ofNat 32 ↑l)
      = if j.val < l.val + 1 then 1#1 else 0#1 := by
    intro j
    have hj := j.isLt
    have hl := l.isLt
    have : (BitVec.ofNat 32 ↑j).sle (BitVec.ofNat 32 ↑l) = decide (j.val < l.val + 1) := by
      rw [BitVec.sle_eq_decide]
      congr 1
      have e : ∀ k < 512, (BitVec.ofNat 32 k).toInt = k := fun k hk => by
        rw [BitVec.toInt_eq_toNat_of_lt (by rw [BitVec.toNat_ofNat]; omega), BitVec.toNat_ofNat]
        omega
      rw [e _ hj, e _ hl]
      apply propext
      omega
    show BitVec.ofBool _ = _
    rw [this]
    by_cases h : j.val < l.val + 1 <;> simp [h]
  rw [Fin.sum_univ_eq_sum_range (fun j => x2 (ix3 0 r (kf (n + j))) * ew x0 x1 ch l (n + j))]
  have hterm : ∀ j : Fin 512, V j * FloatOps.exp2 (F := Ideal) (φ := .f32)
        (Scalar.select (IntOp.cmpi CmpIPredicate.sle (BitVec.ofNat 32 ↑j) (BitVec.ofNat 32 ↑l)) (∑ d, K j d * q d) (⊥ : EReal))
      = (fun j : ℕ => if j < l.val + 1 then x2 (ix3 0 r (kf (n + j))) * ew x0 x1 ch l (n + j) else 0) j.val := by
    intro j
    rw [hs j]
    by_cases h : j.val < l.val + 1
    · simp only [h, if_true]
      simp only [hq, hK, hV]
      rfl
    · simp only [h, if_false]
      show V j * Ideal.exp2 ⊥ = 0
      rw [Ideal.exp2_bot, mul_zero]
  rw [Finset.sum_congr rfl fun j _ => hterm j, Fin.sum_univ_eq_sum_range (fun j : ℕ => if j < l.val + 1 then x2 (ix3 0 r (kf (n + j))) * ew x0 x1 ch l (n + j) else 0),
    ← Finset.sum_filter]
  apply Finset.sum_congr _ fun _ _ => rfl
  ext j
  have := l.isLt
  simp only [Finset.mem_filter, Finset.mem_range]
  omega

end

end Cert.Kernel6Ideal.DA
-- ==== Proof.SlotsSecond.lean ====
/- The second even layer: the scratch buffer of the two accumulators, and what its two halves hold while key blocks are added. -/
module

public import proofs.«01_k».proof.Proof.AttendSecond
public import proofs.«01_k».proof.Proof.Gen.Kernel6Ideal.Loops
public import Idealize.ShloMosaic.Lib.Pipeline.Value
public import Idealize.ShloMosaic.Lib.WritesUnit

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (kf kf_of_lt qh ew acc acc_add acc_block)

/-! ## Where the kernel reads its keys -/

/-- A grid point with a given last coordinate. -/
def at2 (z : Fin 32) : grid0.Coords
  | ⟨0, _⟩ => (0 : Fin 2)
  | ⟨1, _⟩ => (0 : Fin 4)
  | ⟨2, _⟩ => z

theorem trips_t1 (i : grid0.Coords) : (k0_t1_loop i).trips = (i 2).val / 8 := by
  have h : ∀ z : Fin 32, (k0_t1_loop (at2 z)).trips = z.val / 8 := by decide +kernel
  exact h (i 2)
theorem trips_t2 (i : grid0.Coords) : (k0_t2_loop i).trips = 0 := Nat.le_zero.mp (k0_t2_abs i).2.1

theorem iv_eq : ∀ k : Fin 4, (Scalar.indexCast (Scalar.muli (Scalar.muli 8#32 (Scf.iv 0#32 1#32 k.val)) 512#32) : Index).toNat = 4096 * k.val := by
  decide +kernel

theorem off1_eq (i : grid0.Coords) (k : Fin (k0_t1_loop i).trips) : k0_off1 i k = ![0, 4096 * k.val, 0] := by
  have hk : k.val < 4 := lt_of_lt_of_le k.isLt (le_trans (k0_t1_abs i).2.1 (by norm_num))
  unfold k0_off1
  exact congrArg (fun n => ![0, n, 0]) (iv_eq ⟨k.val, hk⟩)
theorem off2_eq (i : grid0.Coords) (k : Fin (k0_t1_loop i).trips) : k0_off2 i k = ![0, 0, 4096 * k.val] := by
  have hk : k.val < 4 := lt_of_lt_of_le k.isLt (le_trans (k0_t1_abs i).2.1 (by norm_num))
  unfold k0_off2
  exact congrArg (fun n => ![0, 0, n]) (iv_eq ⟨k.val, hk⟩)

theorem off5_eq (i : grid0.Coords) : k0_off5 i = ![0, 4096 * ((i 2).val / 8), 0] := by
  have h : ∀ z : Fin 32, k0_off5 (at2 z) = ![0, 4096 * (z.val / 8), 0] := by decide +kernel
  exact h (i 2)
theorem off6_eq (i : grid0.Coords) : k0_off6 i = ![0, 0, 4096 * ((i 2).val / 8)] := by
  have h : ∀ z : Fin 32, k0_off6 (at2 z) = ![0, 0, 4096 * (z.val / 8)] := by decide +kernel
  exact h (i 2)
theorem off7_eq (i : grid0.Coords) : k0_off7 i = ![0, 2048 * ((i 2).val / 4), 0] := by
  have h : ∀ z : Fin 32, k0_off7 (at2 z) = ![0, 2048 * (z.val / 4), 0] := by decide +kernel
  exact h (i 2)
theorem off8_eq (i : grid0.Coords) : k0_off8 i = ![0, 0, 2048 * ((i 2).val / 4)] := by
  have h : ∀ z : Fin 32, k0_off8 (at2 z) = ![0, 0, 2048 * (z.val / 4)] := by decide +kernel
  exact h (i 2)
theorem off9_eq (i : grid0.Coords) : k0_off9 i = ![0, 1024 * ((i 2).val / 2), 0] := by
  have h : ∀ z : Fin 32, k0_off9 (at2 z) = ![0, 1024 * (z.val / 2), 0] := by decide +kernel
  exact h (i 2)
theorem off10_eq (i : grid0.Coords) : k0_off10 i = ![0, 0, 1024 * ((i 2).val / 2)] := by
  have h : ∀ z : Fin 32, k0_off10 (at2 z) = ![0, 0, 1024 * (z.val / 2)] := by decide +kernel
  exact h (i 2)
theorem cond0_iff (i : grid0.Coords) : k0_cond1 i = 1#1 ↔ 4 ≤ (i 2).val % 8 := by
  have h : ∀ z : Fin 32, k0_cond1 (at2 z) = 1#1 ↔ 4 ≤ z.val % 8 := by decide +kernel
  exact h (i 2)
theorem cond1_iff (i : grid0.Coords) : k0_cond2 i = 1#1 ↔ 2 ≤ (i 2).val % 4 := by
  have h : ∀ z : Fin 32, k0_cond2 (at2 z) = 1#1 ↔ 2 ≤ z.val % 4 := by decide +kernel
  exact h (i 2)
theorem cond2_iff (i : grid0.Coords) : k0_cond3 i = 1#1 ↔ (i 2).val % 2 = 1 := by
  have h : ∀ z : Fin 32, k0_cond3 (at2 z) = 1#1 ↔ z.val % 2 = 1 := by decide +kernel
  exact h (i 2)

section
variable {x0 : Vec Ideal S1x128x512 .bf16} {x1 : Vec Ideal S1x16384x128 .bf16} {x2 : Vec Ideal S1x144x16384 .bf16}

/-- A block of keys read from position `n` on. -/
theorem ld_k {m n : ℕ} {o : Fin 3 → ℕ} (hn : n + m ≤ 16384) (ho : o = ![0, n, 0]) (inb : ∀ a, o a + (⟨3, ![1, m, 128]⟩ : Shape).size a ≤ S1x16384x128.size a)
    (j : Fin m) (d : Fin 128) :
    View.ld x1 (Rect.unit o (⟨3, ![1, m, 128]⟩ : Shape).size inb) (ix3 0 j d) = x1 (ix3 0 (kf (n + j)) d) := by
  subst ho
  rw [kf_of_lt (by omega)]
  show x1 _ = x1 _
  congr 1
  funext a
  match a with
  | ⟨0, _⟩ => exact Fin.ext rfl
  | ⟨1, _⟩ => exact Fin.ext (congrArg (n + ·) (Nat.one_mul _))
  | ⟨2, _⟩ => exact Fin.ext ((Nat.zero_add _).trans (Nat.one_mul _))

/-- A block of values read from position `n` on. -/
theorem ld_v {m n : ℕ} {o : Fin 3 → ℕ} (hn : n + m ≤ 16384) (ho : o = ![0, 0, n]) (inb : ∀ a, o a + (⟨3, ![1, 144, m]⟩ : Shape).size a ≤ S1x144x16384.size a)
    (r : Fin 144) (j : Fin m) :
    View.ld x2 (Rect.unit o (⟨3, ![1, 144, m]⟩ : Shape).size inb) (ix3 0 r j) = x2 (ix3 0 r (kf (n + j))) := by
  subst ho
  rw [kf_of_lt (by omega)]
  show x2 _ = x2 _
  congr 1
  funext a
  match a with
  | ⟨0, _⟩ => exact Fin.ext rfl
  | ⟨1, _⟩ => exact Fin.ext ((Nat.zero_add _).trans (Nat.one_mul _))
  | ⟨2, _⟩ => exact Fin.ext (congrArg (n + ·) (Nat.one_mul _))

/-! ## The two halves of the scratch buffer -/

variable (x0 x1 x2) in
/-- Both accumulators hold the first `n` keys. -/
def Holds (v : View sig .tc .vmem S2x144x512 .f32) (f : v.ty.Contents (Elt Ideal)) (n : ℕ) : Prop :=
  ∀ r l, v.read (Elt Ideal) f (ix3 0 r l) = acc x0 x1 x2 0 r l n ∧ v.read (Elt Ideal) f (ix3 1 r l) = acc x0 x1 x2 1 r l n

variable {v : View sig .tc .vmem S2x144x512 .f32} {n n' : ℕ}

theorem load0 {f : v.ty.Contents (Elt Ideal)} (h : Holds x0 x1 x2 v f n) (inb) (r : Fin 144) (l : Fin 512) :
    (v.readAt (Elt Ideal) (Rect.unit (s := S2x144x512) ![0, 0, 0] S1x144x512.size inb).toLoadRect f : Vec Ideal S1x144x512 .f32) (ix3 0 r l) = acc x0 x1 x2 0 r l n := by
  refine Eq.trans ?_ (h r l).1
  rw [View.readAt_eq_ld]
  pointwise

theorem load1 {f : v.ty.Contents (Elt Ideal)} (h : Holds x0 x1 x2 v f n) (inb) (r : Fin 144) (l : Fin 512) :
    (v.readAt (Elt Ideal) (Rect.unit (s := S2x144x512) ![1, 0, 0] S1x144x512.size inb).toLoadRect f : Vec Ideal S1x144x512 .f32) (ix3 0 r l) = acc x0 x1 x2 1 r l n := by
  refine Eq.trans ?_ (h r l).2
  rw [View.readAt_eq_ld]
  pointwise

theorem load1_past {f : v.ty.Contents (Elt Ideal)} {L : List (View.Piece (Elt Ideal) S2x144x512 .f32)} (h : Holds x0 x1 x2 v (v.writes (Elt Ideal) f L) n) (inb inb') (w) (r : Fin 144) (l : Fin 512) :
    (v.readAt (Elt Ideal) (Rect.unit (s := S2x144x512) ![1, 0, 0] S1x144x512.size inb).toLoadRect
      (v.writes (Elt Ideal) f (⟨Rect.unit (s := S2x144x512) ![0, 0, 0] S1x144x512.size inb', w⟩ :: L)) : Vec Ideal S1x144x512 .f32) (ix3 0 r l) = acc x0 x1 x2 1 r l n := by
  refine Eq.trans ?_ (h r l).2
  rw [View.readAt_eq_ld]
  pointwise
  exact View.read_writes_cons_unit_of_not_mem v f inb' w L (ix3 1 r l) rfl 0 (Or.inr (le_refl 1))

theorem store {f : v.ty.Contents (Elt Ideal)} {L : List (View.Piece (Elt Ideal) S2x144x512 .f32)} (inb inb') (w0 w1 : Vec Ideal S1x144x512 .f32)
    (h0 : ∀ r l, w0 (ix3 0 r l) = acc x0 x1 x2 0 r l n) (h1 : ∀ r l, w1 (ix3 0 r l) = acc x0 x1 x2 1 r l n) :
    Holds x0 x1 x2 v (v.writes (Elt Ideal) f (⟨Rect.unit (s := S2x144x512) ![1, 0, 0] S1x144x512.size inb, w1⟩ :: ⟨Rect.unit (s := S2x144x512) ![0, 0, 0] S1x144x512.size inb', w0⟩ :: L)) n := by
  intro r l
  constructor
  · rw [View.read_writes_cons_unit_of_not_mem v f inb w1 _ (ix3 0 r l) rfl 0 (Or.inl (Nat.zero_lt_one)), ← h0 r l]
    exact View.read_writes_cons_unit_of_mem v f inb' w0 L (ix3 0 r l) (ix3 0 r l) rfl fun a => by
      match a with
      | ⟨0, _⟩ => rfl
      | ⟨1, _⟩ => exact (Nat.zero_add _).symm
      | ⟨2, _⟩ => exact (Nat.zero_add _).symm
  · rw [← h1 r l]
    exact View.read_writes_cons_unit_of_mem v f inb w1 _ (ix3 1 r l) (ix3 0 r l) rfl fun a => by
      match a with
      | ⟨0, _⟩ => rfl
      | ⟨1, _⟩ => exact (Nat.zero_add _).symm
      | ⟨2, _⟩ => exact (Nat.zero_add _).symm

/-- The zeros the kernel starts from. -/
theorem start {f : v.ty.Contents (Elt Ideal)} (inb) :
    Holds x0 x1 x2 v (v.writes (Elt Ideal) f [⟨Rect.unit (s := S2x144x512) ![0, 0, 0] S2x144x512.size inb, (k0_pay15 (F := Ideal) : Vec Ideal S2x144x512 .f32)⟩]) 0 := by
  intro r l
  have h : ∀ ch, v.read (Elt Ideal) (v.writes (Elt Ideal) f [⟨Rect.unit (s := S2x144x512) ![0, 0, 0] S2x144x512.size inb, (k0_pay15 (F := Ideal) : Vec Ideal S2x144x512 .f32)⟩]) (ix3 ch r l) = (0 : EReal) := by
    intro ch
    rw [View.read_writes_cons_unit_of_mem v f inb (k0_pay15 (F := Ideal) : Vec Ideal S2x144x512 .f32) [] (ix3 ch r l) (ix3 ch r l) rfl fun a => by
      match a with
      | ⟨0, _⟩ => exact (Nat.zero_add _).symm
      | ⟨1, _⟩ => exact (Nat.zero_add _).symm
      | ⟨2, _⟩ => exact (Nat.zero_add _).symm]
    pointwise [k0_pay15]
  exact ⟨(h 0).trans (by simp [acc]), (h 1).trans (by simp [acc])⟩

end

end Cert.Kernel6Ideal.DA
-- ==== Proof.TripsSecond.lean ====
/- The second even layer: each block of keys the kernel takes, at its own size, and the loop over the large blocks. -/
module

public import proofs.«01_k».proof.Proof.SlotsSecond

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (kf kf_of_lt qh ew acc acc_add acc_block)

section
variable {x0 : Vec Ideal S1x128x512 .bf16} {x1 : Vec Ideal S1x16384x128 .bf16} {x2 : Vec Ideal S1x144x16384 .bf16}
variable {q : FVec Ideal S128x512 .bf16} {a : Vec Ideal S1x144x512 .f32} {n ch : ℕ}

/-- 4096 keys into accumulator 0. -/
theorem block4096_0 {K : Vec Ideal S1x4096x128 .bf16} {V : Vec Ideal S1x144x4096 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay21 (F := Ideal) q K V a (ix3 0 r l) = acc x0 x1 x2 ch r l (n + 4096) := by
  pointwise [k0_pay21, k0_pay20, k0_pay19]
  exact acc_block r l (hq · l) hK (hV r) (ha r l)

/-- 4096 keys into accumulator 1. -/
theorem block4096_1 {K : Vec Ideal S1x4096x128 .bf16} {V : Vec Ideal S1x144x4096 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay22 (F := Ideal) q K V a (ix3 0 r l) = acc x0 x1 x2 ch r l (n + 4096) := by
  pointwise [k0_pay22, k0_pay20, k0_pay19]
  exact acc_block r l (hq · l) hK (hV r) (ha r l)

/-- 2048 keys into accumulator 0. -/
theorem block2048_0 {K : Vec Ideal S1x2048x128 .bf16} {V : Vec Ideal S1x144x2048 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay5 (F := Ideal) q K V a (ix3 0 r l) = acc x0 x1 x2 ch r l (n + 2048) := by
  pointwise [k0_pay5, k0_pay3, k0_pay2]
  exact acc_block r l (hq · l) hK (hV r) (ha r l)

/-- 2048 keys into accumulator 1. -/
theorem block2048_1 {K : Vec Ideal S1x2048x128 .bf16} {V : Vec Ideal S1x144x2048 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay27 (F := Ideal) (k0_pay3 V) (k0_pay4 q K) a (ix3 0 r l) = acc x0 x1 x2 ch r l (n + 2048) := by
  pointwise [k0_pay27, k0_pay4, k0_pay3, k0_pay2]
  exact acc_block r l (hq · l) hK (hV r) (ha r l)

/-- 1024 keys into accumulator 0. -/
theorem block1024_0 {K : Vec Ideal S1x1024x128 .bf16} {V : Vec Ideal S1x144x1024 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay9 (F := Ideal) q K V a (ix3 0 r l) = acc x0 x1 x2 ch r l (n + 1024) := by
  pointwise [k0_pay9, k0_pay7, k0_pay6]
  exact acc_block r l (hq · l) hK (hV r) (ha r l)

/-- 1024 keys into accumulator 1. -/
theorem block1024_1 {K : Vec Ideal S1x1024x128 .bf16} {V : Vec Ideal S1x144x1024 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay28 (F := Ideal) (k0_pay7 V) (k0_pay8 q K) a (ix3 0 r l) = acc x0 x1 x2 ch r l (n + 1024) := by
  pointwise [k0_pay28, k0_pay8, k0_pay7, k0_pay6]
  exact acc_block r l (hq · l) hK (hV r) (ha r l)

/-- 512 keys into accumulator 0. -/
theorem block512_0 {K : Vec Ideal S1x512x128 .bf16} {V : Vec Ideal S1x144x512 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay13 (F := Ideal) q K V a (ix3 0 r l) = acc x0 x1 x2 ch r l (n + 512) := by
  pointwise [k0_pay13, k0_pay11, k0_pay10]
  exact acc_block r l (hq · l) hK (hV r) (ha r l)

/-- 512 keys into accumulator 1. -/
theorem block512_1 {K : Vec Ideal S1x512x128 .bf16} {V : Vec Ideal S1x144x512 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay29 (F := Ideal) (k0_pay11 V) (k0_pay12 q K) a (ix3 0 r l) = acc x0 x1 x2 ch r l (n + 512) := by
  pointwise [k0_pay29, k0_pay12, k0_pay11, k0_pay10]
  exact acc_block r l (hq · l) hK (hV r) (ha r l)

/-- The block on the diagonal into accumulator 0. -/
theorem diag_0 {K : Vec Ideal S1x512x128 .bf16} {V : Vec Ideal S1x144x512 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay33 (F := Ideal) q k0_pay30 (k0_pay31 K) V a (ix3 0 r l) = acc x0 x1 x2 ch r l (n + (l.val + 1)) := by
  pointwise [k0_pay33, k0_pay32, k0_pay31, k0_pay30]
  exact acc_diag r l (hq · l) hK (hV r) (ha r l)

/-- The block on the diagonal into accumulator 1. -/
theorem diag_1 {K : Vec Ideal S1x512x128 .bf16} {V : Vec Ideal S1x144x512 .bf16} (hq : ∀ d l, q (ix2 d l) = qh x0 ch d l)
    (hK : ∀ j d, K (ix3 0 j d) = x1 (ix3 0 (kf (n + j.val)) d)) (hV : ∀ r j, V (ix3 0 r j) = x2 (ix3 0 r (kf (n + j.val))))
    (ha : ∀ r l, a (ix3 0 r l) = acc x0 x1 x2 ch r l n) (r : Fin 144) (l : Fin 512) :
    k0_pay34 (F := Ideal) q k0_pay30 (k0_pay31 K) V a (ix3 0 r l) = acc x0 x1 x2 ch r l (n + (l.val + 1)) := by
  pointwise [k0_pay34, k0_pay32, k0_pay31, k0_pay30]
  exact acc_diag r l (hq · l) hK (hV r) (ha r l)

end

section
variable {𝒱 : Variants} {c : Dev nD} {bd : Option 𝒱.V} {i : grid0.Coords}
variable {arg3 : Memref sig .tc .vmem S1x128x512 .bf16} {harg3 : arg3.IsWhole} {arg4 : Memref sig .tc .vmem S1x16384x128 .bf16} {harg4 : arg4.IsWhole} {arg5 : Memref sig .tc .vmem S1x144x16384 .bf16} {harg5 : arg5.IsWhole} {arg6 : Memref sig .tc .vmem S1x64 .f32} {harg6 : arg6.IsWhole} {arg7 : Memref sig .tc .vmem S1x64 .f32} {harg7 : arg7.IsWhole} {arg8 : Memref sig .tc .vmem S1x64 .f32} {harg8 : arg8.IsWhole} {arg9 : Memref sig .tc .vmem S1x64 .f32} {harg9 : arg9.IsWhole} {arg10 : Memref sig .tc .vmem S128x1 .f32} {harg10 : arg10.IsWhole} {arg11 : Memref sig .tc .vmem S1x128x512 .f32} {harg11 : arg11.IsWhole} {arg12 : Memref sig .tc .vmem S2x1x512 .f32} {harg12 : arg12.IsWhole} {arg13 : Memref sig .tc .vmem S2x144x512 .f32} {harg13 : arg13.IsWhole}
variable {arg2 : BitVec 32} {q0 q1 : FVec Ideal S128x512 .bf16} {w8 w30 w32 w34 : BitVec 32}
variable {x0 : Vec Ideal S1x128x512 .bf16} {x1 : Vec Ideal S1x16384x128 .bf16} {x2 : Vec Ideal S1x144x16384 .bf16}

/-- A block of keys, read out of the whole of them. -/
theorem readK {m n : ℕ} {o : Fin 3 → ℕ} (hn : n + m ≤ 16384) (ho : o = ![0, n, 0]) (inb : ∀ a, o a + (⟨3, ![1, m, 128]⟩ : Shape).size a ≤ S1x16384x128.size a)
    (j : Fin m) (d : Fin 128) :
    (arg4.view.readAt (Elt Ideal) (Rect.unit (s := S1x16384x128) o (⟨3, ![1, m, 128]⟩ : Shape).size inb).toLoadRect (harg4.unread x1)
      : Vec Ideal (⟨3, ![1, m, 128]⟩ : Shape) .bf16) (ix3 0 j d) = x1 (ix3 0 (kf (n + j)) d) := by
  rw [View.readAt_eq_ld, harg4.read_unread]
  exact ld_k hn ho inb j d

/-- A block of values, read out of the whole of them. -/
theorem readV {m n : ℕ} {o : Fin 3 → ℕ} (hn : n + m ≤ 16384) (ho : o = ![0, 0, n]) (inb : ∀ a, o a + (⟨3, ![1, 144, m]⟩ : Shape).size a ≤ S1x144x16384.size a)
    (r : Fin 144) (j : Fin m) :
    (arg5.view.readAt (Elt Ideal) (Rect.unit (s := S1x144x16384) o (⟨3, ![1, 144, m]⟩ : Shape).size inb).toLoadRect (harg5.unread x2)
      : Vec Ideal (⟨3, ![1, 144, m]⟩ : Shape) .bf16) (ix3 0 r j) = x2 (ix3 0 r (kf (n + j))) := by
  rw [View.readAt_eq_ld, harg5.read_unread]
  exact ld_v hn ho inb r j

/-- One trip of the loop takes 4096 keys. -/
theorem trip_holds (hq0 : ∀ d l, q0 (ix2 d l) = qh x0 0 d l) (hq1 : ∀ d l, q1 (ix2 d l) = qh x0 1 d l) (k : Fin (k0_t1_loop i).trips)
    (f : BufTy.Contents (Elt Ideal) arg13.view.ty) (h : Holds x0 x1 x2 arg13.view f (4096 * k.val)) :
    Holds x0 x1 x2 arg13.view (arg13.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg13 harg13
      arg2 q0 q1 w8 w30 w32 w34 (harg4.unread x1) (harg5.unread x2) k f)) (4096 * (k.val + 1)) := by
  have hk : k.val < 4 := lt_of_lt_of_le k.isLt (le_trans (k0_t1_abs i).2.1 (by norm_num))
  have hK := fun inb => readK (harg4 := harg4) (x1 := x1) (m := 4096) (by omega) (off1_eq i k) inb
  have hV := fun inb => readV (harg5 := harg5) (x2 := x2) (m := 4096) (by omega) (off2_eq i k) inb
  unfold tripL_k0_t1 trip_k0_t1
  dsimp only
  exact store (n := 4096 * (k.val + 1)) _ _ _ _ (block4096_0 hq0 (hK _) (hV _) (load0 h _)) (block4096_1 hq1 (hK _) (hV _) (load1 h _))

/-- The whole loop. -/
theorem loop_holds (hq0 : ∀ d l, q0 (ix2 d l) = qh x0 0 d l) (hq1 : ∀ d l, q1 (ix2 d l) = qh x0 1 d l)
    (f : BufTy.Contents (Elt Ideal) arg13.view.ty) (h : Holds x0 x1 x2 arg13.view f 0) (n : ℕ) (hn : n ≤ (k0_t1_loop i).trips) :
    Holds x0 x1 x2 arg13.view (arg13.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13
      arg2 q0 q1 w8 w30 w32 w34 (harg4.unread x1) (harg5.unread x2) f n)) (4096 * n) := by
  induction n with
  | zero => exact h
  | succ n ih =>
    rw [show n + 1 = (⟨n, hn⟩ : Fin (k0_t1_loop i).trips).val + 1 from rfl, pb_k0_t1_succ, View.writes_append]
    exact trip_holds hq0 hq1 ⟨n, hn⟩ _ (ih (Nat.le_of_succ_le hn))
end
end Cert.Kernel6Ideal.DA
-- ==== Proof.ChainSecond.lean ====
/- The second even layer: the scratch buffer after every block of keys, then the two ratios and the norm. -/
module

public import proofs.«01_k».proof.Proof.TripsSecond
public import Idealize.ShloMosaic.Lib.Pipeline.Value

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (kf kf_of_lt qh ew acc acc_add acc_block)

/-! ## Reads of the scratch buffer past what is stored in it -/

section
variable {v : View sig .tc .vmem S2x144x512 .f32} {L : List (View.Piece (Elt Ideal) S2x144x512 .f32)} {w : Vec Ideal S1x144x512 .f32} {r : Fin 144} {l : Fin 512} {t : EReal}

theorem hit0 (inb inb') (h : w (ix3 0 r l) = t) : (v.readCov (⟨Rect.unit (s := S2x144x512) ![0, 0, 0] S1x144x512.size inb', w⟩ :: L) (Rect.unit (s := S2x144x512) ![0, 0, 0] S1x144x512.size inb).toLoadRect : Vec Ideal S1x144x512 .f32) (ix3 0 r l) = t := by
  refine Eq.trans ?_ h
  unfold View.readCov
  rw [View.readAt_eq_ld]
  pointwise
  exact View.read_writes_cons_unit_of_mem v v.junk inb' w L (ix3 0 r l) (ix3 0 r l) rfl fun a => by
    match a with
    | ⟨0, _⟩ => rfl
    | ⟨1, _⟩ => exact (Nat.zero_add _).symm
    | ⟨2, _⟩ => exact (Nat.zero_add _).symm

theorem pass0 (inb inb') (h : (v.readCov L (Rect.unit (s := S2x144x512) ![0, 0, 0] S1x144x512.size inb).toLoadRect : Vec Ideal S1x144x512 .f32) (ix3 0 r l) = t) : (v.readCov (⟨Rect.unit (s := S2x144x512) ![1, 0, 0] S1x144x512.size inb', w⟩ :: L) (Rect.unit (s := S2x144x512) ![0, 0, 0] S1x144x512.size inb).toLoadRect : Vec Ideal S1x144x512 .f32) (ix3 0 r l) = t := by
  refine Eq.trans ?_ h
  unfold View.readCov
  rw [View.readAt_eq_ld, View.readAt_eq_ld]
  pointwise
  exact View.read_writes_cons_unit_of_not_mem v v.junk inb' w L (ix3 0 r l) rfl 0 (Or.inl Nat.zero_lt_one)

theorem hit1 (inb inb') (h : w (ix3 0 r l) = t) : (v.readCov (⟨Rect.unit (s := S2x144x512) ![1, 0, 0] S1x144x512.size inb', w⟩ :: L) (Rect.unit (s := S2x144x512) ![1, 0, 0] S1x144x512.size inb).toLoadRect : Vec Ideal S1x144x512 .f32) (ix3 0 r l) = t := by
  refine Eq.trans ?_ h
  unfold View.readCov
  rw [View.readAt_eq_ld]
  pointwise
  exact View.read_writes_cons_unit_of_mem v v.junk inb' w L (ix3 1 r l) (ix3 0 r l) rfl fun a => by
    match a with
    | ⟨0, _⟩ => rfl
    | ⟨1, _⟩ => exact (Nat.zero_add _).symm
    | ⟨2, _⟩ => exact (Nat.zero_add _).symm

theorem pass1 (inb inb') (h : (v.readCov L (Rect.unit (s := S2x144x512) ![1, 0, 0] S1x144x512.size inb).toLoadRect : Vec Ideal S1x144x512 .f32) (ix3 0 r l) = t) : (v.readCov (⟨Rect.unit (s := S2x144x512) ![0, 0, 0] S1x144x512.size inb', w⟩ :: L) (Rect.unit (s := S2x144x512) ![1, 0, 0] S1x144x512.size inb).toLoadRect : Vec Ideal S1x144x512 .f32) (ix3 0 r l) = t := by
  refine Eq.trans ?_ h
  unfold View.readCov
  rw [View.readAt_eq_ld, View.readAt_eq_ld]
  pointwise
  exact View.read_writes_cons_unit_of_not_mem v v.junk inb' w L (ix3 1 r l) rfl 0 (Or.inr (le_refl 1))

end

/-! ## Before the tail: the loop over blocks of 4096 keys -/

section
variable {𝒱 : Variants} {c : Dev nD} {bd : Option 𝒱.V} {i : grid0.Coords}
variable {arg3 : Memref sig .tc .vmem S1x128x512 .bf16} {harg3 : arg3.IsWhole} {arg4 : Memref sig .tc .vmem S1x16384x128 .bf16} {harg4 : arg4.IsWhole} {arg5 : Memref sig .tc .vmem S1x144x16384 .bf16} {harg5 : arg5.IsWhole} {arg6 : Memref sig .tc .vmem S1x64 .f32} {harg6 : arg6.IsWhole} {arg7 : Memref sig .tc .vmem S1x64 .f32} {harg7 : arg7.IsWhole} {arg8 : Memref sig .tc .vmem S1x64 .f32} {harg8 : arg8.IsWhole} {arg9 : Memref sig .tc .vmem S1x64 .f32} {harg9 : arg9.IsWhole} {arg10 : Memref sig .tc .vmem S128x1 .f32} {harg10 : arg10.IsWhole} {arg11 : Memref sig .tc .vmem S1x128x512 .f32} {harg11 : arg11.IsWhole} {arg12 : Memref sig .tc .vmem S2x1x512 .f32} {harg12 : arg12.IsWhole} {arg13 : Memref sig .tc .vmem S2x144x512 .f32} {harg13 : arg13.IsWhole}
variable {arg2 : BitVec 32} {q0 q1 : FVec Ideal S128x512 .bf16} {w8 w30 w32 w34 : BitVec 32}
variable {x0 : Vec Ideal S1x128x512 .bf16} {x1 : Vec Ideal S1x16384x128 .bf16} {x2 : Vec Ideal S1x144x16384 .bf16}

theorem readQ (inb) : (arg3.view.readAt (Elt Ideal) (Rect.unit (s := S1x128x512) ![0, 0, 0] S1x128x512.size inb).toLoadRect (harg3.unread x0) : Vec Ideal S1x128x512 .bf16) = x0 := by
  rw [View.readAt_eq_ld, harg3.read_unread]
  exact View.ld_unit_zero (by funext a; match a with | ⟨0, _⟩ => rfl | ⟨1, _⟩ => rfl | ⟨2, _⟩ => rfl) inb x0
theorem q0_eq (inb) (d : Fin 128) (l : Fin 512) : k0_pay17 (F := Ideal) (arg3.view.readAt (Elt Ideal) (Rect.unit (s := S1x128x512) ![0, 0, 0] S1x128x512.size inb).toLoadRect (harg3.unread x0)) (ix2 d l) = qh x0 0 d l := by
  rw [readQ inb]; exact pay17_apply d l
theorem q1_eq (inb) (d : Fin 128) (l : Fin 512) : k0_pay18 (F := Ideal) (arg3.view.readAt (Elt Ideal) (Rect.unit (s := S1x128x512) ![0, 0, 0] S1x128x512.size inb).toLoadRect (harg3.unread x0)) (ix2 d l) = qh x0 1 d l := by
  rw [readQ inb]; exact pay18_apply d l

theorem base_holds (hq0 : ∀ d l, q0 (ix2 d l) = qh x0 0 d l) (hq1 : ∀ d l, q1 (ix2 d l) = qh x0 1 d l) (inb) (G : BufTy.Contents (Elt Ideal) arg13.view.ty) :
    Holds x0 x1 x2 arg13.view (arg13.view.writes (Elt Ideal) arg13.view.junk
      (pb_k0_t2 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2) G (k0_t2_loop i).trips ++
      (pb_k0_t1 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2)
        (arg13.view.writes (Elt Ideal) arg13.view.junk [⟨Rect.unit (s := S2x144x512) ![0, 0, 0] S2x144x512.size inb, (k0_pay15 (F := Ideal) : Vec Ideal S2x144x512 .f32)⟩]) (k0_t1_loop i).trips ++
      [⟨Rect.unit (s := S2x144x512) ![0, 0, 0] S2x144x512.size inb, (k0_pay15 (F := Ideal) : Vec Ideal S2x144x512 .f32)⟩]))) (4096 * ((i 2).val / 8)) := by
  rw [trips_t2 i, pb_k0_t2.eq_1, List.nil_append, View.writes_append, ← trips_t1 i]
  exact loop_holds hq0 hq1 _ (start inb) _ (le_refl _)

theorem base0 (hq0 : ∀ d l, q0 (ix2 d l) = qh x0 0 d l) (hq1 : ∀ d l, q1 (ix2 d l) = qh x0 1 d l) (inb inb') (G : BufTy.Contents (Elt Ideal) arg13.view.ty) (r : Fin 144) (l : Fin 512) :
    (arg13.view.readCov
      (pb_k0_t2 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2) G (k0_t2_loop i).trips ++
      (pb_k0_t1 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2)
        (arg13.view.writes (Elt Ideal) arg13.view.junk [⟨Rect.unit (s := S2x144x512) ![0, 0, 0] S2x144x512.size inb, (k0_pay15 (F := Ideal) : Vec Ideal S2x144x512 .f32)⟩]) (k0_t1_loop i).trips ++
      [⟨Rect.unit (s := S2x144x512) ![0, 0, 0] S2x144x512.size inb, (k0_pay15 (F := Ideal) : Vec Ideal S2x144x512 .f32)⟩]))
      (Rect.unit (s := S2x144x512) ![0, 0, 0] S1x144x512.size inb').toLoadRect : Vec Ideal S1x144x512 .f32) (ix3 0 r l) = acc x0 x1 x2 0 r l (4096 * ((i 2).val / 8)) :=
  load0 (base_holds hq0 hq1 inb G) inb' r l

theorem base1 (hq0 : ∀ d l, q0 (ix2 d l) = qh x0 0 d l) (hq1 : ∀ d l, q1 (ix2 d l) = qh x0 1 d l) (inb inb') (G : BufTy.Contents (Elt Ideal) arg13.view.ty) (r : Fin 144) (l : Fin 512) :
    (arg13.view.readCov
      (pb_k0_t2 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2) G (k0_t2_loop i).trips ++
      (pb_k0_t1 (F := Ideal) 𝒱 c bd i arg3 harg3 arg4 harg4 arg5 harg5 arg6 harg6 arg7 harg7 arg8 harg8 arg9 harg9 arg10 harg10 arg11 harg11 arg12 harg12 arg13 harg13 arg2 q0 q1 w8 w30 w32 w34 (harg4.unread x1) (harg5.unread x2)
        (arg13.view.writes (Elt Ideal) arg13.view.junk [⟨Rect.unit (s := S2x144x512) ![0, 0, 0] S2x144x512.size inb, (k0_pay15 (F := Ideal) : Vec Ideal S2x144x512 .f32)⟩]) (k0_t1_loop i).trips ++
      [⟨Rect.unit (s := S2x144x512) ![0, 0, 0] S2x144x512.size inb, (k0_pay15 (F := Ideal) : Vec Ideal S2x144x512 .f32)⟩]))
      (Rect.unit (s := S2x144x512) ![1, 0, 0] S1x144x512.size inb').toLoadRect : Vec Ideal S1x144x512 .f32) (ix3 0 r l) = acc x0 x1 x2 1 r l (4096 * ((i 2).val / 8)) :=
  load1 (base_holds hq0 hq1 inb G) inb' r l

end

/-! ## The end of the kernel -/

/-- The coefficient of the second attention, from the products of the four vectors. -/
def lam (a b c d : Fin 64 → EReal) : EReal :=
  Ideal.exp (∑ x, a x * b x) - Ideal.exp (∑ x, c x * d x) + (Ideal.ofBits .f32 0x3EF1014C#32 : EReal)

/-- Row `r` of a column divided by the root of its mean square, times its gain and the constant `0.8`. -/
def normed (o : Fin 128 → EReal) (g : EReal) (r : Fin 128) : EReal :=
  o r * Ideal.rsqrt (Ideal.div (∑ x, o x * o x) (Ideal.ofBits .f32 0x43000000#32) + Ideal.ofBits .f32 0x358637BD#32) * g
    * Ideal.ofBits .f32 0x3F077F5A#32

/-- A row's part of the block: the sum over the keys divided by the row of sums of weights. -/
def ratio (s : Vec Ideal S1x144x512 .f32) (r : Fin 128) (l : Fin 512) : EReal :=
  Ideal.div (s (ix3 0 ⟨r.val, by omega⟩ l)) (s (ix3 0 128 l))

theorem pay36_apply (a b c d : Vec Ideal S1x64 .f32) (s0 s1 : Vec Ideal S1x144x512 .f32) (g : Vec Ideal S128x1 .f32) (r : Fin 128) (l : Fin 512) :
    k0_pay1 (F := Ideal) (k0_pay36 (k0_pay35 a b) c d s0 s1 g) (ix3 0 r l)
      = normed (fun r => ratio s0 r l - lam (fun x => a (ix2 0 x)) (fun x => b (ix2 0 x)) (fun x => c (ix2 0 x)) (fun x => d (ix2 0 x)) * ratio s1 r l) (g (ix2 r 0)) r := by
  pointwise [k0_pay1, k0_pay36, k0_pay35]
  rfl

section
variable (i : grid0.Coords)
variable (x0 : Vec Ideal S1x128x512 .bf16) (x1 : Vec Ideal S1x16384x128 .bf16) (x2 : Vec Ideal S1x144x16384 .bf16) (x3 x4 x5 x6 : Vec Ideal S1x64 .f32) (x7 : Vec Ideal S128x1 .f32)

/-- What the kernel leaves in its block, written directly. -/
def blk (r : Fin 128) (l : Fin 512) : EReal :=
  let n := 512 * (i 2).val + (l.val + 1)
  normed (fun r => Ideal.div (acc x0 x1 x2 0 ⟨r.val, by omega⟩ l n) (acc x0 x1 x2 0 128 l n)
    - lam (fun x => x3 (ix2 0 x)) (fun x => x4 (ix2 0 x)) (fun x => x5 (ix2 0 x)) (fun x => x6 (ix2 0 x))
      * Ideal.div (acc x0 x1 x2 1 ⟨r.val, by omega⟩ l n) (acc x0 x1 x2 1 128 l n)) (x7 (ix2 r 0)) r

theorem finish (s0 s1 : Vec Ideal S1x144x512 .f32) (a b c d : Vec Ideal S1x64 .f32) (g : Vec Ideal S128x1 .f32) (r : Fin 128) (l : Fin 512) (inb)
    (h3 : a = x3) (h4 : b = x4) (h5 : c = x5) (h6 : d = x6) (h7 : g = x7)
    (h0 : ∀ r, s0 (ix3 0 r l) = acc x0 x1 x2 0 r l (512 * (i 2).val + (l.val + 1))) (h1 : ∀ r, s1 (ix3 0 r l) = acc x0 x1 x2 1 r l (512 * (i 2).val + (l.val + 1))) :
    View.canon [(⟨Rect.unit (s := S1x128x512) ![0, 0, 0] S1x128x512.size inb, (k0_pay1 (F := Ideal) (k0_pay36 (k0_pay35 a b) c d s0 s1 g) : Vec Ideal S1x128x512 .f32)⟩
      : View.Piece (Elt Ideal) S1x128x512 .f32)] (ix3 0 r l) = blk i x0 x1 x2 x3 x4 x5 x6 x7 r l := by
  subst h3 h4 h5 h6 h7
  rw [View.canon_unit_zero (by funext a; match a with | ⟨0, _⟩ => rfl | ⟨1, _⟩ => rfl | ⟨2, _⟩ => rfl), pay36_apply]
  unfold blk ratio
  simp only [h0, h1]
end
end Cert.Kernel6Ideal.DA
-- ==== Proof.CasesSecond.lean ====
/- The second even layer: the block the kernel writes, in each of the cases of its tail. -/
module

public import proofs.«01_k».proof.Proof.ChainSecond
public import proofs.«01_k».proof.Proof.Gen.Kernel6Ideal.Frame

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (kf kf_of_lt qh ew acc acc_add acc_block)

section
variable {i : grid0.Coords}
variable {arg3 : Memref sig .tc .vmem S1x128x512 .bf16} {harg3 : arg3.IsWhole} {arg4 : Memref sig .tc .vmem S1x16384x128 .bf16} {harg4 : arg4.IsWhole} {arg5 : Memref sig .tc .vmem S1x144x16384 .bf16} {harg5 : arg5.IsWhole} {arg6 : Memref sig .tc .vmem S1x64 .f32} {harg6 : arg6.IsWhole} {arg7 : Memref sig .tc .vmem S1x64 .f32} {harg7 : arg7.IsWhole} {arg8 : Memref sig .tc .vmem S1x64 .f32} {harg8 : arg8.IsWhole} {arg9 : Memref sig .tc .vmem S1x64 .f32} {harg9 : arg9.IsWhole} {arg10 : Memref sig .tc .vmem S128x1 .f32} {harg10 : arg10.IsWhole} {arg11 : Memref sig .tc .vmem S1x128x512 .f32} {harg11 : arg11.IsWhole} {arg12 : Memref sig .tc .vmem S2x1x512 .f32} {harg12 : arg12.IsWhole} {arg13 : Memref sig .tc .vmem S2x144x512 .f32} {harg13 : arg13.IsWhole}
variable {x0 : Vec Ideal S1x128x512 .bf16} {x1 : Vec Ideal S1x16384x128 .bf16} {x2 : Vec Ideal S1x144x16384 .bf16} {x3 x4 x5 x6 : Vec Ideal S1x64 .f32} {x7 : Vec Ideal S128x1 .f32} {a : Vec Ideal S1x144x512 .f32} {q : FVec Ideal S128x512 .bf16}

theorem tile_lt (i : grid0.Coords) : (i 2).val < 32 := (i 2).isLt
theorem skip2048 (h : ¬cond0_0 i) : 2048 * ((i 2).val / 4) = 4096 * ((i 2).val / 8) := by
  have := (cond0_iff i).not.mp h; omega
theorem skip1024 (h : ¬cond0_1 i) : 1024 * ((i 2).val / 2) = 2048 * ((i 2).val / 4) := by
  have := (cond1_iff i).not.mp h; omega
theorem skip512 (h : ¬cond0_2 i) : 512 * (i 2).val = 1024 * ((i 2).val / 2) := by
  have := (cond2_iff i).not.mp h; omega
theorem take2048 (h : cond0_0 i) : 2048 * ((i 2).val / 4) = 4096 * ((i 2).val / 8) + 2048 := by
  have := (cond0_iff i).mp h; omega
theorem take1024 (h : cond0_1 i) : 1024 * ((i 2).val / 2) = 2048 * ((i 2).val / 4) + 1024 := by
  have := (cond1_iff i).mp h; omega
theorem take512 (h : cond0_2 i) : 512 * (i 2).val = 1024 * ((i 2).val / 2) + 512 := by
  have := (cond2_iff i).mp h; omega

theorem tail2048_0 (h : cond0_0 i) (inb inb') (hq : ∀ d l, q (ix2 d l) = qh x0 0 d l) (ha : ∀ r l, a (ix3 0 r l) = acc x0 x1 x2 0 r l (4096 * ((i 2).val / 8))) (r : Fin 144) (l : Fin 512) :
    k0_pay5 (F := Ideal) q (arg4.view.readAt (Elt Ideal) (Rect.unit (s := S1x16384x128) (k0_off5 i) S1x2048x128.size inb).toLoadRect (harg4.unread x1)) (arg5.view.readAt (Elt Ideal) (Rect.unit (s := S1x144x16384) (k0_off6 i) S1x144x2048.size inb').toLoadRect (harg5.unread x2)) a (ix3 0 r l)
      = acc x0 x1 x2 0 r l (2048 * ((i 2).val / 4)) := by
  have hz := tile_lt i
  have he := take2048 h
  rw [he]
  exact block2048_0 hq (readK (m := 2048) (by omega) (off5_eq i) inb) (readV (m := 2048) (by omega) (off6_eq i) inb') ha r l

theorem tail2048_1 (h : cond0_0 i) (inb inb') (hq : ∀ d l, q (ix2 d l) = qh x0 1 d l) (ha : ∀ r l, a (ix3 0 r l) = acc x0 x1 x2 1 r l (4096 * ((i 2).val / 8))) (r : Fin 144) (l : Fin 512) :
    k0_pay27 (F := Ideal) (k0_pay3 (arg5.view.readAt (Elt Ideal) (Rect.unit (s := S1x144x16384) (k0_off6 i) S1x144x2048.size inb').toLoadRect (harg5.unread x2))) (k0_pay4 q (arg4.view.readAt (Elt Ideal) (Rect.unit (s := S1x16384x128) (k0_off5 i) S1x2048x128.size inb).toLoadRect (harg4.unread x1))) a (ix3 0 r l)
      = acc x0 x1 x2 1 r l (2048 * ((i 2).val / 4)) := by
  have hz := tile_lt i
  have he := take2048 h
  rw [he]
  exact block2048_1 hq (readK (m := 2048) (by omega) (off5_eq i) inb) (readV (m := 2048) (by omega) (off6_eq i) inb') ha r l

theorem tail1024_0 (h : cond0_1 i) (inb inb') (hq : ∀ d l, q (ix2 d l) = qh x0 0 d l) (ha : ∀ r l, a (ix3 0 r l) = acc x0 x1 x2 0 r l (2048 * ((i 2).val / 4))) (r : Fin 144) (l : Fin 512) :
    k0_pay9 (F := Ideal) q (arg4.view.readAt (Elt Ideal) (Rect.unit (s := S1x16384x128) (k0_off7 i) S1x1024x128.size inb).toLoadRect (harg4.unread x1)) (arg5.view.readAt (Elt Ideal) (Rect.unit (s := S1x144x16384) (k0_off8 i) S1x144x1024.size inb').toLoadRect (harg5.unread x2)) a (ix3 0 r l)
      = acc x0 x1 x2 0 r l (1024 * ((i 2).val / 2)) := by
  have hz := tile_lt i
  have he := take1024 h
  rw [he]
  exact block1024_0 hq (readK (m := 1024) (by omega) (off7_eq i) inb) (readV (m := 1024) (by omega) (off8_eq i) inb') ha r l

theorem tail1024_1 (h : cond0_1 i) (inb inb') (hq : ∀ d l, q (ix2 d l) = qh x0 1 d l) (ha : ∀ r l, a (ix3 0 r l) = acc x0 x1 x2 1 r l (2048 * ((i 2).val / 4))) (r : Fin 144) (l : Fin 512) :
    k0_pay28 (F := Ideal) (k0_pay7 (arg5.view.readAt (Elt Ideal) (Rect.unit (s := S1x144x16384) (k0_off8 i) S1x144x1024.size inb').toLoadRect (harg5.unread x2))) (k0_pay8 q (arg4.view.readAt (Elt Ideal) (Rect.unit (s := S1x16384x128) (k0_off7 i) S1x1024x128.size inb).toLoadRect (harg4.unread x1))) a (ix3 0 r l)
      = acc x0 x1 x2 1 r l (1024 * ((i 2).val / 2)) := by
  have hz := tile_lt i
  have he := take1024 h
  rw [he]
  exact block1024_1 hq (readK (m := 1024) (by omega) (off7_eq i) inb) (readV (m := 1024) (by omega) (off8_eq i) inb') ha r l

theorem tail512_0 (h : cond0_2 i) (inb inb') (hq : ∀ d l, q (ix2 d l) = qh x0 0 d l) (ha : ∀ r l, a (ix3 0 r l) = acc x0 x1 x2 0 r l (1024 * ((i 2).val / 2))) (r : Fin 144) (l : Fin 512) :
    k0_pay13 (F := Ideal) q (arg4.view.readAt (Elt Ideal) (Rect.unit (s := S1x16384x128) (k0_off9 i) S1x512x128.size inb).toLoadRect (harg4.unread x1)) (arg5.view.readAt (Elt Ideal) (Rect.unit (s := S1x144x16384) (k0_off10 i) S1x144x512.size inb').toLoadRect (harg5.unread x2)) a (ix3 0 r l)
      = acc x0 x1 x2 0 r l (512 * (i 2).val) := by
  have hz := tile_lt i
  have he := take512 h
  rw [he]
  exact block512_0 hq (readK (m := 512) (by omega) (off9_eq i) inb) (readV (m := 512) (by omega) (off10_eq i) inb') ha r l

theorem tail512_1 (h : cond0_2 i) (inb inb') (hq : ∀ d l, q (ix2 d l) = qh x0 1 d l) (ha : ∀ r l, a (ix3 0 r l) = acc x0 x1 x2 1 r l (1024 * ((i 2).val / 2))) (r : Fin 144) (l : Fin 512) :
    k0_pay29 (F := Ideal) (k0_pay11 (arg5.view.readAt (Elt Ideal) (Rect.unit (s := S1x144x16384) (k0_off10 i) S1x144x512.size inb').toLoadRect (harg5.unread x2))) (k0_pay12 q (arg4.view.readAt (Elt Ideal) (Rect.unit (s := S1x16384x128) (k0_off9 i) S1x512x128.size inb).toLoadRect (harg4.unread x1))) a (ix3 0 r l)
      = acc x0 x1 x2 1 r l (512 * (i 2).val) := by
  have hz := tile_lt i
  have he := take512 h
  rw [he]
  exact block512_1 hq (readK (m := 512) (by omega) (off9_eq i) inb) (readV (m := 512) (by omega) (off10_eq i) inb') ha r l

theorem last_0 (inb inb') (hq : ∀ d l, q (ix2 d l) = qh x0 0 d l) (ha : ∀ r l, a (ix3 0 r l) = acc x0 x1 x2 0 r l (512 * (i 2).val)) (r : Fin 144) (l : Fin 512) :
    k0_pay33 (F := Ideal) q k0_pay30 (k0_pay31 (arg4.view.readAt (Elt Ideal) (Rect.unit (s := S1x16384x128) (k0_off11 i) S1x512x128.size inb).toLoadRect (harg4.unread x1))) (arg5.view.readAt (Elt Ideal) (Rect.unit (s := S1x144x16384) (k0_off12 i) S1x144x512.size inb').toLoadRect (harg5.unread x2)) a (ix3 0 r l)
      = acc x0 x1 x2 0 r l (512 * (i 2).val + (l.val + 1)) := by
  have hz := tile_lt i
  exact diag_0 hq (readK (m := 512) (by omega) (k0_off11_eq i) inb) (readV (m := 512) (by omega) (k0_off12_eq i) inb') ha r l

theorem last_1 (inb inb') (hq : ∀ d l, q (ix2 d l) = qh x0 1 d l) (ha : ∀ r l, a (ix3 0 r l) = acc x0 x1 x2 1 r l (512 * (i 2).val)) (r : Fin 144) (l : Fin 512) :
    k0_pay34 (F := Ideal) q k0_pay30 (k0_pay31 (arg4.view.readAt (Elt Ideal) (Rect.unit (s := S1x16384x128) (k0_off11 i) S1x512x128.size inb).toLoadRect (harg4.unread x1))) (arg5.view.readAt (Elt Ideal) (Rect.unit (s := S1x144x16384) (k0_off12 i) S1x144x512.size inb').toLoadRect (harg5.unread x2)) a (ix3 0 r l)
      = acc x0 x1 x2 1 r l (512 * (i 2).val + (l.val + 1)) := by
  have hz := tile_lt i
  exact diag_1 hq (readK (m := 512) (by omega) (k0_off11_eq i) inb) (readV (m := 512) (by omega) (k0_off12_eq i) inb') ha r l

theorem acc_at {ch n n' : ℕ} {e : Fin 144 → Fin 512 → EReal} (h : n' = n) (ha : ∀ r l, e r l = acc x0 x1 x2 ch r l n) (r : Fin 144) (l : Fin 512) : e r l = acc x0 x1 x2 ch r l n' := by
  rw [h]; exact ha r l

theorem vec64 {b : Memref sig .tc .vmem S1x64 .f32} (hb : b.IsWhole) (inb) (x : Vec Ideal S1x64 .f32) :
    (b.view.readAt (Elt Ideal) (Rect.unit (s := S1x64) ![0, 0] S1x64.size inb).toLoadRect (hb.unread x) : Vec Ideal S1x64 .f32) = x := by
  rw [View.readAt_eq_ld, hb.read_unread]
  exact View.ld_unit_zero (by funext a; match a with | ⟨0, _⟩ => rfl | ⟨1, _⟩ => rfl) inb x
theorem gain {b : Memref sig .tc .vmem S128x1 .f32} (hb : b.IsWhole) (inb) (x : Vec Ideal S128x1 .f32) :
    (b.view.readAt (Elt Ideal) (Rect.unit (s := S128x1) ![0, 0] S128x1.size inb).toLoadRect (hb.unread x) : Vec Ideal S128x1 .f32) = x := by
  rw [View.readAt_eq_ld, hb.read_unread]
  exact View.ld_unit_zero (by funext a; match a with | ⟨0, _⟩ => rfl | ⟨1, _⟩ => rfl) inb x
end

section
variable (c : Dev nD) (i : grid0.Coords)
variable (arg3 : Memref sig .tc .vmem S1x128x512 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x128x512 .f32) (harg11 : arg11.IsWhole) (arg12 : Memref sig .tc .vmem S2x1x512 .f32) (harg12 : arg12.IsWhole) (arg13 : Memref sig .tc .vmem S2x144x512 .f32) (harg13 : arg13.IsWhole)
variable (x0 : Vec Ideal S1x128x512 .bf16) (x1 : Vec Ideal S1x16384x128 .bf16) (x2 : Vec Ideal S1x144x16384 .bf16) (x3 x4 x5 x6 : Vec Ideal S1x64 .f32) (x7 : Vec Ideal S128x1 .f32)

theorem out_A (hc0 : ¬cond0_0 i) (hc1 : ¬cond0_1 i) (hc2 : ¬cond0_2 i) (r : Fin 128) (l : Fin 512) :
    out0_A_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_A
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (acc_at (skip512 hc2) (acc_at (skip1024 hc1) (acc_at (skip2048 hc0) (fun r l => base0 (q0_eq _) (q1_eq _) _ _ _ r l)))) r l))
  · exact fun r => hit1 _ _ (last_1 _ _ (q1_eq _) (acc_at (skip512 hc2) (acc_at (skip1024 hc1) (acc_at (skip2048 hc0) (fun r l => pass1 _ _ (base1 (q0_eq _) (q1_eq _) _ _ _ r l))))) r l)

theorem out_B (hc0 : ¬cond0_0 i) (hc1 : ¬cond0_1 i) (hc2 : cond0_2 i) (r : Fin 128) (l : Fin 512) :
    out0_B_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_B
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (fun r l => pass0 _ _ (hit0 _ _ (tail512_0 hc2 _ _ (q0_eq _) (acc_at (skip1024 hc1) (acc_at (skip2048 hc0) (fun r l => base0 (q0_eq _) (q1_eq _) _ _ _ r l))) r l))) r l))
  · exact fun r => hit1 _ _ (last_1 _ _ (q1_eq _) (fun r l => pass1 _ _ (hit1 _ _ (tail512_1 hc2 _ _ (q1_eq _) (acc_at (skip1024 hc1) (acc_at (skip2048 hc0) (fun r l => pass1 _ _ (base1 (q0_eq _) (q1_eq _) _ _ _ r l)))) r l))) r l)

theorem out_C (hc0 : ¬cond0_0 i) (hc1 : cond0_1 i) (hc2 : ¬cond0_2 i) (r : Fin 128) (l : Fin 512) :
    out0_C_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_C
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (acc_at (skip512 hc2) (fun r l => pass0 _ _ (hit0 _ _ (tail1024_0 hc1 _ _ (q0_eq _) (acc_at (skip2048 hc0) (fun r l => base0 (q0_eq _) (q1_eq _) _ _ _ r l)) r l)))) r l))
  · exact fun r => hit1 _ _ (last_1 _ _ (q1_eq _) (acc_at (skip512 hc2) (fun r l => pass1 _ _ (hit1 _ _ (tail1024_1 hc1 _ _ (q1_eq _) (acc_at (skip2048 hc0) (fun r l => pass1 _ _ (base1 (q0_eq _) (q1_eq _) _ _ _ r l))) r l)))) r l)

theorem out_D (hc0 : ¬cond0_0 i) (hc1 : cond0_1 i) (hc2 : cond0_2 i) (r : Fin 128) (l : Fin 512) :
    out0_D_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_D
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (fun r l => pass0 _ _ (hit0 _ _ (tail512_0 hc2 _ _ (q0_eq _) (fun r l => pass0 _ _ (hit0 _ _ (tail1024_0 hc1 _ _ (q0_eq _) (acc_at (skip2048 hc0) (fun r l => base0 (q0_eq _) (q1_eq _) _ _ _ r l)) r l))) r l))) r l))
  · exact fun r => hit1 _ _ (last_1 _ _ (q1_eq _) (fun r l => pass1 _ _ (hit1 _ _ (tail512_1 hc2 _ _ (q1_eq _) (fun r l => pass1 _ _ (hit1 _ _ (tail1024_1 hc1 _ _ (q1_eq _) (acc_at (skip2048 hc0) (fun r l => pass1 _ _ (base1 (q0_eq _) (q1_eq _) _ _ _ r l))) r l))) r l))) r l)

theorem out_E (hc0 : cond0_0 i) (hc1 : ¬cond0_1 i) (hc2 : ¬cond0_2 i) (r : Fin 128) (l : Fin 512) :
    out0_E_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_E_8
  rw [View.read_writes_eq_canon _ _ _ (cover0_E_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_E
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (acc_at (skip512 hc2) (acc_at (skip1024 hc1) (fun r l => pass0 _ _ (hit0 _ _ (tail2048_0 hc0 _ _ (q0_eq _) (fun r l => base0 (q0_eq _) (q1_eq _) _ _ _ r l) r l))))) r l))
  · exact fun r => hit1 _ _ (last_1 _ _ (q1_eq _) (acc_at (skip512 hc2) (acc_at (skip1024 hc1) (fun r l => pass1 _ _ (hit1 _ _ (tail2048_1 hc0 _ _ (q1_eq _) (fun r l => pass1 _ _ (base1 (q0_eq _) (q1_eq _) _ _ _ r l)) r l))))) r l)

theorem out_F (hc0 : cond0_0 i) (hc1 : ¬cond0_1 i) (hc2 : cond0_2 i) (r : Fin 128) (l : Fin 512) :
    out0_F_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_F_8
  rw [View.read_writes_eq_canon _ _ _ (cover0_F_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_F
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (fun r l => pass0 _ _ (hit0 _ _ (tail512_0 hc2 _ _ (q0_eq _) (acc_at (skip1024 hc1) (fun r l => pass0 _ _ (hit0 _ _ (tail2048_0 hc0 _ _ (q0_eq _) (fun r l => base0 (q0_eq _) (q1_eq _) _ _ _ r l) r l)))) r l))) r l))
  · exact fun r => hit1 _ _ (last_1 _ _ (q1_eq _) (fun r l => pass1 _ _ (hit1 _ _ (tail512_1 hc2 _ _ (q1_eq _) (acc_at (skip1024 hc1) (fun r l => pass1 _ _ (hit1 _ _ (tail2048_1 hc0 _ _ (q1_eq _) (fun r l => pass1 _ _ (base1 (q0_eq _) (q1_eq _) _ _ _ r l)) r l)))) r l))) r l)

theorem out_G (hc0 : cond0_0 i) (hc1 : cond0_1 i) (hc2 : ¬cond0_2 i) (r : Fin 128) (l : Fin 512) :
    out0_G_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_G_8
  rw [View.read_writes_eq_canon _ _ _ (cover0_G_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_G
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (acc_at (skip512 hc2) (fun r l => pass0 _ _ (hit0 _ _ (tail1024_0 hc1 _ _ (q0_eq _) (fun r l => pass0 _ _ (hit0 _ _ (tail2048_0 hc0 _ _ (q0_eq _) (fun r l => base0 (q0_eq _) (q1_eq _) _ _ _ r l) r l))) r l)))) r l))
  · exact fun r => hit1 _ _ (last_1 _ _ (q1_eq _) (acc_at (skip512 hc2) (fun r l => pass1 _ _ (hit1 _ _ (tail1024_1 hc1 _ _ (q1_eq _) (fun r l => pass1 _ _ (hit1 _ _ (tail2048_1 hc0 _ _ (q1_eq _) (fun r l => pass1 _ _ (base1 (q0_eq _) (q1_eq _) _ _ _ r l)) r l))) r l)))) r l)

theorem out_H (hc0 : cond0_0 i) (hc1 : cond0_1 i) (hc2 : cond0_2 i) (r : Fin 128) (l : Fin 512) :
    out0_H_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 0 r l) = blk i x0 x1 x2 x3 x4 x5 x6 x7 r l := by
  unfold out0_H_8
  rw [View.read_writes_eq_canon _ _ _ (cover0_H_8 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_H
  dsimp only
  sl_unfold_run_names
  refine finish i x0 x1 x2 x3 x4 x5 x6 x7 _ _ _ _ _ _ _ r l _ (vec64 harg6 _ x3) (vec64 harg7 _ x4) (vec64 harg8 _ x5) (vec64 harg9 _ x6) (gain harg10 _ x7) ?_ ?_
  · exact fun r => pass0 _ _ (hit0 _ _ (last_0 _ _ (q0_eq _) (fun r l => pass0 _ _ (hit0 _ _ (tail512_0 hc2 _ _ (q0_eq _) (fun r l => pass0 _ _ (hit0 _ _ (tail1024_0 hc1 _ _ (q0_eq _) (fun r l => pass0 _ _ (hit0 _ _ (tail2048_0 hc0 _ _ (q0_eq _) (fun r l => base0 (q0_eq _) (q1_eq _) _ _ _ r l) r l))) r l))) r l))) r l))
  · exact fun r => hit1 _ _ (last_1 _ _ (q1_eq _) (fun r l => pass1 _ _ (hit1 _ _ (tail512_1 hc2 _ _ (q1_eq _) (fun r l => pass1 _ _ (hit1 _ _ (tail1024_1 hc1 _ _ (q1_eq _) (fun r l => pass1 _ _ (hit1 _ _ (tail2048_1 hc0 _ _ (q1_eq _) (fun r l => pass1 _ _ (base1 (q0_eq _) (q1_eq _) _ _ _ r l)) r l))) r l))) r l))) r l)

end
end Cert.Kernel6Ideal.DA
-- ==== Proof.HostSecond.lean ====
/- The second even layer: the arrays that the host lays out, and the blocks of them at a grid point. -/
module

public import proofs.«01_k».proof.Proof.Host
public import proofs.«01_k».proof.Proof.CasesSecond
public import proofs.«01_k».proof.Proof.Gen.Kernel6Ideal.Value
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (scaled)
variable (m : (o : Loc nD τ sig) → Buf (Elt Ideal) o) (c : Dev nD)

theorem v7_apply (b : Fin 2) (h : Fin 4) (d : Fin 128) (q : Fin 16384) : (V m c main_v7 : Vec Ideal S2x512x16384 .bf16) (ix3 b ⟨h.val * 128 + d.val, by omega⟩ q)
    = scaled (m ((c : Thread nD τ).loc main_arg0) (ix5 b q h ⟨d.val / 64, by omega⟩ ⟨d.val % 64, by omega⟩)) := by
  have e0 : (h.val * 128 + d.val) / 128 = h.val := by omega
  have e1 : (h.val * 128 + d.val) / 64 % 2 = d.val / 64 := by omega
  have e2 : (h.val * 128 + d.val) % 64 = d.val % 64 := by omega
  entry_read
  pointwise
  simp only [e0, e1, e2]
  rfl
theorem v9_apply (b : Fin 2) (h : Fin 4) (d : Fin 128) (q : Fin 16384) : (V m c main_v9 : Vec Ideal S2x16384x512 .bf16) (ix3 b q ⟨h.val * 128 + d.val, by omega⟩)
    = m ((c : Thread nD τ).loc main_arg1) (ix5 b q h ⟨d.val / 64, by omega⟩ ⟨d.val % 64, by omega⟩) := by
  have e0 : (h.val * 128 + d.val) / 128 = h.val := by omega
  have e1 : (h.val * 128 + d.val) / 64 % 2 = d.val / 64 := by omega
  have e2 : (h.val * 128 + d.val) % 64 = d.val % 64 := by omega
  entry_read
  pointwise
  simp only [e0, e1, e2]
theorem v14_apply (b : Fin 2) (h : Fin 4) (r : Fin 144) (q : Fin 16384) : (V m c main_v14 : Vec Ideal S2x576x16384 .bf16) (ix3 b ⟨h.val * 144 + r.val, by omega⟩ q)
    = (if hr : r.val < 128 then m ((c : Thread nD τ).loc main_arg2) (ix4 b q h ⟨r.val, hr⟩) else (1 : EReal) : EReal) := by
  have e0 : (h.val * 144 + r.val) / 144 = h.val := by omega
  have e1 : (h.val * 144 + r.val) % 144 = r.val := by omega
  entry_read
  pointwise
  simp only [e0, e1]
theorem v15_apply (x : Fin 64) : (V m c main_v15 : Vec Ideal S1x64 .f32) (ix2 0 x) = m ((c : Thread nD τ).loc main_arg3) (ix1 x) := by
  entry_read
  pointwise
theorem v16_apply (x : Fin 64) : (V m c main_v16 : Vec Ideal S1x64 .f32) (ix2 0 x) = m ((c : Thread nD τ).loc main_arg4) (ix1 x) := by
  entry_read
  pointwise
theorem v17_apply (x : Fin 64) : (V m c main_v17 : Vec Ideal S1x64 .f32) (ix2 0 x) = m ((c : Thread nD τ).loc main_arg5) (ix1 x) := by
  entry_read
  pointwise
theorem v18_apply (x : Fin 64) : (V m c main_v18 : Vec Ideal S1x64 .f32) (ix2 0 x) = m ((c : Thread nD τ).loc main_arg6) (ix1 x) := by
  entry_read
  pointwise
theorem v19_apply (x : Fin 128) : (V m c main_v19 : Vec Ideal S128x1 .f32) (ix2 x 0) = m ((c : Thread nD τ).loc main_arg7) (ix1 x) := by
  entry_read
  pointwise

/-! ## Blocks -/

/-- The three coordinates of a grid point. -/
def tb (t : Fin cfg0.N) : Fin 2 := ⟨t.val / 128, by have := lt_of_lt_of_eq t.isLt (show cfg0.N = 256 from N_0); omega⟩
def th (t : Fin cfg0.N) : Fin 4 := ⟨t.val / 32 % 4, by omega⟩
def tz (t : Fin cfg0.N) : Fin 32 := ⟨t.val % 32, by omega⟩

theorem coord2 (t : Fin cfg0.N) : (grid0.coords t 2).val = (tz t).val :=
  (by decide +kernel : ∀ t : Fin grid0.N, (grid0.coords t 2).val = t.val % 32) t

theorem index0 (t : Fin cfg0.N) : win0_0.index t 0 = (tb t).val ∧ win0_0.index t 1 = (th t).val ∧ win0_0.index t 2 = (tz t).val :=
  (by decide +kernel : ∀ t : Fin grid0.N, win0_0.index t 0 = t.val / 128 ∧ win0_0.index t 1 = t.val / 32 % 4 ∧ win0_0.index t 2 = t.val % 32) t
theorem index1 (t : Fin cfg0.N) : win0_1.index t 0 = (tb t).val ∧ win0_1.index t 1 = 0 ∧ win0_1.index t 2 = (th t).val :=
  (by decide +kernel : ∀ t : Fin grid0.N, win0_1.index t 0 = t.val / 128 ∧ win0_1.index t 1 = 0 ∧ win0_1.index t 2 = t.val / 32 % 4) t
theorem index2 (t : Fin cfg0.N) : win0_2.index t 0 = (tb t).val ∧ win0_2.index t 1 = (th t).val ∧ win0_2.index t 2 = 0 :=
  (by decide +kernel : ∀ t : Fin grid0.N, win0_2.index t 0 = t.val / 128 ∧ win0_2.index t 1 = t.val / 32 % 4 ∧ win0_2.index t 2 = 0) t
theorem index8 (t : Fin cfg0.N) : win0_8.index t 0 = (tb t).val ∧ win0_8.index t 1 = (th t).val ∧ win0_8.index t 2 = (tz t).val :=
  (by decide +kernel : ∀ t : Fin grid0.N, win0_8.index t 0 = t.val / 128 ∧ win0_8.index t 1 = t.val / 32 % 4 ∧ win0_8.index t 2 = t.val % 32) t

theorem emb0 (t : Fin cfg0.N) (d : Fin 128) (l : Fin 512) : ((cfg0.win 0).blk t).view.emb (ix3 0 d l) = ix3 (tb t) ⟨(th t).val * 128 + d.val, by omega⟩ ⟨(tz t).val * 512 + l.val, by omega⟩ := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 128 + d.val = (th t).val * 128 + d.val; rw [h1])
  | ⟨2, _⟩ => exact (Pipeline.Window.rect_emb_val _ _ _ _).trans (by show win0_0.index t 2 * 512 + l.val = (tz t).val * 512 + l.val; rw [h2])
theorem emb1 (t : Fin cfg0.N) (n : Fin 16384) (d : Fin 128) : ((cfg0.win 1).blk t).view.emb (ix3 0 n d) = ix3 (tb t) n ⟨(th t).val * 128 + d.val, by omega⟩ := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 16384 + n.val = n.val; rw [h1, Nat.zero_mul, Nat.zero_add])
  | ⟨2, _⟩ => exact (Pipeline.Window.rect_emb_val _ _ _ _).trans (by show win0_1.index t 2 * 128 + d.val = (th t).val * 128 + d.val; rw [h2])
theorem emb2 (t : Fin cfg0.N) (r : Fin 144) (n : Fin 16384) : ((cfg0.win 2).blk t).view.emb (ix3 0 r n) = ix3 (tb t) ⟨(th t).val * 144 + r.val, by omega⟩ n := by
  obtain ⟨h0, h1, h2⟩ := index2 t
  refine funext fun a => Fin.ext ?_
  match a with
  | ⟨0, _⟩ => exact (Pipeline.Window.rect_emb_val _ _ _ _).trans (by show win0_2.index t 0 * 1 + 0 = (tb t).val; rw [h0, Nat.mul_one, Nat.add_zero])
  | ⟨1, _⟩ => exact (Pipeline.Window.rect_emb_val _ _ _ _).trans (by show win0_2.index t 1 * 144 + r.val = (th t).val * 144 + r.val; rw [h1])
  | ⟨2, _⟩ => exact (Pipeline.Window.rect_emb_val _ _ _ _).trans (by show win0_2.index t 2 * 16384 + n.val = n.val; rw [h2, Nat.zero_mul, Nat.zero_add])
theorem emb3 (t : Fin cfg0.N) (x : Fin 64) : ((cfg0.win 3).blk t).view.emb (ix2 0 x) = ix2 0 x := by
  refine funext fun a => Fin.ext ?_
  match a with
  | ⟨0, _⟩ => exact (Pipeline.Window.rect_emb_val _ _ _ _).trans (by show win0_3.index t 0 * 1 + 0 = 0; rw [show win0_3.index t 0 = 0 from rfl, Nat.zero_mul, Nat.zero_add])
  | ⟨1, _⟩ => exact (Pipeline.Window.rect_emb_val _ _ _ _).trans (by show win0_3.index t 1 * 64 + x.val = x.val; rw [show win0_3.index t 1 = 0 from rfl, Nat.zero_mul, Nat.zero_add])
theorem emb4 (t : Fin cfg0.N) (x : Fin 64) : ((cfg0.win 4).blk t).view.emb (ix2 0 x) = ix2 0 x := by
  refine funext fun a => Fin.ext ?_
  match a with
  | ⟨0, _⟩ => exact (Pipeline.Window.rect_emb_val _ _ _ _).trans (by show win0_4.index t 0 * 1 + 0 = 0; rw [show win0_4.index t 0 = 0 from rfl, Nat.zero_mul, Nat.zero_add])
  | ⟨1, _⟩ => exact (Pipeline.Window.rect_emb_val _ _ _ _).trans (by show win0_4.index t 1 * 64 + x.val = x.val; rw [show win0_4.index t 1 = 0 from rfl, Nat.zero_mul, Nat.zero_add])
theorem emb5 (t : Fin cfg0.N) (x : Fin 64) : ((cfg0.win 5).blk t).view.emb (ix2 0 x) = ix2 0 x := by
  refine funext fun a => Fin.ext ?_
  match a with
  | ⟨0, _⟩ => exact (Pipeline.Window.rect_emb_val _ _ _ _).trans (by show win0_5.index t 0 * 1 + 0 = 0; rw [show win0_5.index t 0 = 0 from rfl, Nat.zero_mul, Nat.zero_add])
  | ⟨1, _⟩ => exact (Pipeline.Window.rect_emb_val _ _ _ _).trans (by show win0_5.index t 1 * 64 + x.val = x.val; rw [show win0_5.index t 1 = 0 from rfl, Nat.zero_mul, Nat.zero_add])
theorem emb6 (t : Fin cfg0.N) (x : Fin 64) : ((cfg0.win 6).blk t).view.emb (ix2 0 x) = ix2 0 x := by
  refine funext fun a => Fin.ext ?_
  match a with
  | ⟨0, _⟩ => exact (Pipeline.Window.rect_emb_val _ _ _ _).trans (by show win0_6.index t 0 * 1 + 0 = 0; rw [show win0_6.index t 0 = 0 from rfl, Nat.zero_mul, Nat.zero_add])
  | ⟨1, _⟩ => exact (Pipeline.Window.rect_emb_val _ _ _ _).trans (by show win0_6.index t 1 * 64 + x.val = x.val; rw [show win0_6.index t 1 = 0 from rfl, Nat.zero_mul, Nat.zero_add])
theorem emb7 (t : Fin cfg0.N) (x : Fin 128) : ((cfg0.win 7).blk t).view.emb (ix2 x 0) = ix2 x 0 := by
  refine funext fun a => Fin.ext ?_
  match a with
  | ⟨0, _⟩ => exact (Pipeline.Window.rect_emb_val _ _ _ _).trans (by show win0_7.index t 0 * 128 + x.val = x.val; rw [show win0_7.index t 0 = 0 from rfl, Nat.zero_mul, Nat.zero_add])
  | ⟨1, _⟩ => exact (Pipeline.Window.rect_emb_val _ _ _ _).trans (by show win0_7.index t 1 * 1 + 0 = 0; rw [show win0_7.index t 1 = 0 from rfl, Nat.zero_mul, Nat.zero_add])
theorem emb8 (t : Fin cfg0.N) (r : Fin 128) (l : Fin 512) : ((cfg0.win 8).blk t).view.emb (ix3 0 r l) = ix3 (tb t) ⟨(th t).val * 128 + r.val, by omega⟩ ⟨(tz t).val * 512 + l.val, by omega⟩ := by
  obtain ⟨h0, h1, h2⟩ := index8 t
  refine funext fun a => Fin.ext ?_
  match a with
  | ⟨0, _⟩ => exact (Pipeline.Window.rect_emb_val _ _ _ _).trans (by show win0_8.index t 0 * 1 + 0 = (tb t).val; rw [h0, Nat.mul_one, Nat.add_zero])
  | ⟨1, _⟩ => exact (Pipeline.Window.rect_emb_val _ _ _ _).trans (by show win0_8.index t 1 * 128 + r.val = (th t).val * 128 + r.val; rw [h1])
  | ⟨2, _⟩ => exact (Pipeline.Window.rect_emb_val _ _ _ _).trans (by show win0_8.index t 2 * 512 + l.val = (tz t).val * 512 + l.val; rw [h2])

theorem read0 (X : (b : Ref sig .tc) → Buf (Elt Ideal) ((c : Thread nD τ).loc b)) (t : Fin cfg0.N) (x) :
    ((cfg0.win 0).blk t).view.read (Elt Ideal) (X (Pipeline.arrRef spec0 0)) x = X main_v7 (((cfg0.win 0).blk t).view.emb x) := rfl
theorem iblk0_eq (t : Fin cfg0.N) (x) : iblk m c 0 t x = V m c main_v7 (((cfg0.win 0).blk t).view.emb x) := read0 c (V m c) t x
theorem read1 (X : (b : Ref sig .tc) → Buf (Elt Ideal) ((c : Thread nD τ).loc b)) (t : Fin cfg0.N) (x) :
    ((cfg0.win 1).blk t).view.read (Elt Ideal) (X (Pipeline.arrRef spec0 1)) x = X main_v9 (((cfg0.win 1).blk t).view.emb x) := rfl
theorem iblk1_eq (t : Fin cfg0.N) (x) : iblk m c 1 t x = V m c main_v9 (((cfg0.win 1).blk t).view.emb x) := read1 c (V m c) t x
theorem read2 (X : (b : Ref sig .tc) → Buf (Elt Ideal) ((c : Thread nD τ).loc b)) (t : Fin cfg0.N) (x) :
    ((cfg0.win 2).blk t).view.read (Elt Ideal) (X (Pipeline.arrRef spec0 2)) x = X main_v14 (((cfg0.win 2).blk t).view.emb x) := rfl
theorem iblk2_eq (t : Fin cfg0.N) (x) : iblk m c 2 t x = V m c main_v14 (((cfg0.win 2).blk t).view.emb x) := read2 c (V m c) t x
theorem read3 (X : (b : Ref sig .tc) → Buf (Elt Ideal) ((c : Thread nD τ).loc b)) (t : Fin cfg0.N) (x) :
    ((cfg0.win 3).blk t).view.read (Elt Ideal) (X (Pipeline.arrRef spec0 3)) x = X main_v15 (((cfg0.win 3).blk t).view.emb x) := rfl
theorem iblk3_eq (t : Fin cfg0.N) (x) : iblk m c 3 t x = V m c main_v15 (((cfg0.win 3).blk t).view.emb x) := read3 c (V m c) t x
theorem read4 (X : (b : Ref sig .tc) → Buf (Elt Ideal) ((c : Thread nD τ).loc b)) (t : Fin cfg0.N) (x) :
    ((cfg0.win 4).blk t).view.read (Elt Ideal) (X (Pipeline.arrRef spec0 4)) x = X main_v16 (((cfg0.win 4).blk t).view.emb x) := rfl
theorem iblk4_eq (t : Fin cfg0.N) (x) : iblk m c 4 t x = V m c main_v16 (((cfg0.win 4).blk t).view.emb x) := read4 c (V m c) t x
theorem read5 (X : (b : Ref sig .tc) → Buf (Elt Ideal) ((c : Thread nD τ).loc b)) (t : Fin cfg0.N) (x) :
    ((cfg0.win 5).blk t).view.read (Elt Ideal) (X (Pipeline.arrRef spec0 5)) x = X main_v17 (((cfg0.win 5).blk t).view.emb x) := rfl
theorem iblk5_eq (t : Fin cfg0.N) (x) : iblk m c 5 t x = V m c main_v17 (((cfg0.win 5).blk t).view.emb x) := read5 c (V m c) t x
theorem read6 (X : (b : Ref sig .tc) → Buf (Elt Ideal) ((c : Thread nD τ).loc b)) (t : Fin cfg0.N) (x) :
    ((cfg0.win 6).blk t).view.read (Elt Ideal) (X (Pipeline.arrRef spec0 6)) x = X main_v18 (((cfg0.win 6).blk t).view.emb x) := rfl
theorem iblk6_eq (t : Fin cfg0.N) (x) : iblk m c 6 t x = V m c main_v18 (((cfg0.win 6).blk t).view.emb x) := read6 c (V m c) t x
theorem read7 (X : (b : Ref sig .tc) → Buf (Elt Ideal) ((c : Thread nD τ).loc b)) (t : Fin cfg0.N) (x) :
    ((cfg0.win 7).blk t).view.read (Elt Ideal) (X (Pipeline.arrRef spec0 7)) x = X main_v19 (((cfg0.win 7).blk t).view.emb x) := rfl
theorem iblk7_eq (t : Fin cfg0.N) (x) : iblk m c 7 t x = V m c main_v19 (((cfg0.win 7).blk t).view.emb x) := read7 c (V m c) t x

theorem blk0_apply (t : Fin cfg0.N) (d : Fin 128) (l : Fin 512) : (iblk m c 0 t : Vec Ideal S1x128x512 .bf16) (ix3 0 d l)
    = scaled (m ((c : Thread nD τ).loc main_arg0) (ix5 (tb t) ⟨(tz t).val * 512 + l.val, by omega⟩ (th t) ⟨d.val / 64, by omega⟩ ⟨d.val % 64, by omega⟩)) :=
  (iblk0_eq m c t _).trans ((congrArg (V m c main_v7) (emb0 t d l)).trans (v7_apply m c (tb t) (th t) d _))
theorem blk1_apply (t : Fin cfg0.N) (n : Fin 16384) (d : Fin 128) : (iblk m c 1 t : Vec Ideal S1x16384x128 .bf16) (ix3 0 n d)
    = m ((c : Thread nD τ).loc main_arg1) (ix5 (tb t) n (th t) ⟨d.val / 64, by omega⟩ ⟨d.val % 64, by omega⟩) :=
  (iblk1_eq m c t _).trans ((congrArg (V m c main_v9) (emb1 t n d)).trans (v9_apply m c (tb t) (th t) d n))
theorem blk2_apply (t : Fin cfg0.N) (r : Fin 144) (n : Fin 16384) : (iblk m c 2 t : Vec Ideal S1x144x16384 .bf16) (ix3 0 r n)
    = (if hr : r.val < 128 then m ((c : Thread nD τ).loc main_arg2) (ix4 (tb t) n (th t) ⟨r.val, hr⟩) else (1 : EReal) : EReal) :=
  (iblk2_eq m c t _).trans ((congrArg (V m c main_v14) (emb2 t r n)).trans (v14_apply m c (tb t) (th t) r n))
theorem blk3_apply (t : Fin cfg0.N) (x : Fin 64) : (iblk m c 3 t : Vec Ideal S1x64 .f32) (ix2 0 x) = m ((c : Thread nD τ).loc main_arg3) (ix1 x) :=
  (iblk3_eq m c t _).trans ((congrArg (V m c main_v15) (emb3 t x)).trans (v15_apply m c x))
theorem blk4_apply (t : Fin cfg0.N) (x : Fin 64) : (iblk m c 4 t : Vec Ideal S1x64 .f32) (ix2 0 x) = m ((c : Thread nD τ).loc main_arg4) (ix1 x) :=
  (iblk4_eq m c t _).trans ((congrArg (V m c main_v16) (emb4 t x)).trans (v16_apply m c x))
theorem blk5_apply (t : Fin cfg0.N) (x : Fin 64) : (iblk m c 5 t : Vec Ideal S1x64 .f32) (ix2 0 x) = m ((c : Thread nD τ).loc main_arg5) (ix1 x) :=
  (iblk5_eq m c t _).trans ((congrArg (V m c main_v17) (emb5 t x)).trans (v17_apply m c x))
theorem blk6_apply (t : Fin cfg0.N) (x : Fin 64) : (iblk m c 6 t : Vec Ideal S1x64 .f32) (ix2 0 x) = m ((c : Thread nD τ).loc main_arg6) (ix1 x) :=
  (iblk6_eq m c t _).trans ((congrArg (V m c main_v18) (emb6 t x)).trans (v18_apply m c x))
theorem blk7_apply (t : Fin cfg0.N) (x : Fin 128) : (iblk m c 7 t : Vec Ideal S128x1 .f32) (ix2 x 0) = m ((c : Thread nD τ).loc main_arg7) (ix1 x) :=
  (iblk7_eq m c t _).trans ((congrArg (V m c main_v19) (emb7 t x)).trans (v19_apply m c x))
end Cert.Kernel6Ideal.DA
-- ==== Proof.RefSecond.lean ====
/- The second even layer: the reference's coefficient and its closing lines at an index. -/
module

public import proofs.«01_k».proof.Proof.Ref
public import proofs.«01_k».proof.Proof.Gen.Reference6Ideal.Run
public import Idealize.ShloMosaic.Lib.Pipeline.ValueKit
public import Idealize.ShloMosaic.Lib.Pointwise
public import Idealize.ShloMosaic.Lib.Claim

@[expose] public section
set_option maxRecDepth 16384
noncomputable section
open Idealize.ShloMosaic Idealize.ShloMosaic.TcCoe Idealize.SL.Sem
namespace Cert.Reference6Ideal.DA
open Cert.Reference6Ideal Cert.Reference6Ideal.Gen Cert.Reference6Ideal.Value
open Cert.ReferenceIdeal.DA (scores top along weights probs mixed)

/-- The coefficient of the second attention. -/
def coef (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3EF1014C#32)

/-- The norm, the gain, the constant and the layout of the result. -/
def closing (o : FVec Ideal S2x16384x4x128 .f32) (g : FVec Ideal S128 .f32) : FVec Ideal S2x512x16384 .f32 :=
  transpose S2x512x16384 [0, 2, 1] (shapeCast _ (mulf (mulf (mulf o
    (broadcastInDim S2x16384x4x128 ![0, 1, 2, 3] bcast_S2x16384x4x1_S2x16384x4x128_0_1_2_3 (Host.rsqrt (addf (Host.divf
      (broadcastInDim S2x16384x4x1 ![0, 1, 2] bcast_S2x16384x4_S2x16384x4x1_0_1_2 (Host.reduceAdd (mulf o o) (constant S_ .f32 0x00000000#32) reducesTo_S2x16384x4x128_S2x16384x4_d3 h_S_))
      (broadcastInDim S2x16384x4x1 ![] bcast_S_S2x16384x4x1 (constant S_ .f32 0x43000000#32)))
      (broadcastInDim S2x16384x4x1 ![] bcast_S_S2x16384x4x1 (constant S_ .f32 0x358637BD#32))))))
    (broadcastInDim S2x16384x4x128 ![0, 1, 2, 3] bcast_S1x1x1x128_S2x16384x4x128_0_1_2_3 (broadcastInDim S1x1x1x128 ![3] bcast_S128_S1x1x1x128_3 g)))
    (broadcastInDim S2x16384x4x128 ![] bcast_S_S2x16384x4x128 (constant S_ .f32 0x3F077F5A#32))) shapeCasts_S2x16384x4x128_S2x16384x512)
    transposes_S2x16384x512_S2x512x16384_0_2_1

theorem res_eq (m : (o : Loc nD τ sig) → Buf (Elt Ideal) o) (c : Dev nD) :
    res_main_v54 m c = closing (mixed (probs (weights (scores (m ((c.tc : Thread nD τ).loc main_arg0)) (m ((c.tc : Thread nD τ).loc main_arg1)))))
      (coef (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg2))) (m ((c.tc : Thread nD τ).loc main_arg7)) := rfl

section
variable (b : Fin 2) (h : Fin 4) (ch : Fin 2) (q j : Fin 16384)

theorem coef_apply (w x y z : FVec Ideal S64 .f32) : coef w x y z ix0 = Ideal.exp (∑ t, w (ix1 t) * x (ix1 t)) - Ideal.exp (∑ t, y (ix1 t) * z (ix1 t)) + (Ideal.ofBits .f32 0x3EF1014C#32 : EReal) := by
  pointwise [coef]
/-- The closing lines at an index. -/
def closed (o : FVec Ideal S2x16384x4x128 .f32) (g : FVec Ideal S128 .f32) (r : Fin 128) : EReal :=
  o (ix4 b q h r) * Ideal.rsqrt (Ideal.div (∑ x, o (ix4 b q h x) * o (ix4 b q h x) : EReal) (Ideal.ofBits .f32 0x43000000#32) + Ideal.ofBits .f32 0x358637BD#32)
    * g (ix1 r) * Ideal.ofBits .f32 0x3F077F5A#32
theorem closing_apply (o : FVec Ideal S2x16384x4x128 .f32) (g : FVec Ideal S128 .f32) (d : Fin 512) :
    closing o g (ix3 b d q) = closed b ⟨d.val / 128, by have := d.isLt; omega⟩ q o g ⟨d.val % 128, by omega⟩ := by
  pointwise [closing]
  rfl
end
end Cert.Reference6Ideal.DA
-- ==== Proof.SoftSecond.lean ====
/- The second even layer: its coefficient of the second attention is a real number. -/
module

public import proofs.«01_k».proof.Proof.Soft
public import proofs.«01_k».proof.Proof.HostSecond
public import proofs.«01_k».proof.Proof.RefSecond

@[expose] public section
noncomputable section
open Idealize.ShloMosaic
namespace Cert.SoftSecond
open Cert.Kernel6Ideal.DA (lam)
open Cert.Soft (sum_coe)

theorem bits_coef : ∃ y : ℝ, Ideal.ofBits .f32 0x3EF1014C#32 = (y : EReal) := by
  simp [Ideal.ofBits, Ideal.ieee, -EReal.coe_mul]

/-- The coefficient of the second attention is a real number. -/
theorem lam_coe (a b c d : Fin 64 → ℝ) : ∃ L : ℝ, lam (fun x => (a x : EReal)) (fun x => (b x : EReal)) (fun x => (c x : EReal)) (fun x => (d x : EReal)) = (L : EReal) := by
  obtain ⟨y, hy⟩ := bits_coef
  unfold lam
  simp only [← EReal.coe_mul, sum_coe, Ideal.exp_coe]
  rw [hy, ← EReal.coe_sub, ← EReal.coe_add]
  exact ⟨_, rfl⟩
end Cert.SoftSecond
-- ==== Proof.JoinSecond.lean ====
/- The second even layer: a block of the kernel's result is the reference's result at the block's place, the inputs being real numbers. -/
module

public import proofs.«01_k».proof.Proof.Join
public import proofs.«01_k».proof.Proof.SoftSecond

@[expose] public section
noncomputable section
open Idealize.ShloMosaic
namespace Cert.SoftSecond
open Cert.Kernel6Ideal.DA Cert.Reference6Ideal.DA
open Cert.KernelIdeal.DA (kf ew acc scaled)
open Cert.ReferenceIdeal.DA (scores weights probs mixed mixed_apply)
open Cert.Soft (sc probs_coe weight_coe ones_row acc_coe total difference)
open Cert.Reference6Ideal (S2x16384x4x2x64 S2x16384x4x128 S64 S128)
open Cert.Kernel6Ideal (S1x128x512 S1x16384x128 S1x144x16384 S1x64 S128x1)

section
variable (b : Fin 2) (h : Fin 4) (q : Fin 16384) (Q K : S2x16384x4x2x64.Idx → ℝ) (W : S2x16384x4x128.Idx → ℝ)

/-- A block of the kernel's result and the reference's, entry by entry. -/
theorem blk_value (i : Cert.Kernel6Ideal.grid0.Coords) (x0 : Vec Ideal S1x128x512 .bf16) (x1 : Vec Ideal S1x16384x128 .bf16) (x2 : Vec Ideal S1x144x16384 .bf16)
    (x3 x4 x5 x6 : Vec Ideal S1x64 .f32) (x7 : Vec Ideal S128x1 .f32) (r : Fin 128) (l : Fin 512) (hi : 512 * (i 2).val + (l.val + 1) = q.val + 1)
    (x y : FVec Ideal S2x16384x4x2x64 .f32) (v : FVec Ideal S2x16384x4x128 .f32) (a₁ b₁ a₂ b₂ : FVec Ideal S64 .f32) (g : FVec Ideal S128 .f32) (A₁ B₁ A₂ B₂ : S64.Idx → ℝ)
    (hx : ∀ i, x i = (Q i : EReal)) (hy : ∀ i, y i = (K i : EReal)) (hv : ∀ i, v i = (W i : EReal))
    (ha₁ : ∀ i, a₁ i = (A₁ i : EReal)) (hb₁ : ∀ i, b₁ i = (B₁ i : EReal)) (ha₂ : ∀ i, a₂ i = (A₂ i : EReal)) (hb₂ : ∀ i, b₂ i = (B₂ i : EReal))
    (h0 : ∀ d : Fin 128, x0 (ix3 0 d l) = scaled (x (ix5 b q h ⟨d.val / 64, by omega⟩ ⟨d.val % 64, by omega⟩)))
    (h1 : ∀ (n : Fin 16384) (d : Fin 128), x1 (ix3 0 n d) = y (ix5 b n h ⟨d.val / 64, by omega⟩ ⟨d.val % 64, by omega⟩))
    (h2 : ∀ (r : Fin 144) (n : Fin 16384), x2 (ix3 0 r n) = (if hr : r.val < 128 then v (ix4 b n h ⟨r.val, hr⟩) else (1 : EReal) : EReal))
    (h3 : ∀ t, x3 (ix2 0 t) = a₁ (ix1 t)) (h4 : ∀ t, x4 (ix2 0 t) = b₁ (ix1 t)) (h5 : ∀ t, x5 (ix2 0 t) = a₂ (ix1 t)) (h6 : ∀ t, x6 (ix2 0 t) = b₂ (ix1 t))
    (h7 : x7 (ix2 r 0) = g (ix1 r)) :
    blk i x0 x1 x2 x3 x4 x5 x6 x7 r l = closed b h q (mixed (probs (weights (scores x y))) (coef a₁ b₁ a₂ b₂) v) g r := by
  obtain ⟨L, hL⟩ := lam_coe (fun t => A₁ (ix1 t)) (fun t => B₁ (ix1 t)) (fun t => A₂ (ix1 t)) (fun t => B₂ (ix1 t))
  have hlam : lam (fun t => x3 (ix2 0 t)) (fun t => x4 (ix2 0 t)) (fun t => x5 (ix2 0 t)) (fun t => x6 (ix2 0 t)) = (L : EReal) := by
    rw [← hL]
    simp only [h3, h4, h5, h6, ha₁, hb₁, ha₂, hb₂]
  have hcoef : coef a₁ b₁ a₂ b₂ ix0 = (L : EReal) := by
    rw [coef_apply, ← hL]
    simp only [ha₁, hb₁, ha₂, hb₂]
    rfl
  have hw : ∀ (ch : Fin 2) (k : ℕ), ew x0 x1 ch.val l k = ((Real.exp (sc Q K b h q ch (kf k)) : ℝ) : EReal) :=
    weight_coe b h q Q K l (fun d => (h0 d).trans (congrArg scaled (hx _))) fun n d => (h1 n d).trans (hy _)
  have hrow : ∀ (ch : Fin 2) (r : Fin 128), acc x0 x1 x2 ch.val ⟨r.val, by omega⟩ l (q.val + 1)
      = ((∑ z : Fin 16384, if z.val ≤ q.val then (fun z => W (ix4 b z h r)) z * Real.exp (sc Q K b h q ch z) else 0 : ℝ) : EReal) := fun ch r =>
    acc_coe ch.val _ l q.val q.isLt (fun z => W (ix4 b z h r)) (sc Q K b h q ch) (fun z => (h2 _ z).trans ((dif_pos r.isLt).trans (hv _))) (hw ch)
  have hone : ∀ ch : Fin 2, acc x0 x1 x2 ch.val 128 l (q.val + 1) = ((total q.val (sc Q K b h q ch) : ℝ) : EReal) := fun ch =>
    (acc_coe ch.val 128 l q.val q.isLt (fun _ => 1) (sc Q K b h q ch) (fun z => (h2 _ z).trans (dif_neg (by decide))) (hw ch)).trans
      (congrArg _ (ones_row q _))
  have ho : (fun r : Fin 128 => Ideal.div (acc x0 x1 x2 0 ⟨r.val, by omega⟩ l (512 * (i 2).val + (l.val + 1))) (acc x0 x1 x2 0 128 l (512 * (i 2).val + (l.val + 1)))
      - lam (fun t => x3 (ix2 0 t)) (fun t => x4 (ix2 0 t)) (fun t => x5 (ix2 0 t)) (fun t => x6 (ix2 0 t))
        * Ideal.div (acc x0 x1 x2 1 ⟨r.val, by omega⟩ l (512 * (i 2).val + (l.val + 1))) (acc x0 x1 x2 1 128 l (512 * (i 2).val + (l.val + 1))))
      = fun r => mixed (probs (weights (scores x y))) (coef a₁ b₁ a₂ b₂) v (ix4 b q h r) := by
    rw [hi, hlam]
    funext r
    rw [mixed_apply, hcoef]
    refine (congrArg₂ (· - ·) (congrArg₂ Ideal.div (hrow 0 r) (hone 0)) (congrArg ((L : EReal) * ·) (congrArg₂ Ideal.div (hrow 1 r) (hone 1)))).trans ?_
    refine (difference q.val q.isLt _ _ _ L).trans (Finset.sum_congr rfl fun z _ => ?_)
    rw [probs_coe b h q Q K x y hx hy, probs_coe b h q Q K x y hx hy, hv]
  unfold blk closed
  dsimp only
  rw [ho, h7]
  rfl
end
end Cert.SoftSecond
-- ==== Proof.FinalSecond.lean ====
/- The second even layer: the kernel's whole result is the reference's. -/
module

public import proofs.«01_k».proof.Proof.Final
public import proofs.«01_k».proof.Proof.JoinSecond

@[expose] public section
set_option maxRecDepth 16384
noncomputable section
open Idealize.ShloMosaic Idealize.ShloMosaic.TcCoe Idealize.SL.Sem
namespace Cert.Kernel6Ideal.DA
open Cert.Kernel6Ideal Cert.Kernel6Ideal.Gen
open Cert.KernelIdeal.DA (IsReal)
open Cert.ReferenceIdeal.DA (scores weights probs mixed)
variable (m : (o : Loc nD τ sig) → Buf (Elt Ideal) o) (c : Dev nD)

/-- What a grid point leaves in the result's block. -/
theorem left_apply (t : Fin cfg0.N) (r : Fin 128) (l : Fin 512) : outsAt0 m c t.val t.isLt (ix3 0 r l)
    = blk (grid0.coords t) (iblk m c 0 t) (iblk m c 1 t) (iblk m c 2 t) (iblk m c 3 t) (iblk m c 4 t) (iblk m c 5 t) (iblk m c 6 t) (iblk m c 7 t) r l := by
  by_cases h0 : t.val % 8 = 4 ∨ t.val % 8 = 5 ∨ t.val % 8 = 6 ∨ t.val % 8 = 7 <;>
  by_cases h1 : t.val % 4 = 2 ∨ t.val % 4 = 3 <;>
  by_cases h2 : t.val % 2 = 1
  · exact (congrFun (outsAt0_H m c t h0 h1 h2) _).trans (out_H _ _ _ _ _ _ _ _ _ _ _ _ _ _ _ _ _ _ _ _ _ _ _ _ _ _ _ _ _ _ _ _ ((hcond0_0 t).mpr h0) ((hcond0_1 t).mpr h1) ((hcond0_2 t).mpr h2) r l)
  · exact (congrFun (outsAt0_G m c t h0 h1 h2) _).trans (out_G _ _ _ _ _ _ _ _ _ _ _ _ _ _ _ _ _ _ _ _ _ _ _ _ _ _ _ _ _ _ _ _ ((hcond0_0 t).mpr h0) ((hcond0_1 t).mpr h1) (fun h => h2 ((hcond0_2 t).mp h)) r l)
  · exact (congrFun (outsAt0_F m c t h0 h1 h2) _).trans (out_F _ _ _ _ _ _ _ _ _ _ _ _ _ _ _ _ _ _ _ _ _ _ _ _ _ _ _ _ _ _ _ _ ((hcond0_0 t).mpr h0) (fun h => h1 ((hcond0_1 t).mp h)) ((hcond0_2 t).mpr h2) r l)
  · exact (congrFun (outsAt0_E m c t h0 h1 h2) _).trans (out_E _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) r l)
  · exact (congrFun (outsAt0_D m c t h0 h1 h2) _).trans (out_D _ _ _ _ _ _ _ _ _ _ _ _ _ _ _ _ _ _ _ _ _ _ _ _ _ _ _ _ _ _ _ _ (fun h => h0 ((hcond0_0 t).mp h)) ((hcond0_1 t).mpr h1) ((hcond0_2 t).mpr h2) r l)
  · exact (congrFun (outsAt0_C m c t h0 h1 h2) _).trans (out_C _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) r l)
  · exact (congrFun (outsAt0_B m c t h0 h1 h2) _).trans (out_B _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) r l)
  · exact (congrFun (outsAt0_A m c t h0 h1 h2) _).trans (out_A _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) r l)

/-- The reference's result of the kernel's arguments. -/
def result : FVec Ideal Cert.Reference6Ideal.S2x512x16384 .f32 :=
  Cert.Reference6Ideal.DA.closing (mixed (probs (weights
      (scores (m ((c : Thread nD τ).loc main_arg0)) (m ((c : Thread nD τ).loc main_arg1)))))
    (Cert.Reference6Ideal.DA.coef (m ((c : Thread nD τ).loc main_arg3)) (m ((c : Thread nD τ).loc main_arg4)) (m ((c : Thread nD τ).loc main_arg5)) (m ((c : Thread nD τ).loc main_arg6)))
    (m ((c : Thread nD τ).loc main_arg2))) (m ((c : Thread nD τ).loc main_arg7))

section
variable (r0 : IsReal (s := S2x16384x4x2x64) (m ((c : Thread nD τ).loc main_arg0))) (r1 : IsReal (s := S2x16384x4x2x64) (m ((c : Thread nD τ).loc main_arg1)))
  (r2 : IsReal (s := S2x16384x4x128) (m ((c : Thread nD τ).loc main_arg2)))
  (r3 : IsReal (s := S64) (m ((c : Thread nD τ).loc main_arg3))) (r4 : IsReal (s := S64) (m ((c : Thread nD τ).loc main_arg4)))
  (r5 : IsReal (s := S64) (m ((c : Thread nD τ).loc main_arg5))) (r6 : IsReal (s := S64) (m ((c : Thread nD τ).loc main_arg6)))
include r0 r1 r2 r3 r4 r5 r6

theorem left_eq (t : Fin cfg0.N) (r : Fin 128) (l : Fin 512) : outsAt0 m c t.val t.isLt (ix3 0 r l)
    = result m c (ix3 (tb t) ⟨(th t).val * 128 + r.val, by omega⟩ ⟨(tz t).val * 512 + l.val, by omega⟩) := by
  obtain ⟨Q, hQ⟩ := r0
  obtain ⟨K, hK⟩ := r1
  obtain ⟨W, hW⟩ := r2
  obtain ⟨A₁, hA₁⟩ := r3
  obtain ⟨B₁, hB₁⟩ := r4
  obtain ⟨A₂, hA₂⟩ := r5
  obtain ⟨B₂, hB₂⟩ := r6
  refine (left_apply m c t r l).trans ?_
  refine (Cert.SoftSecond.blk_value (tb t) (th t) ⟨(tz t).val * 512 + l.val, by omega⟩ Q K W (grid0.coords t) _ _ _ _ _ _ _ _ r l (by rw [coord2]; show 512 * (tz t).val + (l.val + 1) = (tz t).val * 512 + l.val + 1; omega)
    _ _ _ _ _ _ _ _ A₁ B₁ A₂ B₂ hQ hK hW hA₁ hB₁ hA₂ hB₂ (fun d => blk0_apply m c t d l) (blk1_apply m c t) (blk2_apply m c t)
    (blk3_apply m c t) (blk4_apply m c t) (blk5_apply m c t) (blk6_apply m c t) (blk7_apply m c t r)).trans ?_
  have e0 : (⟨((th t).val * 128 + r.val) / 128, by omega⟩ : Fin 4) = th t := Fin.ext (by show ((th t).val * 128 + r.val) / 128 = (th t).val; omega)
  have e1 : (⟨((th t).val * 128 + r.val) % 128, by omega⟩ : Fin 128) = r := Fin.ext (by show ((th t).val * 128 + r.val) % 128 = r.val; omega)
  unfold result
  rw [Cert.Reference6Ideal.DA.closing_apply]
  dsimp only
  rw [e0, e1]

theorem array_eq : (dats m 0 c).arrAt 8 cfg0.N = (result m c : Vec Ideal S2x512x16384 .f32) := by
  refine (dats m 0 c).arrAt_eq_of_covers 8 _ (by decide +kernel) fun t hf y => ?_
  have hy : (y : S1x128x512.Idx) = ix3 0 (y 1) (y 2) := funext fun a => by
    match a with
    | ⟨0, _⟩ => exact Subsingleton.elim (α := Fin 1) _ _
    | ⟨1, _⟩ => rfl
    | ⟨2, _⟩ => rfl
  blk_simp
  rw [after0_8]
  refine (congrArg (outsAt0 m c t.val t.isLt) hy).trans ((left_eq m c r0 r1 r2 r3 r4 r5 r6 t (y 1) (y 2)).trans (congrArg (result m c) ?_))
  exact (emb8 t (y 1) (y 2)).symm.trans (congrArg ((win0_8.blk t).view.emb) hy.symm)
end
end Cert.Kernel6Ideal.DA
-- ==== Proof.ClaimsSecond.lean ====
/- The claims of the differential attention in the second even layer. -/
module

public import proofs.«01_k».proof.Defs
public import proofs.«01_k».proof.Proof.Gen.Kernel6.Frame
public import proofs.«01_k».proof.Proof.FinalSecond
public import proofs.«01_k».proof.Proof.Claims
public import Idealize.ShloMosaic.Lib.Quiescent
public import Idealize.ShloMosaic.Lib.ReduceAll
public import Idealize.ShloMosaic.Lib.Affine

@[expose] public section
set_option maxRecDepth 16384
noncomputable section
open Idealize.ShloMosaic Idealize.SL.Sem
namespace Cert.AttentionSecond
open Cert.Attention (reals)

theorem frame_p : Cert.quiescent_Kernel6 := fun m ρ _ => Cert.Kernel6.Gen.frame m ρ
theorem frame_pi : Cert.quiescent_Kernel6Ideal := fun m ρ _ => Cert.Kernel6Ideal.Gen.frame m ρ
theorem frame_pi_pre : Cert.quiescent_Kernel6Ideal_pre_finite := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem frame_ri_pre : Cert.quiescent_Reference6Ideal_pre_finite := fun m ρ _ => frame_ri m ρ trivial

/-- The mask's constant is named, and stands for `-∞`. -/
theorem preserves : Cert.preserves_Kernel6_Kernel6Ideal := IdealRules.named_const.statement Cert.Kernel6Ideal.κ "mask" .f32 0xF149F2CA#32 ⊥ rfl

/-- The two programs' results are one array. -/
theorem algebraic : Cert.algebraic_Kernel6Ideal_Reference6Ideal_pre_finite := by
  intro m ρ m' ρ' hpre hagree
  refine ⟨fun c => Cert.Kernel6Ideal.DA.result m c, ?_, ?_⟩
  · refine (θ_run Cert.Kernel6Ideal.defs _ _).mono (fun _ h c => ⟨(h c).1.trans ?_, (h c).2⟩) (Cert.Kernel6Ideal.Value.run_blocks (F := Ideal) m ρ)
    obtain ⟨r0, r1, r2, r3, r4, r5, r6⟩ := reals _ _ _ _ _ _ _ _ (hpre c)
    exact Cert.Kernel6Ideal.DA.array_eq m c r0 r1 r2 r3 r4 r5 r6
  · refine (θ_run Cert.Reference6Ideal.defs _ _).mono (fun _ h c => ⟨(h c).1.trans ?_, (h c).2⟩) (Cert.Reference6Ideal.Value.run (F := Ideal) m' ρ')
    obtain ⟨e0, e1, e2, e3, e4, e5, e6, e7⟩ := hagree c
    rw [Cert.Reference6Ideal.DA.res_eq, e0, e1, e2, e3, e4, e5, e6, e7]
    rfl
end Cert.AttentionSecond
-- ==== Proof.Glu.lean ====
/- The gated unit after the scan: each grid point's block is the reference's result there, and the blocks tile the array. -/
module

public import proofs.«01_k».proof.Defs
public import proofs.«01_k».proof.Proof.Parts
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.Value
public import Idealize.ShloMosaic.Lib.Pipeline.ValueKit
public import Idealize.ShloMosaic.Lib.Quiescent
public import Idealize.ShloMosaic.Lib.Claim

@[expose] public section
set_option maxRecDepth 16384
noncomputable section
open Idealize.ShloMosaic Idealize.ShloMosaic.TcCoe Idealize.SL.Sem

namespace Cert.Reference7Ideal.Gate
open Cert.Reference7Ideal Cert.Reference7Ideal.Gen

/-- The product with the weights and the bias. -/
def pre (y : FVec Ideal S32768x512 .f32) (w : FVec Ideal S512x512 .f32) (b : FVec Ideal S512 .f32) : FVec Ideal S32768x512 .f32 :=
  addf (Host.dotGeneral dot_S32768x512_S512x512_S32768x512_1_0_0_1_n_n none y w) (broadcastInDim S32768x512 ![0, 1] bcast_S1x512_S32768x512_0_1 (broadcastInDim S1x512 ![1] bcast_S512_S1x512_1 b))
def ones : FVec Ideal S32768x512 .f32 := broadcastInDim S32768x512 ![] bcast_S_S32768x512 (constant S_ .f32 0x3F800000#32)
def res (y : FVec Ideal S32768x512 .f32) (w : FVec Ideal S512x512 .f32) (b : FVec Ideal S512 .f32) : FVec Ideal S32768x512 .f32 :=
  mulf y (Host.divf ones (addf ones (Host.exp (Host.negf (pre y w b)))))

theorem pre_apply (y : FVec Ideal S32768x512 .f32) (w : FVec Ideal S512x512 .f32) (b : FVec Ideal S512 .f32) (q : Fin 32768) (n : Fin 512) :
    pre y w b (ix2 q n) = (∑ k : Fin 512, (y (ix2 q k) : EReal) * (w (ix2 k n) : EReal)) + (b (ix1 n) : EReal) := by
  pointwise [pre]
theorem ones_apply (i : S32768x512.Idx) : ones i = (1 : EReal) := by
  show Ideal.ofBits .f32 0x3F800000#32 = 1
  exact Ideal.ofBits_one_f32

/-- The gate is the logistic function of the product. -/
theorem res_apply (y : FVec Ideal S32768x512 .f32) (w : FVec Ideal S512x512 .f32) (b : FVec Ideal S512 .f32) (q : Fin 32768) (n : Fin 512) :
    res y w b (ix2 q n) = (y (ix2 q n) : EReal) * Ideal.logistic ((∑ k : Fin 512, (y (ix2 q k) : EReal) * (w (ix2 k n) : EReal)) + (b (ix1 n) : EReal)) := by
  rw [← pre_apply]
  show (y (ix2 q n) : EReal) * Ideal.div (ones (ix2 q n)) (ones (ix2 q n) + Ideal.exp (-(pre y w b (ix2 q n)))) = _
  rw [ones_apply]
  rfl
end Cert.Reference7Ideal.Gate

namespace Cert.Kernel7Ideal.Gate
open Cert.Kernel7Ideal Cert.Kernel7Ideal.Gen
open Cert.Parts (zero2)
variable (m : (o : Loc nD τ sig) → Buf (Elt Ideal) o) (c : Dev nD)

/-! ## What the body writes -/

theorem pay_apply (v0 : Vec Ideal S1024x512 .f32) (v2 : Vec Ideal S512x512 .bf16) (v5 : Vec Ideal S1x512 .f32) (l : Fin 1024) (n : Fin 512) :
    k0_pay1 v0 v2 v5 (ix2 l n) = (v0 (ix2 l n) : EReal) * Ideal.logistic ((∑ k : Fin 512, (v0 (ix2 l k) : EReal) * (v2 (ix2 k n) : EReal)) + (v5 (ix2 0 n) : EReal)) := by
  pointwise [k0_pay1]

theorem out_apply (x0 : Vec Ideal S1024x512 .f32) (x1 : Vec Ideal S512x512 .bf16) (x2 : Vec Ideal S1x512 .f32) (l : Fin 1024) (n : Fin 512) :
    out0_3 x0 x1 x2 (ix2 l n) = (x0 (ix2 l n) : EReal) * Ideal.logistic ((∑ k : Fin 512, (x0 (ix2 l k) : EReal) * (x1 (ix2 k n) : EReal)) + (x2 (ix2 0 n) : EReal)) := by
  unfold out0_3
  rw [View.canon_cons_unit_zero zero2, View.ld_unit_zero zero2 _ x0, View.ld_unit_zero zero2 _ x1, View.ld_unit_zero zero2 _ x2]
  exact pay_apply x0 x1 x2 l n

/-! ## The host's arrays and the blocks -/

theorem v0_apply (k n : Fin 512) : (V m c main_v0 : Vec Ideal S512x512 .bf16) (ix2 k n) = m ((c : Thread nD τ).loc main_arg1) (ix2 k n) := by
  entry_read
  pointwise
theorem v1_apply (n : Fin 512) : (V m c main_v1 : Vec Ideal S1x512 .f32) (ix2 0 n) = m ((c : Thread nD τ).loc main_arg2) (ix1 n) := by
  entry_read
  pointwise
theorem a0_eq : V m c main_arg0 = m ((c : Thread nD τ).loc main_arg0) := by
  entry_read
  rfl

/-- The row of the whole array at row `l` of a grid point's tile. -/
def row (t : Fin cfg0.N) (l : Fin 1024) : Fin 32768 := ⟨t.val * 1024 + l.val, by have := lt_of_lt_of_eq t.isLt (show cfg0.N = 32 from N_0); omega⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t

theorem emb0 (t : Fin cfg0.N) (l : Fin 1024) (n : Fin 512) : ((cfg0.win 0).blk t).view.emb (ix2 l n) = ix2 (row t l) n := by
  obtain ⟨h0, h1⟩ := index0 t
  refine funext fun a => Fin.ext ?_
  match a with
  | ⟨0, _⟩ => exact (Pipeline.Window.rect_emb_val _ _ _ _).trans (by show win0_0.index t 0 * 1024 + l.val = t.val * 1024 + l.val; rw [h0])
  | ⟨1, _⟩ => exact (Pipeline.Window.rect_emb_val _ _ _ _).trans (by show win0_0.index t 1 * 512 + n.val = n.val; rw [h1, Nat.zero_mul, Nat.zero_add])
theorem emb1 (t : Fin cfg0.N) (k n : Fin 512) : ((cfg0.win 1).blk t).view.emb (ix2 k n) = ix2 k n := by
  obtain ⟨h0, h1⟩ := index1 t
  refine funext fun a => Fin.ext ?_
  match a with
  | ⟨0, _⟩ => exact (Pipeline.Window.rect_emb_val _ _ _ _).trans (by show win0_1.index t 0 * 512 + k.val = k.val; rw [h0, Nat.zero_mul, Nat.zero_add])
  | ⟨1, _⟩ => exact (Pipeline.Window.rect_emb_val _ _ _ _).trans (by show win0_1.index t 1 * 512 + n.val = n.val; rw [h1, Nat.zero_mul, Nat.zero_add])
theorem emb2 (t : Fin cfg0.N) (n : Fin 512) : ((cfg0.win 2).blk t).view.emb (ix2 0 n) = ix2 0 n := by
  obtain ⟨h0, h1⟩ := index2 t
  refine funext fun a => Fin.ext ?_
  match a with
  | ⟨0, _⟩ => exact (Pipeline.Window.rect_emb_val _ _ _ _).trans (by show win0_2.index t 0 * 1 + 0 = 0; rw [h0])
  | ⟨1, _⟩ => exact (Pipeline.Window.rect_emb_val _ _ _ _).trans (by show win0_2.index t 1 * 512 + n.val = n.val; rw [h1, Nat.zero_mul, Nat.zero_add])
theorem emb3 (t : Fin cfg0.N) (l : Fin 1024) (n : Fin 512) : ((cfg0.win 3).blk t).view.emb (ix2 l n) = ix2 (row t l) n := by
  obtain ⟨h0, h1⟩ := index3 t
  refine funext fun a => Fin.ext ?_
  match a with
  | ⟨0, _⟩ => exact (Pipeline.Window.rect_emb_val _ _ _ _).trans (by show win0_3.index t 0 * 1024 + l.val = t.val * 1024 + l.val; rw [h0])
  | ⟨1, _⟩ => exact (Pipeline.Window.rect_emb_val _ _ _ _).trans (by show win0_3.index t 1 * 512 + n.val = n.val; rw [h1, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_v0 (((cfg0.win 1).blk t).view.emb x) := rfl
theorem read2 (x) : ((cfg0.win 2).blk t).view.read (Elt Ideal) (X (Pipeline.arrRef spec0 2)) x = X main_v1 (((cfg0.win 2).blk t).view.emb x) := rfl
end

theorem blk0_apply (t : Fin cfg0.N) (l : Fin 1024) (n : Fin 512) : (iblk m c 0 t : Vec Ideal S1024x512 .f32) (ix2 l n) = m ((c : Thread nD τ).loc main_arg0) (ix2 (row t l) n) :=
  (read0 c (V m c) t _).trans ((congrArg (V m c main_arg0) (emb0 t l n)).trans (congrFun (a0_eq m c) _))
theorem blk1_apply (t : Fin cfg0.N) (k n : Fin 512) : (iblk m c 1 t : Vec Ideal S512x512 .bf16) (ix2 k n) = m ((c : Thread nD τ).loc main_arg1) (ix2 k n) :=
  (read1 c (V m c) t _).trans ((congrArg (V m c main_v0) (emb1 t k n)).trans (v0_apply m c k n))
theorem blk2_apply (t : Fin cfg0.N) (n : Fin 512) : (iblk m c 2 t : Vec Ideal S1x512 .f32) (ix2 0 n) = m ((c : Thread nD τ).loc main_arg2) (ix1 n) :=
  (read2 c (V m c) t _).trans ((congrArg (V m c main_v1) (emb2 t n)).trans (v1_apply m c n))

/-! ## The whole result -/

/-- The reference's result of the kernel's arguments. -/
def result : FVec Ideal Cert.Reference7Ideal.S32768x512 .f32 :=
  Cert.Reference7Ideal.Gate.res (m ((c : Thread nD τ).loc main_arg0)) (m ((c : Thread nD τ).loc main_arg1)) (m ((c : Thread nD τ).loc main_arg2))

theorem left_eq (t : Fin cfg0.N) (l : Fin 1024) (n : Fin 512) :
    out0_3 (iblk m c 0 t) (iblk m c 1 t) (iblk m c 2 t) (ix2 l n) = result m c (ix2 (row t l) n) := by
  refine (out_apply _ _ _ l n).trans (Eq.trans ?_ (Cert.Reference7Ideal.Gate.res_apply _ _ _ (row t l) n).symm)
  rw [blk2_apply]
  simp only [blk0_apply, blk1_apply]

theorem array_eq : (dats m 0 c).arrAt 3 cfg0.N = (result m c : Vec Ideal S32768x512 .f32) := by
  refine (dats m 0 c).arrAt_eq_of_covers 3 _ (by decide +kernel) fun t hf y => ?_
  have hy : (y : S1024x512.Idx) = ix2 (y 0) (y 1) := funext fun a => by
    match a with
    | ⟨0, _⟩ => rfl
    | ⟨1, _⟩ => rfl
  blk_simp
  rw [after0_3]
  refine (congrArg (out0_3 (iblk m c 0 t) (iblk m c 1 t) (iblk m c 2 t)) hy).trans ((left_eq m c t (y 0) (y 1)).trans (congrArg (result m c) ?_))
  exact (emb3 t (y 0) (y 1)).symm.trans (congrArg ((win0_3.blk t).view.emb) hy.symm)
end Cert.Kernel7Ideal.Gate

namespace Cert.Glu
theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)
theorem preserves : Cert.preserves_Kernel7_Kernel7Ideal := trivial

/-- The two programs' results are one array. -/
theorem algebraic : Cert.algebraic_Kernel7Ideal_Reference7Ideal := by
  intro m ρ m' ρ' hpre hagree
  refine ⟨fun c => Cert.Kernel7Ideal.Gate.result m c, ?_, ?_⟩
  · refine (θ_run Cert.Kernel7Ideal.defs _ _).mono (fun _ h c => ⟨(h c).1.trans ?_, (h c).2⟩) (Cert.Kernel7Ideal.Value.run_blocks (F := Ideal) m ρ)
    exact Cert.Kernel7Ideal.Gate.array_eq m c
  · refine (θ_run Cert.Reference7Ideal.defs _ _).mono (fun _ h c => ⟨(h c).1.trans ?_, (h c).2⟩) (Cert.Reference7Ideal.Value.run (F := Ideal) m' ρ')
    obtain ⟨e0, e1, e2⟩ := hagree c
    rw [e0, e1, e2]
    rfl
end Cert.Glu
-- ==== Proof.Mod.lean ====
/- The modulation: each grid point's block is the reference's result there, and the blocks tile the array. -/
module

public import proofs.«01_k».proof.Defs
public import proofs.«01_k».proof.Proof.Parts
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.Value
public import Idealize.ShloMosaic.Lib.Pipeline.ValueKit
public import Idealize.ShloMosaic.Lib.Routing.OpsSet
public import Idealize.ShloMosaic.Lib.Quiescent
public import Idealize.ShloMosaic.Lib.Claim

@[expose] public section
set_option maxRecDepth 16384
noncomputable section
open Idealize.ShloMosaic Idealize.ShloMosaic.TcCoe Idealize.SL.Sem

namespace Cert.Reference8Ideal.Ada
open Cert.Reference8Ideal Cert.Reference8Ideal.Gen

/-- The conditioning vectors through the activation, their product with the weights and the bias, and the padding rows. -/
def ones : FVec Ideal S2x1024 .f32 := broadcastInDim S2x1024 ![] bcast_S_S2x1024 (constant S_ .f32 0x3F800000#32)
def act (x : FVec Ideal S2x1024 .f32) : FVec Ideal S2x1024 .f32 := mulf x (Host.divf ones (addf ones (Host.exp (Host.negf x))))
def top (a : FVec Ideal S2x1024 .f32) (w : FVec Ideal S4x1024x6144 .f32) (b : FVec Ideal S4x6144 .f32) : FVec Ideal S4x2x6144 .f32 :=
  addf (transpose S4x2x6144 [0, 2, 1] (Host.dotGeneral dot_S4x1024x6144_S2x1024_S4x6144x2_1_1_02_0_n_n none w a) transposes_S4x6144x2_S4x2x6144_0_2_1)
    (broadcastInDim S4x2x6144 ![0, 1, 2] bcast_S4x1x6144_S4x2x6144_0_1_2 (broadcastInDim S4x1x6144 ![0, 2] bcast_S4x6144_S4x1x6144_0_2 b))
def rest (b : FVec Ideal S4x6144 .f32) : FVec Ideal S4x6x6144 .f32 :=
  broadcastInDim S4x6x6144 ![0, 1, 2] bcast_S4x1x6144_S4x6x6144_0_1_2 (broadcastInDim S4x1x6144 ![0, 2] bcast_S4x6144_S4x1x6144_0_2 b)
def both (p : FVec Ideal S4x2x6144 .f32) (q : FVec Ideal S4x6x6144 .f32) : FVec Ideal S4x8x6144 .f32 :=
  concatenate S4x8x6144 1 [⟨S4x2x6144, p⟩, ⟨S4x6x6144, q⟩] concatenates_S4x2x6144_S4x6x6144_S4x8x6144_d1
def res (x : FVec Ideal S2x1024 .f32) (w : FVec Ideal S4x1024x6144 .f32) (b : FVec Ideal S4x6144 .f32) : FVec Ideal S4x8x6144 .f32 :=
  both (top (act x) w b) (rest b)

theorem ones_apply (i : S2x1024.Idx) : ones i = (1 : EReal) := by
  show Ideal.ofBits .f32 0x3F800000#32 = 1
  exact Ideal.ofBits_one_f32
theorem act_apply (x : FVec Ideal S2x1024 .f32) (i : S2x1024.Idx) : act x i = (x i : EReal) * Ideal.logistic (x i) := by
  show (x i : EReal) * Ideal.div (ones i) (ones i + Ideal.exp (-(x i))) = _
  rw [ones_apply]
  rfl
theorem top_apply (a : FVec Ideal S2x1024 .f32) (w : FVec Ideal S4x1024x6144 .f32) (b : FVec Ideal S4x6144 .f32) (i : Fin 4) (r : Fin 2) (n : Fin 6144) :
    top a w b (ix3 i r n) = (∑ k : Fin 1024, (w (ix3 i k n) : EReal) * (a (ix2 r k) : EReal)) + (b (ix2 i n) : EReal) := by
  pointwise [top]
theorem rest_apply (b : FVec Ideal S4x6144 .f32) (i : Fin 4) (r : Fin 6) (n : Fin 6144) : rest b (ix3 i r n) = (b (ix2 i n) : EReal) := by
  pointwise [rest]
theorem both_lo (p : FVec Ideal S4x2x6144 .f32) (q : FVec Ideal S4x6x6144 .f32) (i : Fin 4) (r : Fin 2) (n : Fin 6144) :
    both p q (ix3 i ⟨r.val, by omega⟩ n) = p (ix3 i r n) := by
  pointwise [both]
theorem both_hi (p : FVec Ideal S4x2x6144 .f32) (q : FVec Ideal S4x6x6144 .f32) (i : Fin 4) (r : Fin 6) (n : Fin 6144) :
    both p q (ix3 i ⟨2 + r.val, by omega⟩ n) = q (ix3 i r n) := by
  pointwise [both]

/-- The first two rows are the modulation of the two conditioning vectors. -/
theorem res_lo (x : FVec Ideal S2x1024 .f32) (w : FVec Ideal S4x1024x6144 .f32) (b : FVec Ideal S4x6144 .f32) (i : Fin 4) (r : Fin 2) (n : Fin 6144) :
    res x w b (ix3 i ⟨r.val, by omega⟩ n) = (∑ k : Fin 1024, ((x (ix2 r k) : EReal) * Ideal.logistic (x (ix2 r k))) * (w (ix3 i k n) : EReal)) + (b (ix2 i n) : EReal) := by
  unfold res
  rw [both_lo, top_apply]
  exact congrArg (· + (b (ix2 i n) : EReal)) (Finset.sum_congr rfl fun k _ => by rw [act_apply, mul_comm])
/-- The six rows of padding are the bias. -/
theorem res_hi (x : FVec Ideal S2x1024 .f32) (w : FVec Ideal S4x1024x6144 .f32) (b : FVec Ideal S4x6144 .f32) (i : Fin 4) (r : Fin 6) (n : Fin 6144) :
    res x w b (ix3 i ⟨2 + r.val, by omega⟩ n) = (b (ix2 i n) : EReal) := by
  unfold res
  rw [both_hi, rest_apply]
end Cert.Reference8Ideal.Ada

namespace Cert.Kernel8Ideal.Ada
open Cert.Kernel8Ideal Cert.Kernel8Ideal.Gen
open Cert.Parts (zero2 zero3)
variable (m : (o : Loc nD τ sig) → Buf (Elt Ideal) o) (c : Dev nD)

/-! ## What the body writes -/

theorem pay_apply (v0 : Vec Ideal S8x1024 .f32) (v4 : Vec Ideal S1x1024x1024 .f32) (v7 : Vec Ideal S1x1x1024 .f32) (r : Fin 8) (n : Fin 1024) :
    k0_pay1 v0 v4 v7 (ix3 0 r n) = (∑ k : Fin 1024, ((v0 (ix2 r k) : EReal) * Ideal.logistic (v0 (ix2 r k))) * (v4 (ix3 0 k n) : EReal)) + (v7 (ix3 0 0 n) : EReal) := by
  pointwise [k0_pay1]

theorem out_apply (x0 : Vec Ideal S8x1024 .f32) (x1 : Vec Ideal S1x1024x1024 .f32) (x2 : Vec Ideal S1x1x1024 .f32) (r : Fin 8) (n : Fin 1024) :
    out0_3 x0 x1 x2 (ix3 0 r n) = (∑ k : Fin 1024, ((x0 (ix2 r k) : EReal) * Ideal.logistic (x0 (ix2 r k))) * (x1 (ix3 0 k n) : EReal)) + (x2 (ix3 0 0 n) : EReal) := by
  unfold out0_3
  rw [View.canon_cons_unit_zero zero3, View.ld_unit_zero zero2 _ x0, View.ld_unit_zero zero3 _ x1, View.ld_unit_zero zero3 _ x2]
  exact pay_apply x0 x1 x2 r n

/-! ## The host's arrays and the blocks -/

/-- Where an entry of the two conditioning vectors lands among the eight rows. -/
theorem lands (idx : IVec S1 32) (hidx : ∀ j, idx j = 0#32) (r' : Fin 2) (k' : Fin 1024) (r : Fin 8) (k : Fin 1024) :
    scatter_S8x1024_S1_S2x1024_01_n_0_0.resultIdx? (ix2 r' k') idx = some (ix2 r k) ↔ r'.val = r.val ∧ k'.val = k.val := by
  have s0 : scatter_S8x1024_S1_S2x1024_01_n_0_0.start (ix2 r' k') idx 0 = 0 := by
    unfold ScatterDims.start
    rw [dif_pos (by decide), hidx]
    rfl
  have s1 : scatter_S8x1024_S1_S2x1024_01_n_0_0.start (ix2 r' k') idx 1 = 0 := by
    unfold ScatterDims.start
    rw [dif_neg (by decide)]
  have w0 : scatter_S8x1024_S1_S2x1024_01_n_0_0.window (ix2 r' k') 0 = r'.val := rfl
  have w1 : scatter_S8x1024_S1_S2x1024_01_n_0_0.window (ix2 r' k') 1 = k'.val := rfl
  rw [Routing.resultIdx?_eq_some]
  constructor
  · intro h
    have h0 : scatter_S8x1024_S1_S2x1024_01_n_0_0.start (ix2 r' k') idx 0 + (scatter_S8x1024_S1_S2x1024_01_n_0_0.window (ix2 r' k') 0 : Int) = (r.val : Int) := h 0
    have h1 : scatter_S8x1024_S1_S2x1024_01_n_0_0.start (ix2 r' k') idx 1 + (scatter_S8x1024_S1_S2x1024_01_n_0_0.window (ix2 r' k') 1 : Int) = (k.val : Int) := h 1
    rw [s0, w0] at h0
    rw [s1, w1] at h1
    omega
  · rintro ⟨h0, h1⟩ a
    match a with
    | ⟨0, _⟩ => exact (congrArg₂ (fun (a : Int) (b : Nat) => a + (b : Int)) s0 w0).trans (by show (0 : Int) + r'.val = r.val; omega)
    | ⟨1, _⟩ => exact (congrArg₂ (fun (a : Int) (b : Nat) => a + (b : Int)) s1 w1).trans (by show (0 : Int) + k'.val = k.val; omega)

/-- The two vectors with six rows of zeros below them. -/
def tall (x : FVec Ideal S2x1024 .f32) (r : Fin 8) (k : Fin 1024) : EReal := if h : r.val < 2 then x (ix2 ⟨r.val, h⟩ k) else 0

theorem padded (z : FVec Ideal S8x1024 .f32) (hz : ∀ j, z j = (0 : EReal)) (idx : IVec S1 32) (hidx : ∀ j, idx j = 0#32) (x : FVec Ideal S2x1024 .f32) (r : Fin 8) (k : Fin 1024) :
    Host.scatter scatter_S8x1024_S1_S2x1024_01_n_0_0 (fun _ b => b) z idx x (ix2 r k) = tall x r k := by
  have hs : ∀ j : S2x1024.Idx, j = ix2 (j 0) (j 1) := fun j => funext fun a => by
    match a with
    | ⟨0, _⟩ => rfl
    | ⟨1, _⟩ => rfl
  unfold tall
  by_cases h : r.val < 2
  · rw [dif_pos h]
    refine Routing.scatter_set_hit _ z idx x (ix2 r k) (x (ix2 ⟨r.val, h⟩ k)) (fun j hj => ?_) (ix2 ⟨r.val, h⟩ k) ((lands idx hidx ⟨r.val, h⟩ k r k).mpr ⟨rfl, rfl⟩)
    rw [hs j] at hj ⊢
    obtain ⟨h0, h1⟩ := (lands idx hidx (j 0) (j 1) r k).mp hj
    exact congrArg x (congrArg₂ ix2 (Fin.ext h0) (Fin.ext h1))
  · rw [dif_neg h]
    refine (Routing.scatter_set_miss _ z idx x (ix2 r k) (fun j hj => ?_)).trans (hz _)
    rw [hs j] at hj
    obtain ⟨h0, _⟩ := (lands idx hidx (j 0) (j 1) r k).mp hj
    have h2 : (j 0).val < 2 := (j 0).isLt
    omega

/-- The host's array of zeros. -/
def zeros : FVec Ideal S8x1024 .f32 := broadcastInDim S8x1024 ![] bcast_S_S8x1024 (constant S_ .f32 0x00000000#32)
theorem zeros_apply (j : S8x1024.Idx) : zeros j = (0 : EReal) :=
  show Ideal.ofBits .f32 0x00000000#32 = 0 by simp [Ideal.ofBits, Ideal.ieee]

theorem v2_apply (r : Fin 8) (k : Fin 1024) : (V m c main_v2 : Vec Ideal S8x1024 .f32) (ix2 r k) = tall (m ((c : Thread nD τ).loc main_arg0)) r k := by
  entry_read
  exact padded zeros zeros_apply _ (fun _ => rfl) _ r k
theorem v3_apply (i : Fin 4) (n : Fin 6144) : (V m c main_v3 : Vec Ideal S4x1x6144 .f32) (ix3 i 0 n) = m ((c : Thread nD τ).loc main_arg2) (ix2 i n) := by
  entry_read
  pointwise
theorem a1_eq : V m c main_arg1 = m ((c : Thread nD τ).loc main_arg1) := by
  entry_read
  rfl

/-- The two coordinates of a grid point. -/
def tl (t : Fin cfg0.N) : Fin 4 := ⟨t.val / 6, by have := lt_of_lt_of_eq t.isLt (show cfg0.N = 24 from N_0); omega⟩
def tn (t : Fin cfg0.N) : Fin 6 := ⟨t.val % 6, by omega⟩
/-- The column of the whole array at column `n` of a grid point's tile. -/
def col (t : Fin cfg0.N) (n : Fin 1024) : Fin 6144 := ⟨(tn t).val * 1024 + n.val, by omega⟩

theorem index0 (t : Fin cfg0.N) : win0_0.index t 0 = 0 ∧ win0_0.index t 1 = 0 :=
  (by decide +kernel : ∀ t : Fin grid0.N, win0_0.index t 0 = 0 ∧ win0_0.index t 1 = 0) t
theorem index1 (t : Fin cfg0.N) : win0_1.index t 0 = (tl t).val ∧ win0_1.index t 1 = 0 ∧ win0_1.index t 2 = (tn t).val :=
  (by decide +kernel : ∀ t : Fin grid0.N, win0_1.index t 0 = t.val / 6 ∧ win0_1.index t 1 = 0 ∧ win0_1.index t 2 = t.val % 6) t
theorem index2 (t : Fin cfg0.N) : win0_2.index t 0 = (tl t).val ∧ win0_2.index t 1 = 0 ∧ win0_2.index t 2 = (tn t).val :=
  (by decide +kernel : ∀ t : Fin grid0.N, win0_2.index t 0 = t.val / 6 ∧ win0_2.index t 1 = 0 ∧ win0_2.index t 2 = t.val % 6) t
theorem index3 (t : Fin cfg0.N) : win0_3.index t 0 = (tl t).val ∧ win0_3.index t 1 = 0 ∧ win0_3.index t 2 = (tn t).val :=
  (by decide +kernel : ∀ t : Fin grid0.N, win0_3.index t 0 = t.val / 6 ∧ win0_3.index t 1 = 0 ∧ win0_3.index t 2 = t.val % 6) t

theorem emb0 (t : Fin cfg0.N) (r : Fin 8) (k : Fin 1024) : ((cfg0.win 0).blk t).view.emb (ix2 r k) = ix2 r k := by
  obtain ⟨h0, h1⟩ := index0 t
  refine funext fun a => Fin.ext ?_
  match a with
  | ⟨0, _⟩ => exact (Pipeline.Window.rect_emb_val _ _ _ _).trans (by show win0_0.index t 0 * 8 + r.val = r.val; rw [h0, Nat.zero_mul, Nat.zero_add])
  | ⟨1, _⟩ => exact (Pipeline.Window.rect_emb_val _ _ _ _).trans (by show win0_0.index t 1 * 1024 + k.val = k.val; rw [h1, Nat.zero_mul, Nat.zero_add])
theorem emb1 (t : Fin cfg0.N) (k n : Fin 1024) : ((cfg0.win 1).blk t).view.emb (ix3 0 k n) = ix3 (tl t) k (col t n) := by
  obtain ⟨h0, h1, h2⟩ := index1 t
  refine funext fun a => Fin.ext ?_
  match a with
  | ⟨0, _⟩ => exact (Pipeline.Window.rect_emb_val _ _ _ _).trans (by show win0_1.index t 0 * 1 + 0 = (tl t).val; rw [h0, Nat.mul_one, Nat.add_zero])
  | ⟨1, _⟩ => exact (Pipeline.Window.rect_emb_val _ _ _ _).trans (by show win0_1.index t 1 * 1024 + k.val = k.val; rw [h1, Nat.zero_mul, Nat.zero_add])
  | ⟨2, _⟩ => exact (Pipeline.Window.rect_emb_val _ _ _ _).trans (by show win0_1.index t 2 * 1024 + n.val = (tn t).val * 1024 + n.val; rw [h2])
theorem emb2 (t : Fin cfg0.N) (n : Fin 1024) : ((cfg0.win 2).blk t).view.emb (ix3 0 0 n) = ix3 (tl t) 0 (col t n) := by
  obtain ⟨h0, h1, h2⟩ := index2 t
  refine funext fun a => Fin.ext ?_
  match a with
  | ⟨0, _⟩ => exact (Pipeline.Window.rect_emb_val _ _ _ _).trans (by show win0_2.index t 0 * 1 + 0 = (tl t).val; rw [h0, Nat.mul_one, Nat.add_zero])
  | ⟨1, _⟩ => exact (Pipeline.Window.rect_emb_val _ _ _ _).trans (by show win0_2.index t 1 * 1 + 0 = 0; rw [h1])
  | ⟨2, _⟩ => exact (Pipeline.Window.rect_emb_val _ _ _ _).trans (by show win0_2.index t 2 * 1024 + n.val = (tn t).val * 1024 + n.val; rw [h2])
theorem emb3 (t : Fin cfg0.N) (r : Fin 8) (n : Fin 1024) : ((cfg0.win 3).blk t).view.emb (ix3 0 r n) = ix3 (tl t) r (col t n) := by
  obtain ⟨h0, h1, h2⟩ := index3 t
  refine funext fun a => Fin.ext ?_
  match a with
  | ⟨0, _⟩ => exact (Pipeline.Window.rect_emb_val _ _ _ _).trans (by show win0_3.index t 0 * 1 + 0 = (tl t).val; rw [h0, Nat.mul_one, Nat.add_zero])
  | ⟨1, _⟩ => exact (Pipeline.Window.rect_emb_val _ _ _ _).trans (by show win0_3.index t 1 * 8 + r.val = r.val; rw [h1, Nat.zero_mul, Nat.zero_add])
  | ⟨2, _⟩ => exact (Pipeline.Window.rect_emb_val _ _ _ _).trans (by show win0_3.index t 2 * 1024 + n.val = (tn t).val * 1024 + n.val; rw [h2])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_v2 (((cfg0.win 0).blk t).view.emb x) := rfl
theorem read1 (x) : ((cfg0.win 1).blk t).view.read (Elt Ideal) (X (Pipeline.arrRef spec0 1)) x = X main_arg1 (((cfg0.win 1).blk t).view.emb x) := rfl
theorem read2 (x) : ((cfg0.win 2).blk t).view.read (Elt Ideal) (X (Pipeline.arrRef spec0 2)) x = X main_v3 (((cfg0.win 2).blk t).view.emb x) := rfl
end

theorem blk0_apply (t : Fin cfg0.N) (r : Fin 8) (k : Fin 1024) : (iblk m c 0 t : Vec Ideal S8x1024 .f32) (ix2 r k) = tall (m ((c : Thread nD τ).loc main_arg0)) r k :=
  (read0 c (V m c) t _).trans ((congrArg (V m c main_v2) (emb0 t r k)).trans (v2_apply m c r k))
theorem blk1_apply (t : Fin cfg0.N) (k n : Fin 1024) : (iblk m c 1 t : Vec Ideal S1x1024x1024 .f32) (ix3 0 k n) = m ((c : Thread nD τ).loc main_arg1) (ix3 (tl t) k (col t n)) :=
  (read1 c (V m c) t _).trans ((congrArg (V m c main_arg1) (emb1 t k n)).trans (congrFun (a1_eq m c) _))
theorem blk2_apply (t : Fin cfg0.N) (n : Fin 1024) : (iblk m c 2 t : Vec Ideal S1x1x1024 .f32) (ix3 0 0 n) = m ((c : Thread nD τ).loc main_arg2) (ix2 (tl t) (col t n)) :=
  (read2 c (V m c) t _).trans ((congrArg (V m c main_v3) (emb2 t n)).trans (v3_apply m c (tl t) (col t n)))

/-! ## The whole result -/

/-- Row `r` of the padded vectors gives the reference's row: on the first two the modulation, on the others the bias. -/
theorem rows (x : FVec Ideal S2x1024 .f32) (w : FVec Ideal S4x1024x6144 .f32) (b : FVec Ideal S4x6144 .f32) (i : Fin 4) (r : Fin 8) (n : Fin 6144) :
    (∑ k : Fin 1024, (tall x r k * Ideal.logistic (tall x r k)) * (w (ix3 i k n) : EReal)) + (b (ix2 i n) : EReal) = Cert.Reference8Ideal.Ada.res x w b (ix3 i r n) := by
  unfold tall
  by_cases h : r.val < 2
  · simp only [dif_pos h]
    exact (Cert.Reference8Ideal.Ada.res_lo x w b i ⟨r.val, h⟩ n).symm
  · simp only [dif_neg h, zero_mul, Finset.sum_const_zero, zero_add]
    refine (Cert.Reference8Ideal.Ada.res_hi x w b i ⟨r.val - 2, by omega⟩ n).symm.trans ?_
    exact congrArg (fun q => Cert.Reference8Ideal.Ada.res x w b (ix3 i q n)) (Fin.ext (by show 2 + (r.val - 2) = r.val; omega))

/-- The reference's result of the kernel's arguments. -/
def result : FVec Ideal Cert.Reference8Ideal.S4x8x6144 .f32 :=
  Cert.Reference8Ideal.Ada.res (m ((c : Thread nD τ).loc main_arg0)) (m ((c : Thread nD τ).loc main_arg1)) (m ((c : Thread nD τ).loc main_arg2))

theorem left_eq (t : Fin cfg0.N) (r : Fin 8) (n : Fin 1024) :
    out0_3 (iblk m c 0 t) (iblk m c 1 t) (iblk m c 2 t) (ix3 0 r n) = result m c (ix3 (tl t) r (col t n)) := by
  refine (out_apply _ _ _ r n).trans (Eq.trans ?_ (rows _ _ _ (tl t) r (col t n)))
  rw [blk2_apply]
  simp only [blk0_apply, blk1_apply]

theorem array_eq : (dats m 0 c).arrAt 3 cfg0.N = (result m c : Vec Ideal S4x8x6144 .f32) := by
  refine (dats m 0 c).arrAt_eq_of_covers 3 _ (by decide +kernel) fun t hf y => ?_
  have hy : (y : S1x8x1024.Idx) = ix3 0 (y 1) (y 2) := funext fun a => by
    match a with
    | ⟨0, _⟩ => exact Subsingleton.elim (α := Fin 1) _ _
    | ⟨1, _⟩ => rfl
    | ⟨2, _⟩ => rfl
  blk_simp
  rw [after0_3]
  refine (congrArg (out0_3 (iblk m c 0 t) (iblk m c 1 t) (iblk m c 2 t)) hy).trans ((left_eq m c t (y 1) (y 2)).trans (congrArg (result m c) ?_))
  exact (emb3 t (y 1) (y 2)).symm.trans (congrArg ((win0_3.blk t).view.emb) hy.symm)
end Cert.Kernel8Ideal.Ada

namespace Cert.Mod
theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)
theorem preserves : Cert.preserves_Kernel8_Kernel8Ideal := trivial

/-- The two programs' results are one array. -/
theorem algebraic : Cert.algebraic_Kernel8Ideal_Reference8Ideal := by
  intro m ρ m' ρ' hpre hagree
  refine ⟨fun c => Cert.Kernel8Ideal.Ada.result m c, ?_, ?_⟩
  · refine (θ_run Cert.Kernel8Ideal.defs _ _).mono (fun _ h c => ⟨(h c).1.trans ?_, (h c).2⟩) (Cert.Kernel8Ideal.Value.run_blocks (F := Ideal) m ρ)
    exact Cert.Kernel8Ideal.Ada.array_eq m c
  · refine (θ_run Cert.Reference8Ideal.defs _ _).mono (fun _ h c => ⟨(h c).1.trans ?_, (h c).2⟩) (Cert.Reference8Ideal.Value.run (F := Ideal) m' ρ')
    obtain ⟨e0, e1, e2⟩ := hagree c
    rw [e0, e1, e2]
    rfl
end Cert.Mod
-- ==== Proof.Means.lean ====
/- The means of the key blocks: each grid point's block is the reference's result there, and the blocks tile the array. -/
module

public import proofs.«01_k».proof.Defs
public import proofs.«01_k».proof.Proof.Parts
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.Value
public import Idealize.ShloMosaic.Lib.Pipeline.ValueKit
public import Idealize.ShloMosaic.Lib.Quiescent
public import Idealize.ShloMosaic.Lib.Claim

@[expose] public section
set_option maxRecDepth 16384
noncomputable section
open Idealize.ShloMosaic Idealize.ShloMosaic.TcCoe Idealize.SL.Sem

namespace Cert.Reference9Ideal.Mean
open Cert.Reference9Ideal Cert.Reference9Ideal.Gen

/-- The means of the blocks, head by head, and the heads put back in a row. -/
def heads (x : FVec Ideal S2x16384x512 .f32) : FVec Ideal S2x64x8x64 .f32 :=
  Host.divf (Host.reduceAdd (shapeCast _ x shapeCasts_S2x16384x512_S2x64x256x8x64) (constant S_ .f32 0x00000000#32) reducesTo_S2x64x256x8x64_S2x64x8x64_d2 h_S_)
    (broadcastInDim S2x64x8x64 ![] bcast_S_S2x64x8x64 (constant S_ .f32 0x43800000#32))
def res (x : FVec Ideal S2x16384x512 .f32) : FVec Ideal S2x64x512 .f32 := shapeCast _ (heads x) shapeCasts_S2x64x8x64_S2x64x512

/-- The mean of column `d` over the `n`-th block of 256 rows. -/
def mean (x : FVec Ideal S2x16384x512 .f32) (b : Fin 2) (n : Fin 64) (d : Fin 512) : EReal :=
  Ideal.div (∑ p : Fin 256, x (ix3 b ⟨n.val * 256 + p.val, by omega⟩ d)) (Ideal.ofBits .f32 0x43800000#32)

theorem heads_apply (x : FVec Ideal S2x16384x512 .f32) (b : Fin 2) (n : Fin 64) (h : Fin 8) (e : Fin 64) :
    heads x (ix4 b n h e) = mean x b n ⟨h.val * 64 + e.val, by omega⟩ := by
  pointwise [heads]
  rfl
theorem res_apply (x : FVec Ideal S2x16384x512 .f32) (b : Fin 2) (n : Fin 64) (d : Fin 512) : res x (ix3 b n d) = mean x b n d := by
  have h : res x (ix3 b n d) = heads x (ix4 b n ⟨d.val / 64, by omega⟩ ⟨d.val % 64, by omega⟩) := by
    pointwise [res]
  rw [h, heads_apply]
  exact congrArg (mean x b n) (Fin.ext (by show d.val / 64 * 64 + d.val % 64 = d.val; omega))
end Cert.Reference9Ideal.Mean

namespace Cert.Kernel9Ideal.Mean
open Cert.Kernel9Ideal Cert.Kernel9Ideal.Gen
open Cert.Parts (zero3)
variable (m : (o : Loc nD τ sig) → Buf (Elt Ideal) o) (c : Dev nD)

/-! ## What the body writes -/

theorem pay_apply (v0 : Vec Ideal S1x2048x512 .f32) (l : Fin 8) (d : Fin 512) :
    k0_pay1 v0 (ix3 0 l d) = Ideal.div (∑ p : Fin 256, (v0 (ix3 0 ⟨l.val * 256 + p.val, by omega⟩ d) : EReal)) (Ideal.ofBits .f32 0x43800000#32) := by
  pointwise [k0_pay1]

theorem out_apply (x0 : Vec Ideal S1x2048x512 .f32) (l : Fin 8) (d : Fin 512) :
    out0_1 x0 (ix3 0 l d) = Ideal.div (∑ p : Fin 256, (x0 (ix3 0 ⟨l.val * 256 + p.val, by omega⟩ d) : EReal)) (Ideal.ofBits .f32 0x43800000#32) := by
  unfold out0_1
  rw [View.canon_cons_unit_zero zero3, View.ld_unit_zero zero3 _ x0]
  exact pay_apply x0 l d

/-! ## The blocks -/

theorem a0_eq : V m c main_arg0 = m ((c : Thread nD τ).loc main_arg0) := by
  entry_read
  rfl

/-- The two coordinates of a grid point. -/
def tb (t : Fin cfg0.N) : Fin 2 := ⟨t.val / 8, by have := lt_of_lt_of_eq t.isLt (show cfg0.N = 16 from N_0); omega⟩
def ti (t : Fin cfg0.N) : Fin 8 := ⟨t.val % 8, by omega⟩
/-- The rows of the whole arrays at row `l` of a grid point's tiles. -/
def row (t : Fin cfg0.N) (l : Fin 2048) : Fin 16384 := ⟨(ti t).val * 2048 + l.val, by omega⟩
def slot (t : Fin cfg0.N) (l : Fin 8) : Fin 64 := ⟨(ti t).val * 8 + l.val, by omega⟩

theorem index0 (t : Fin cfg0.N) : win0_0.index t 0 = (tb t).val ∧ win0_0.index t 1 = (ti t).val ∧ win0_0.index t 2 = 0 :=
  (by decide +kernel : ∀ t : Fin grid0.N, win0_0.index t 0 = t.val / 8 ∧ win0_0.index t 1 = t.val % 8 ∧ win0_0.index t 2 = 0) t
theorem index1 (t : Fin cfg0.N) : win0_1.index t 0 = (tb t).val ∧ win0_1.index t 1 = (ti t).val ∧ win0_1.index t 2 = 0 :=
  (by decide +kernel : ∀ t : Fin grid0.N, win0_1.index t 0 = t.val / 8 ∧ win0_1.index t 1 = t.val % 8 ∧ win0_1.index t 2 = 0) t

theorem emb0 (t : Fin cfg0.N) (l : Fin 2048) (d : Fin 512) : ((cfg0.win 0).blk t).view.emb (ix3 0 l d) = ix3 (tb t) (row t l) d := by
  obtain ⟨h0, h1, h2⟩ := index0 t
  refine funext fun a => Fin.ext ?_
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 2048 + l.val = (ti t).val * 2048 + l.val; rw [h1])
  | ⟨2, _⟩ => exact (Pipeline.Window.rect_emb_val _ _ _ _).trans (by show win0_0.index t 2 * 512 + d.val = d.val; rw [h2, Nat.zero_mul, Nat.zero_add])
theorem emb1 (t : Fin cfg0.N) (l : Fin 8) (d : Fin 512) : ((cfg0.win 1).blk t).view.emb (ix3 0 l d) = ix3 (tb t) (slot t l) d := by
  obtain ⟨h0, h1, h2⟩ := index1 t
  refine funext fun a => Fin.ext ?_
  match a with
  | ⟨0, _⟩ => exact (Pipeline.Window.rect_emb_val _ _ _ _).trans (by show win0_1.index t 0 * 1 + 0 = (tb t).val; rw [h0, Nat.mul_one, Nat.add_zero])
  | ⟨1, _⟩ => exact (Pipeline.Window.rect_emb_val _ _ _ _).trans (by show win0_1.index t 1 * 8 + l.val = (ti t).val * 8 + l.val; rw [h1])
  | ⟨2, _⟩ => exact (Pipeline.Window.rect_emb_val _ _ _ _).trans (by show win0_1.index t 2 * 512 + d.val = d.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
end

theorem blk0_apply (t : Fin cfg0.N) (l : Fin 2048) (d : Fin 512) : (iblk m c 0 t : Vec Ideal S1x2048x512 .f32) (ix3 0 l d) = m ((c : Thread nD τ).loc main_arg0) (ix3 (tb t) (row t l) d) :=
  (read0 c (V m c) t _).trans ((congrArg (V m c main_arg0) (emb0 t l d)).trans (congrFun (a0_eq m c) _))

/-! ## The whole result -/

/-- The reference's result of the kernel's argument. -/
def result : FVec Ideal Cert.Reference9Ideal.S2x64x512 .f32 := Cert.Reference9Ideal.Mean.res (m ((c : Thread nD τ).loc main_arg0))

theorem left_eq (t : Fin cfg0.N) (l : Fin 8) (d : Fin 512) :
    out0_1 (iblk m c 0 t) (ix3 0 l d) = result m c (ix3 (tb t) (slot t l) d) := by
  refine (out_apply _ l d).trans (Eq.trans ?_ (Cert.Reference9Ideal.Mean.res_apply _ (tb t) (slot t l) d).symm)
  unfold Cert.Reference9Ideal.Mean.mean
  refine congrArg (Ideal.div · (Ideal.ofBits .f32 0x43800000#32)) (Finset.sum_congr rfl fun p _ => ?_)
  refine (blk0_apply m c t _ d).trans (congrArg (fun q => m ((c : Thread nD τ).loc main_arg0) (ix3 (tb t) q d)) (Fin.ext ?_))
  show (ti t).val * 2048 + (l.val * 256 + p.val) = ((ti t).val * 8 + l.val) * 256 + p.val
  omega

theorem array_eq : (dats m 0 c).arrAt 1 cfg0.N = (result m c : Vec Ideal S2x64x512 .f32) := by
  refine (dats m 0 c).arrAt_eq_of_covers 1 _ (by decide +kernel) fun t hf y => ?_
  have hy : (y : S1x8x512.Idx) = ix3 0 (y 1) (y 2) := funext fun a => by
    match a with
    | ⟨0, _⟩ => exact Subsingleton.elim (α := Fin 1) _ _
    | ⟨1, _⟩ => rfl
    | ⟨2, _⟩ => rfl
  blk_simp
  rw [after0_1]
  refine (congrArg (out0_1 (iblk m c 0 t)) hy).trans ((left_eq m c t (y 1) (y 2)).trans (congrArg (result m c) ?_))
  exact (emb1 t (y 1) (y 2)).symm.trans (congrArg ((win0_1.blk t).view.emb) hy.symm)
end Cert.Kernel9Ideal.Mean

namespace Cert.Means
theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)
theorem preserves : Cert.preserves_Kernel9_Kernel9Ideal := trivial

/-- The two programs' results are one array. -/
theorem algebraic : Cert.algebraic_Kernel9Ideal_Reference9Ideal := by
  intro m ρ m' ρ' hpre hagree
  refine ⟨fun c => Cert.Kernel9Ideal.Mean.result m c, ?_, ?_⟩
  · refine (θ_run Cert.Kernel9Ideal.defs _ _).mono (fun _ h c => ⟨(h c).1.trans ?_, (h c).2⟩) (Cert.Kernel9Ideal.Value.run_blocks (F := Ideal) m ρ)
    exact Cert.Kernel9Ideal.Mean.array_eq m c
  · refine (θ_run Cert.Reference9Ideal.defs _ _).mono (fun _ h c => ⟨(h c).1.trans ?_, (h c).2⟩) (Cert.Reference9Ideal.Value.run (F := Ideal) m' ρ')
    rw [hagree c]
    rfl
end Cert.Means
-- ==== Proof.Turn.lean ====
/- What the prepared keys are, column by column: the norm of a group of 64, the turn of its first 16 entries, and the sums and tables these come from. -/
module

public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.Routing.Ops
public import Idealize.ShloMosaic.Lib.Claim

@[expose] public section
noncomputable section
open Idealize.ShloMosaic Idealize.ShloMosaic.Routing Idealize.SL.Sem
namespace Cert.Turn

/-- Entry `d` of the group `X`, normed by its mean square and scaled by the gain. -/
def normed (X G : Fin 64 → EReal) (d : Fin 64) : EReal :=
  X d * Ideal.rsqrt (Ideal.div (∑ j, X j * X j) (Ideal.ofBits .f32 0x42800000#32) + Ideal.ofBits .f32 0x358637BD#32) * G d

/-- The rotation of the pairs `(d, d + 8)`, `d < 8`; the other entries stay. -/
def turn (Y : Fin 64 → EReal) (co si : Fin 8 → EReal) (d : Fin 64) : EReal :=
  if h : d.val < 8 then Y d * co ⟨d.val, h⟩ - Y ⟨d.val + 8, by omega⟩ * si ⟨d.val, h⟩
  else if h' : d.val < 16 then Y d * co ⟨d.val - 8, by omega⟩ + Y ⟨d.val - 8, by omega⟩ * si ⟨d.val - 8, by omega⟩
  else Y d

/-- A sum over 512 entries with an indicator of one group of 64 is the sum over that group. -/
theorem group_sum (f : Fin 512 → EReal) (n : Fin 512) :
    ∑ k : Fin 512, f k * (if k.val / 64 = n.val / 64 then 1 else 0) = ∑ j : Fin 64, f ⟨n.val / 64 * 64 + j.val, by omega⟩ := by
  have e : ∀ F : Fin 512 → EReal, ∑ k, F k = ∑ g : Fin 8, ∑ j : Fin 64, F ⟨g.val * 64 + j.val, by omega⟩ := fun F => by
    rw [← Fintype.sum_prod_type', ← Equiv.sum_comp (finProdFinEquiv (m := 8) (n := 64)) F]
    refine Finset.sum_congr rfl fun x _ => congrArg F (Fin.ext ?_)
    show x.2.val + 64 * x.1.val = x.1.val * 64 + x.2.val
    omega
  rw [e, Finset.sum_eq_single (⟨n.val / 64, by omega⟩ : Fin 8)]
  · refine Finset.sum_congr rfl fun j _ => ?_
    rw [if_pos (by show (n.val / 64 * 64 + j.val) / 64 = n.val / 64; omega), mul_one]
  · intro g _ hg
    refine Finset.sum_eq_zero fun j _ => ?_
    rw [if_neg (fun h => hg (Fin.ext (by have h' : (g.val * 64 + j.val) / 64 = n.val / 64 := h; show g.val = n.val / 64; omega))), mul_zero]
  · intro h
    exact absurd (Finset.mem_univ _) h

theorem sixtyFour : Ideal.ofBits .f32 0x42800000#32 = ((64 : ℝ) : EReal) := by
  simp [Ideal.ofBits, Ideal.ieee, -EReal.coe_mul]; norm_num
theorem sixtyFourth : Ideal.ofBits .f32 0x3C800000#32 = ((1 / 64 : ℝ) : EReal) := by
  simp [Ideal.ofBits, Ideal.ieee, -EReal.coe_mul]; norm_num
/-- A sixty-fourth times a number is the number divided by 64. -/
theorem mean_eq (x : EReal) : x * Ideal.ofBits .f32 0x3C800000#32 = Ideal.div x (Ideal.ofBits .f32 0x42800000#32) := by
  have h : ((64 : ℝ) : EReal) ≠ 0 := by
    intro h
    have h' := EReal.coe_eq_zero.mp h
    norm_num at h'
  rw [sixtyFour, sixtyFourth, Ideal.div, if_neg h, ← EReal.coe_inv]
  congr 2
  norm_num

/-- `table[:, idx]` over the columns of a table: where `idx` holds a column number `b`, the column of the result is the table's column `b`. -/
theorem gather_col {α : Type} {B nb n : Nat} (d : GatherDims (shape2 B nb) (shape2 n 1) (shape2 B n)) (hoff : d.offsetDims = [0])
    (hcoll : d.collapsedSliceDims = [1]) (hob : d.operandBatchingDims = [])
    (hsim : d.startIndexMap = [1]) (hivd : d.indexVectorDim = 1) (x : (shape2 B nb).Idx → α) (idx : IVec (shape2 n 1) 32)
    (y : Fin B) (c : Fin n) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have n0 : ∀ l : List (Fin 2), l = [1] → (0 : Fin 2) ∉ l := fun l h => by rw [h]; decide
    have hk : (0 : Fin 2) ∈ d.sKept := (d.mem_sKept 0).2 ⟨n0 _ hcoll, hbN 0⟩
    have hm : (0 : Fin 2) ∉ d.startIndexMap := n0 _ hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

end Cert.Turn
-- ==== Proof.KeysRef.lean ====
/- The reference's prepared keys, entry by entry. -/
module

public import proofs.«01_k».proof.Defs
public import proofs.«01_k».proof.Proof.Turn
public import proofs.«01_k».proof.Proof.Gen.Reference10Ideal.Run
public import Idealize.ShloMosaic.Lib.Pipeline.Value
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem

namespace Cert.Reference10Ideal.Keys
open Cert.Reference10Ideal Cert.Reference10Ideal.Gen

/-- The angle of each position at each frequency. -/
def angle : FVec Ideal S16384x8 .f32 :=
  mulf (broadcastInDim S16384x8 ![0, 1] bcast_S16384x1_S16384x8_0_1 (broadcastInDim S16384x1 ![0] bcast_S16384_S16384x1_0 (sitofp .f32 (iotaInDim S16384 32 0))))
    (broadcastInDim S16384x8 ![0, 1] bcast_S1x8_S16384x8_0_1 (broadcastInDim S1x8 ![1] bcast_S8_S1x8_1
      (Host.powf (broadcastInDim S8 ![] bcast_S_S8 (constant S_ .f32 0x48F42400#32)) (Host.negf (Host.divf
        (addf (broadcastInDim S8 ![] bcast_S_S8 (constant S_ .f32 0x00000000#32)) (mulf (broadcastInDim S8 ![] bcast_S_S8 (constant S_ .f32 0x40000000#32)) (sitofp .f32 (iotaInDim S8 32 0))))
        (broadcastInDim S8 ![] bcast_S_S8 (constant S_ .f32 0x41800000#32)))))))
def cosines : FVec Ideal S16384x8 .f32 := Host.cos angle
def sines : FVec Ideal S16384x8 .f32 := Host.sin angle

/-- The keys by head, half and entry; their norm with gain; the turn of the first 16 entries. -/
def parts (z : FVec Ideal S2x16384x3456 .f32) : FVec Ideal S2x16384x4x2x64 .f32 :=
  shapeCast _ (extractStridedSlice S2x16384x512 ![0, 0, 512] z slices_S2x16384x3456_S2x16384x512_0_0_512) shapeCasts_S2x16384x512_S2x16384x4x2x64
def meansq (x : FVec Ideal S2x16384x4x2x64 .f32) : FVec Ideal S2x16384x4x2x1 .f32 :=
  Host.divf (broadcastInDim S2x16384x4x2x1 ![0, 1, 2, 3] bcast_S2x16384x4x2_S2x16384x4x2x1_0_1_2_3 (Host.reduceAdd (mulf x x) (constant S_ .f32 0x00000000#32) reducesTo_S2x16384x4x2x64_S2x16384x4x2_d4 h_S_)) (broadcastInDim S2x16384x4x2x1 ![] bcast_S_S2x16384x4x2x1 (constant S_ .f32 0x42800000#32))
def scaled (x : FVec Ideal S2x16384x4x2x64 .f32) (g : FVec Ideal S64 .f32) : FVec Ideal S2x16384x4x2x64 .f32 :=
  mulf (mulf x (broadcastInDim S2x16384x4x2x64 ![0, 1, 2, 3, 4] bcast_S2x16384x4x2x1_S2x16384x4x2x64_0_1_2_3_4 (Host.rsqrt (addf (meansq x) (broadcastInDim S2x16384x4x2x1 ![] bcast_S_S2x16384x4x2x1 (constant S_ .f32 0x358637BD#32)))))) (broadcastInDim S2x16384x4x2x64 ![0, 1, 2, 3, 4] bcast_S1x1x1x1x64_S2x16384x4x2x64_0_1_2_3_4 (broadcastInDim S1x1x1x1x64 ![4] bcast_S64_S1x1x1x1x64_4 g))
def along (t : FVec Ideal S16384x8 .f32) : FVec Ideal S2x16384x4x2x8 .f32 :=
  broadcastInDim S2x16384x4x2x8 ![0, 1, 2, 3, 4] bcast_S1x16384x1x1x8_S2x16384x4x2x8_0_1_2_3_4 (shapeCast S1x16384x1x1x8 t shapeCasts_S16384x8_S1x16384x1x1x8)
def fst (y : FVec Ideal S2x16384x4x2x64 .f32) : FVec Ideal S2x16384x4x2x8 .f32 := extractStridedSlice S2x16384x4x2x8 ![0, 0, 0, 0, 0] y slices_S2x16384x4x2x64_S2x16384x4x2x8_0_0_0_0_0
def snd (y : FVec Ideal S2x16384x4x2x64 .f32) : FVec Ideal S2x16384x4x2x8 .f32 := extractStridedSlice S2x16384x4x2x8 ![0, 0, 0, 0, 8] y slices_S2x16384x4x2x64_S2x16384x4x2x8_0_0_0_0_8
def rest (y : FVec Ideal S2x16384x4x2x64 .f32) : FVec Ideal S2x16384x4x2x48 .f32 := extractStridedSlice S2x16384x4x2x48 ![0, 0, 0, 0, 16] y slices_S2x16384x4x2x64_S2x16384x4x2x48_0_0_0_0_16
def three (p q : FVec Ideal S2x16384x4x2x8 .f32) (r : FVec Ideal S2x16384x4x2x48 .f32) : FVec Ideal S2x16384x4x2x64 .f32 :=
  concatenate S2x16384x4x2x64 4 [⟨S2x16384x4x2x8, p⟩, ⟨S2x16384x4x2x8, q⟩, ⟨S2x16384x4x2x48, r⟩] concatenates_S2x16384x4x2x8_S2x16384x4x2x8_S2x16384x4x2x48_S2x16384x4x2x64_d4
def turned (y : FVec Ideal S2x16384x4x2x64 .f32) (co si : FVec Ideal S16384x8 .f32) : FVec Ideal S2x16384x4x2x64 .f32 :=
  three (subf (mulf (fst y) (along co)) (mulf (snd y) (along si))) (addf (mulf (snd y) (along co)) (mulf (fst y) (along si))) (rest y)
def flat (y : FVec Ideal S2x16384x4x2x64 .f32) : FVec Ideal S2x16384x512 .bf16 :=
  truncf .bf16 (shapeCast S2x16384x512 y shapeCasts_S2x16384x4x2x64_S2x16384x512) bitsLt_bf16_f32
def res (z : FVec Ideal S2x16384x3456 .f32) (g : FVec Ideal S64 .f32) : FVec Ideal S2x16384x512 .bf16 :=
  flat (turned (scaled (parts z) g) cosines sines)

section
variable (z : FVec Ideal S2x16384x3456 .f32) (g : FVec Ideal S64 .f32) (b : Fin 2) (q : Fin 16384) (h : Fin 4) (s : Fin 2) (d : Fin 64)
theorem parts_apply : parts z (ix5 b q h s d) = z (ix3 b q ⟨512 + (h.val * 128 + s.val * 64 + d.val), by omega⟩) := by
  pointwise [parts]
theorem meansq_apply (x : FVec Ideal S2x16384x4x2x64 .f32) :
    meansq x (ix5 b q h s 0) = Ideal.div (∑ j : Fin 64, (x (ix5 b q h s j) : EReal) * (x (ix5 b q h s j) : EReal)) (Ideal.ofBits .f32 0x42800000#32) := by
  pointwise [meansq]
theorem scaled_apply (x : FVec Ideal S2x16384x4x2x64 .f32) :
    scaled x g (ix5 b q h s d) = Cert.Turn.normed (fun j => x (ix5 b q h s j)) (fun j => g (ix1 j)) d := by
  unfold Cert.Turn.normed
  rw [← meansq_apply]
  pointwise [scaled]
theorem along_apply (t : FVec Ideal S16384x8 .f32) (e : Fin 8) : along t (ix5 b q h s e) = t (ix2 q e) := by
  pointwise [along]
theorem fst_apply (y : FVec Ideal S2x16384x4x2x64 .f32) (e : Fin 8) : fst y (ix5 b q h s e) = y (ix5 b q h s ⟨e.val, by omega⟩) := by
  pointwise [fst]
theorem snd_apply (y : FVec Ideal S2x16384x4x2x64 .f32) (e : Fin 8) : snd y (ix5 b q h s e) = y (ix5 b q h s ⟨8 + e.val, by omega⟩) := by
  pointwise [snd]
theorem rest_apply (y : FVec Ideal S2x16384x4x2x64 .f32) (e : Fin 48) : rest y (ix5 b q h s e) = y (ix5 b q h s ⟨16 + e.val, by omega⟩) := by
  pointwise [rest]
theorem three_0 (p r : FVec Ideal S2x16384x4x2x8 .f32) (w : FVec Ideal S2x16384x4x2x48 .f32) (e : Fin 8) : three p r w (ix5 b q h s ⟨e.val, by omega⟩) = p (ix5 b q h s e) := by
  pointwise [three]
theorem three_1 (p r : FVec Ideal S2x16384x4x2x8 .f32) (w : FVec Ideal S2x16384x4x2x48 .f32) (e : Fin 8) : three p r w (ix5 b q h s ⟨8 + e.val, by omega⟩) = r (ix5 b q h s e) := by
  pointwise [three]
theorem three_2 (p r : FVec Ideal S2x16384x4x2x8 .f32) (w : FVec Ideal S2x16384x4x2x48 .f32) (e : Fin 48) : three p r w (ix5 b q h s ⟨16 + e.val, by omega⟩) = w (ix5 b q h s e) := by
  pointwise [three]
  rw [dif_neg (by omega), dif_neg (by omega)]
  exact congrArg (fun k => w (ix5 b q h s k)) (Fin.ext (by show 16 + e.val - 8 - 8 = e.val; omega))
theorem flat_apply (y : FVec Ideal S2x16384x4x2x64 .f32) (n : Fin 512) :
    flat y (ix3 b q n) = y (ix5 b q ⟨n.val / 128, by omega⟩ ⟨n.val / 64 % 2, by omega⟩ ⟨n.val % 64, by omega⟩) := by
  pointwise [flat]
theorem turned_apply (y : FVec Ideal S2x16384x4x2x64 .f32) (co si : FVec Ideal S16384x8 .f32) :
    turned y co si (ix5 b q h s d) = Cert.Turn.turn (fun j => y (ix5 b q h s j)) (fun e => co (ix2 q e)) (fun e => si (ix2 q e)) d := by
  unfold turned Cert.Turn.turn
  by_cases h0 : d.val < 8
  · rw [dif_pos h0]
    refine (three_0 b q h s _ _ _ ⟨d.val, h0⟩).trans ?_
    show (fst y (ix5 b q h s ⟨d.val, h0⟩) : EReal) * along co (ix5 b q h s ⟨d.val, h0⟩) - (snd y (ix5 b q h s ⟨d.val, h0⟩) : EReal) * along si (ix5 b q h s ⟨d.val, h0⟩) = _
    rw [fst_apply, snd_apply, along_apply, along_apply]
    exact congrArg (fun j => (y (ix5 b q h s d) : EReal) * co (ix2 q ⟨d.val, h0⟩) - (y (ix5 b q h s j) : EReal) * si (ix2 q ⟨d.val, h0⟩)) (Fin.ext (Nat.add_comm 8 d.val))
  · rw [dif_neg h0]
    by_cases h1 : d.val < 16
    · rw [dif_pos h1]
      have hd : (⟨8 + (d.val - 8), by omega⟩ : Fin 64) = d := Fin.ext (by show 8 + (d.val - 8) = d.val; omega)
      have e := three_1 b q h s (subf (mulf (fst y) (along co)) (mulf (snd y) (along si))) (addf (mulf (snd y) (along co)) (mulf (fst y) (along si))) (rest y) ⟨d.val - 8, by omega⟩
      dsimp only at e
      rw [hd] at e
      refine e.trans ?_
      show (snd y (ix5 b q h s ⟨d.val - 8, _⟩) : EReal) * along co (ix5 b q h s ⟨d.val - 8, _⟩) + (fst y (ix5 b q h s ⟨d.val - 8, _⟩) : EReal) * along si (ix5 b q h s ⟨d.val - 8, _⟩) = _
      rw [fst_apply, snd_apply, along_apply, along_apply]
      dsimp only
      rw [hd]
    · rw [dif_neg h1]
      have hd : (⟨16 + (d.val - 16), by omega⟩ : Fin 64) = d := Fin.ext (by show 16 + (d.val - 16) = d.val; omega)
      have e := three_2 b q h s (subf (mulf (fst y) (along co)) (mulf (snd y) (along si))) (addf (mulf (snd y) (along co)) (mulf (fst y) (along si))) (rest y) ⟨d.val - 16, by omega⟩
      dsimp only at e
      rw [hd] at e
      refine e.trans ?_
      rw [rest_apply]
      dsimp only
      rw [hd]
end

/-- Column `n` of the result: the turn of the norm of its group of 64 columns. -/
theorem res_apply (z : FVec Ideal S2x16384x3456 .f32) (g : FVec Ideal S64 .f32) (b : Fin 2) (q : Fin 16384) (n : Fin 512) :
    res z g (ix3 b q n) = Cert.Turn.turn (Cert.Turn.normed (fun j => z (ix3 b q ⟨512 + (n.val / 64 * 64 + j.val), by omega⟩)) (fun j => g (ix1 j)))
      (fun e => cosines (ix2 q e)) (fun e => sines (ix2 q e)) ⟨n.val % 64, by omega⟩ := by
  unfold res
  rw [flat_apply, turned_apply]
  refine congrArg (fun Y => Cert.Turn.turn Y (fun e => cosines (ix2 q e)) (fun e => sines (ix2 q e)) ⟨n.val % 64, by omega⟩) (funext fun d => ?_)
  rw [scaled_apply]
  refine congrArg (fun X => Cert.Turn.normed X (fun j => g (ix1 j)) d) (funext fun j => ?_)
  rw [parts_apply]
  refine congrArg (fun k => z (ix3 b q k)) (Fin.ext ?_)
  show 512 + (n.val / 128 * 128 + n.val / 64 % 2 * 64 + j.val) = 512 + (n.val / 64 * 64 + j.val)
  omega
end Cert.Reference10Ideal.Keys
-- ==== Proof.Keys.lean ====
/- The prepared keys: each grid point's block is the reference's result there, and the blocks tile the array. -/
module

public import proofs.«01_k».proof.Defs
public import proofs.«01_k».proof.Proof.Parts
public import proofs.«01_k».proof.Proof.Turn
public import proofs.«01_k».proof.Proof.KeysRef
public import proofs.«01_k».proof.Proof.Gen.Kernel10.Frame
public import proofs.«01_k».proof.Proof.Gen.Kernel10Ideal.Value
public import Idealize.ShloMosaic.Lib.KernelVsHost
public import Idealize.ShloMosaic.Lib.StableHlo.RunRead
public import Idealize.ShloMosaic.Lib.Quiescent

@[expose] public section
set_option maxRecDepth 16384
noncomputable section
open Idealize.ShloMosaic Idealize.ShloMosaic.TcCoe Idealize.SL.Sem

namespace Cert.Kernel10Ideal.Keys
open Cert.Kernel10Ideal Cert.Kernel10Ideal.Gen
open Cert.Parts (zero2 zero3 back)
open Cert.Turn (turn normed)
variable (m : (o : Loc nD τ sig) → Buf (Elt Ideal) o) (c : Dev nD)

/-! ## What the body writes -/

/-- The three tables' entries in a lane `d` of a group of 64. -/
def laneC (co : Fin 8 → EReal) (d : Nat) : EReal := if h : d < 8 then co ⟨d, h⟩ else if h' : d < 16 then co ⟨d - 8, by omega⟩ else 1
def laneA (si : Fin 8 → EReal) (d : Nat) : EReal := if _h : d < 8 then 0 else if h' : d < 16 then si ⟨d - 8, by omega⟩ else 0
def laneB (si : Fin 8 → EReal) (d : Nat) : EReal := if h : d < 8 then -si ⟨d, h⟩ else 0

/-- A column, the one eight before it and the one eight after it, with the tables' entries: the turn of the column's group. -/
theorem lanes (N : Fin 512 → EReal) (co si : Fin 8 → EReal) (n : Fin 512) :
    N n * laneC co (n.val % 64) + N ⟨n.val / 128 * 128 + (n.val % 128 + 120) % 128, by omega⟩ * laneA si (n.val % 64)
      + N ⟨n.val / 128 * 128 + (n.val % 128 + 8) % 128, by omega⟩ * laneB si (n.val % 64)
      = turn (fun d => N ⟨n.val / 64 * 64 + d.val, by omega⟩) co si ⟨n.val % 64, by omega⟩ := by
  unfold laneC laneA laneB turn
  have hn : (⟨n.val / 64 * 64 + n.val % 64, by omega⟩ : Fin 512) = n := Fin.ext (by show n.val / 64 * 64 + n.val % 64 = n.val; omega)
  by_cases h : n.val % 64 < 8
  · have e : (⟨n.val / 128 * 128 + (n.val % 128 + 8) % 128, by omega⟩ : Fin 512) = ⟨n.val / 64 * 64 + (n.val % 64 + 8), by omega⟩ := Fin.ext (by show n.val / 128 * 128 + (n.val % 128 + 8) % 128 = n.val / 64 * 64 + (n.val % 64 + 8); omega)
    simp only [dif_pos h, hn, e, mul_zero, add_zero, mul_neg, sub_eq_add_neg]
  · by_cases h' : n.val % 64 < 16
    · have e : (⟨n.val / 128 * 128 + (n.val % 128 + 120) % 128, by omega⟩ : Fin 512) = ⟨n.val / 64 * 64 + (n.val % 64 - 8), by omega⟩ := Fin.ext (by show n.val / 128 * 128 + (n.val % 128 + 120) % 128 = n.val / 64 * 64 + (n.val % 64 - 8); omega)
      simp only [dif_neg h, dif_pos h', hn, e, mul_zero, add_zero]
    · simp only [dif_neg h, dif_neg h', hn, mul_zero, add_zero, mul_one]

theorem pay2_raw (v0 : Vec Ideal S1x2048x512 .f32) (v4 : Vec Ideal S512x512 .bf16) (v13 : Vec Ideal S1x512 .f32) (l : Fin 2048) (n : Fin 512) :
    k0_pay2 v0 v4 v13 (ix2 l n) = (v0 (ix3 0 l n) : EReal) * Ideal.rsqrt ((∑ k : Fin 512, (v0 (ix3 0 l k) : EReal) * (v0 (ix3 0 l k) : EReal) * (v4 (ix2 k n) : EReal)) * Ideal.ofBits .f32 0x3C800000#32 + Ideal.ofBits .f32 0x358637BD#32) * (v13 (ix2 0 n) : EReal) := by
  pointwise [k0_pay2]
theorem pay2_apply (v0 : Vec Ideal S1x2048x512 .f32) (v4 : Vec Ideal S512x512 .bf16) (v13 : Vec Ideal S1x512 .f32) (G : Fin 64 → EReal)
    (h4 : ∀ k n : Fin 512, (v4 (ix2 k n) : EReal) = if k.val / 64 = n.val / 64 then 1 else 0) (h13 : ∀ n : Fin 512, (v13 (ix2 0 n) : EReal) = G ⟨n.val % 64, by omega⟩)
    (l : Fin 2048) (n : Fin 512) :
    k0_pay2 v0 v4 v13 (ix2 l n) = normed (fun j => v0 (ix3 0 l ⟨n.val / 64 * 64 + j.val, by omega⟩)) G ⟨n.val % 64, by omega⟩ := by
  rw [pay2_raw]
  simp only [h4, h13]
  rw [Cert.Turn.group_sum (fun k => (v0 (ix3 0 l k) : EReal) * (v0 (ix3 0 l k) : EReal)) n, Cert.Turn.mean_eq]
  have hn : (⟨n.val / 64 * 64 + n.val % 64, by omega⟩ : Fin 512) = n := Fin.ext (by show n.val / 64 * 64 + n.val % 64 = n.val; omega)
  unfold normed
  simp only [hn]

/-- One piece of 128 columns with the tables; four pieces side by side. -/
def mix (s C A B : FVec Ideal S2048x128 .f32) : FVec Ideal S2048x128 .f32 :=
  addf (addf (mulf s C) (mulf (dynamicRotate 1 8#32 none s rotates_S2048x128_d1) A)) (mulf (dynamicRotate 1 120#32 none s rotates_S2048x128_d1) B)
def joined (a b c d : FVec Ideal S2048x128 .f32) : FVec Ideal S1x2048x512 .bf16 :=
  shapeCast S1x2048x512 (truncf .bf16 (concatenate S2048x512 1 [⟨S2048x128, a⟩, ⟨S2048x128, b⟩, ⟨S2048x128, c⟩, ⟨S2048x128, d⟩] concatenates_S2048x128_S2048x128_S2048x128_S2048x128_S2048x512_d1) bitsLt_bf16_f32) shapeCasts_S2048x512_S1x2048x512
def cut0 (N : FVec Ideal S2048x512 .f32) : FVec Ideal S2048x128 .f32 := extractStridedSlice S2048x128 ![0, 0] N slices_S2048x512_o0_0_S2048x128
def cut1 (N : FVec Ideal S2048x512 .f32) : FVec Ideal S2048x128 .f32 := extractStridedSlice S2048x128 ![0, 128] N slices_S2048x512_o0_128_S2048x128
def cut2 (N : FVec Ideal S2048x512 .f32) : FVec Ideal S2048x128 .f32 := extractStridedSlice S2048x128 ![0, 256] N slices_S2048x512_o0_256_S2048x128
def cut3 (N : FVec Ideal S2048x512 .f32) : FVec Ideal S2048x128 .f32 := extractStridedSlice S2048x128 ![0, 384] N slices_S2048x512_o0_384_S2048x128
def whole (N : FVec Ideal S2048x512 .f32) (C A B : FVec Ideal S2048x128 .f32) : FVec Ideal S1x2048x512 .bf16 :=
  joined (mix (cut0 N) C A B) (mix (cut1 N) C A B) (mix (cut2 N) C A B) (mix (cut3 N) C A B)

theorem turn8 (s : FVec Ideal S2048x128 .f32) (l : Fin 2048) (p : Fin 128) :
    dynamicRotate 1 8#32 none s rotates_S2048x128_d1 (ix2 l p) = s (ix2 l ⟨(p.val + 120) % 128, by omega⟩) := by
  refine dynamicRotate_apply _ _ _ _ _ _ fun b => ?_
  match b with
  | ⟨0, _⟩ => rfl
  | ⟨1, _⟩ => rfl
theorem turn120 (s : FVec Ideal S2048x128 .f32) (l : Fin 2048) (p : Fin 128) :
    dynamicRotate 1 120#32 none s rotates_S2048x128_d1 (ix2 l p) = s (ix2 l ⟨(p.val + 8) % 128, by omega⟩) := by
  refine dynamicRotate_apply _ _ _ _ _ _ fun b => ?_
  match b with
  | ⟨0, _⟩ => rfl
  | ⟨1, _⟩ => rfl
theorem mix_apply (s C A B : FVec Ideal S2048x128 .f32) (l : Fin 2048) (p : Fin 128) :
    mix s C A B (ix2 l p) = (s (ix2 l p) : EReal) * C (ix2 l p) + (s (ix2 l ⟨(p.val + 120) % 128, by omega⟩) : EReal) * A (ix2 l p) + (s (ix2 l ⟨(p.val + 8) % 128, by omega⟩) : EReal) * B (ix2 l p) := by
  rw [← turn8 s l p, ← turn120 s l p]
  rfl

section
variable (N : FVec Ideal S2048x512 .f32) (a b c d : FVec Ideal S2048x128 .f32) (l : Fin 2048) (p : Fin 128)
theorem cut0_apply : cut0 N (ix2 l p) = N (ix2 l ⟨p.val, by omega⟩) := by
  pointwise [cut0]
theorem cut1_apply : cut1 N (ix2 l p) = N (ix2 l ⟨128 + p.val, by omega⟩) := by
  pointwise [cut1]
theorem cut2_apply : cut2 N (ix2 l p) = N (ix2 l ⟨256 + p.val, by omega⟩) := by
  pointwise [cut2]
theorem cut3_apply : cut3 N (ix2 l p) = N (ix2 l ⟨384 + p.val, by omega⟩) := by
  pointwise [cut3]
theorem joined_apply (n : Fin 512) : joined a b c d (ix3 0 l n) =
    if h : n.val < 128 then a (ix2 l ⟨n.val, h⟩) else if h : n.val - 128 < 128 then b (ix2 l ⟨n.val - 128, h⟩)
      else if h : n.val - 128 - 128 < 128 then c (ix2 l ⟨n.val - 128 - 128, h⟩) else d (ix2 l ⟨n.val - 128 - 128 - 128, by omega⟩) := by
  pointwise [joined]
end

/-- Column `n` of the block: the three neighbours with the tables. -/
theorem whole_apply (N : FVec Ideal S2048x512 .f32) (C A B : FVec Ideal S2048x128 .f32) (l : Fin 2048) (n : Fin 512) :
    whole N C A B (ix3 0 l n) = (N (ix2 l n) : EReal) * C (ix2 l ⟨n.val % 128, by omega⟩)
      + (N (ix2 l ⟨n.val / 128 * 128 + (n.val % 128 + 120) % 128, by omega⟩) : EReal) * A (ix2 l ⟨n.val % 128, by omega⟩)
      + (N (ix2 l ⟨n.val / 128 * 128 + (n.val % 128 + 8) % 128, by omega⟩) : EReal) * B (ix2 l ⟨n.val % 128, by omega⟩) := by
  have key : ∀ (s : FVec Ideal S2048x128 .f32) (o : Nat) (ho : ∀ p : Fin 128, o * 128 + p.val < 512) (hs : ∀ p : Fin 128, s (ix2 l p) = N (ix2 l ⟨o * 128 + p.val, ho p⟩)) (p : Fin 128) (hp : p.val = n.val % 128) (hq : n.val / 128 = o),
      mix s C A B (ix2 l p) = (N (ix2 l n) : EReal) * C (ix2 l ⟨n.val % 128, by omega⟩)
      + (N (ix2 l ⟨n.val / 128 * 128 + (n.val % 128 + 120) % 128, by omega⟩) : EReal) * A (ix2 l ⟨n.val % 128, by omega⟩)
      + (N (ix2 l ⟨n.val / 128 * 128 + (n.val % 128 + 8) % 128, by omega⟩) : EReal) * B (ix2 l ⟨n.val % 128, by omega⟩) := by
    intro s o ho hs p hp hq
    have hp' : p = ⟨n.val % 128, Nat.mod_lt _ (by decide)⟩ := Fin.ext hp
    subst hp'
    subst hq
    rw [mix_apply, hs, hs, hs]
    have hn : (⟨n.val / 128 * 128 + n.val % 128, by omega⟩ : Fin 512) = n := Fin.ext (by show n.val / 128 * 128 + n.val % 128 = n.val; omega)
    simp only [hn]
  unfold whole
  rw [joined_apply]
  split_ifs with h0 h1 h2
  · exact key _ 0 (fun p => by omega) (fun p => (cut0_apply N l p).trans (congrArg (fun k => N (ix2 l k)) (Fin.ext (by show p.val = 0 * 128 + p.val; omega)))) _ (by show n.val = n.val % 128; omega) (by omega)
  · exact key _ 1 (fun p => by omega) (fun p => (cut1_apply N l p).trans (congrArg (fun k => N (ix2 l k)) (Fin.ext (by show 128 + p.val = 1 * 128 + p.val; omega)))) _ (by show n.val - 128 = n.val % 128; omega) (by omega)
  · exact key _ 2 (fun p => by omega) (fun p => (cut2_apply N l p).trans (congrArg (fun k => N (ix2 l k)) (Fin.ext (by show 256 + p.val = 2 * 128 + p.val; omega)))) _ (by show n.val - 128 - 128 = n.val % 128; omega) (by omega)
  · exact key _ 3 (fun p => by omega) (fun p => (cut3_apply N l p).trans (congrArg (fun k => N (ix2 l k)) (Fin.ext (by show 384 + p.val = 3 * 128 + p.val; omega)))) _ (by show n.val - 128 - 128 - 128 = n.val % 128; omega) (by omega)

section
variable (i : grid0.Coords) (arg2 : Memref sig .tc .vmem S1x2048x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole) (arg8 : Memref sig .tc .vmem S1x2048x512 .bf16) (harg8 : arg8.IsWhole)
  (x0 : Vec Ideal S1x2048x512 .f32) (x1 : Vec Ideal S1x512 .f32) (x2 : Vec Ideal S512x512 .bf16) (x3 x4 x5 : Vec Ideal S2048x128 .f32)
theorem out_eq : out0_A_6 c i arg2 harg2 arg3 harg3 arg4 harg4 arg5 harg5 arg6 harg6 arg7 harg7 arg8 harg8 x0 x1 x2 x3 x4 x5
    = k0_pay1 (k0_pay2 x0 x2 x1) (k0_pay3 x3) (k0_pay4 x4) (k0_pay5 x5) (k0_pay6 x0 x2 x1 x3 x4 x5) (k0_pay8 x0 x2 x1 x3 x4) (k0_pay9 x0 x2 x1 x5) := by
  unfold out0_A_6
  rw [View.read_writes_junk_eq_canon]
  unfold kernelRun0_A
  dsimp only
  sl_unfold_run_names
  rw [View.canon_cons_unit_zero zero3]
  rw [back harg2 zero3, back harg3 zero2, back harg4 zero2, back harg5 zero2, back harg6 zero2, back harg7 zero2]
end

theorem pays (x0 : Vec Ideal S1x2048x512 .f32) (x1 : Vec Ideal S1x512 .f32) (x2 : Vec Ideal S512x512 .bf16) (x3 x4 x5 : Vec Ideal S2048x128 .f32) :
    k0_pay1 (k0_pay2 x0 x2 x1) (k0_pay3 x3) (k0_pay4 x4) (k0_pay5 x5) (k0_pay6 x0 x2 x1 x3 x4 x5) (k0_pay8 x0 x2 x1 x3 x4) (k0_pay9 x0 x2 x1 x5)
      = whole (k0_pay2 x0 x2 x1) (k0_pay3 x3) (k0_pay4 x4) (k0_pay5 x5) := rfl
theorem same3 (x : Vec Ideal S2048x128 .f32) (l : Fin 2048) (p : Fin 128) : k0_pay3 x (ix2 l p) = x (ix2 l p) := by
  pointwise [k0_pay3]
theorem same4 (x : Vec Ideal S2048x128 .f32) (l : Fin 2048) (p : Fin 128) : k0_pay4 x (ix2 l p) = x (ix2 l p) := by
  pointwise [k0_pay4]
theorem same5 (x : Vec Ideal S2048x128 .f32) (l : Fin 2048) (p : Fin 128) : k0_pay5 x (ix2 l p) = x (ix2 l p) := by
  pointwise [k0_pay5]

/-- The block's entry at row `l` and column `n`. -/
theorem out_apply (x0 : Vec Ideal S1x2048x512 .f32) (x1 : Vec Ideal S1x512 .f32) (x2 : Vec Ideal S512x512 .bf16) (x3 x4 x5 : Vec Ideal S2048x128 .f32) (G : Fin 64 → EReal) (co si : Fin 8 → EReal) (l : Fin 2048) (n : Fin 512)
    (h1 : ∀ n : Fin 512, (x1 (ix2 0 n) : EReal) = G ⟨n.val % 64, by omega⟩) (h2 : ∀ k n : Fin 512, (x2 (ix2 k n) : EReal) = if k.val / 64 = n.val / 64 then 1 else 0)
    (h3 : ∀ p : Fin 128, (x3 (ix2 l p) : EReal) = laneC co (p.val % 64)) (h4 : ∀ p : Fin 128, (x4 (ix2 l p) : EReal) = laneA si (p.val % 64)) (h5 : ∀ p : Fin 128, (x5 (ix2 l p) : EReal) = laneB si (p.val % 64)) :
    whole (k0_pay2 x0 x2 x1) (k0_pay3 x3) (k0_pay4 x4) (k0_pay5 x5) (ix3 0 l n) = turn (normed (fun j => x0 (ix3 0 l ⟨n.val / 64 * 64 + j.val, by omega⟩)) G) co si ⟨n.val % 64, by omega⟩ := by
  have hd : n.val % 128 % 64 = n.val % 64 := by omega
  rw [whole_apply, same3, same4, same5, h3, h4, h5]
  dsimp only
  rw [hd]
  refine (lanes (fun k => k0_pay2 x0 x2 x1 (ix2 l k)) co si n).trans ?_
  refine congrArg (fun Y => turn Y co si ⟨n.val % 64, by omega⟩) (funext fun d => ?_)
  rw [pay2_apply x0 x2 x1 G h2 h1]
  have e : (n.val / 64 * 64 + d.val) / 64 = n.val / 64 := by omega
  have e' : (n.val / 64 * 64 + d.val) % 64 = d.val := by omega
  simp only [e, e']

/-! ## The host's arrays -/

/-- The number of each lane in its group of 64: the remainder by 64, made nonnegative. -/
def sixty : IVec S_ 32 := select (cmpi .eq (constantI S_ 32 64#32) (constantI S_ 32 0#32)) (constantI S_ 32 1#32) (constantI S_ 32 64#32)
def rem : IVec S128 32 := Host.remsi (iotaInDim S128 32 0) (broadcastInDim S128 ![] bcast_S_S128 sixty)
def nil : IVec S128 32 := broadcastInDim S128 ![] bcast_S_S128 (constantI S_ 32 0#32)
def eight : IVec S128 32 := broadcastInDim S128 ![] bcast_S_S128 (constantI S_ 32 8#32)
def sixteen : IVec S128 32 := broadcastInDim S128 ![] bcast_S_S128 (constantI S_ 32 16#32)
def lane : IVec S128 32 :=
  select (andi (cmpi .ne (cmpi .slt rem nil) (broadcastInDim S128 ![] bcast_S_S128 (cmpi .slt sixty (constantI S_ 32 0#32)))) (cmpi .ne rem nil))
    (addi rem (broadcastInDim S128 ![] bcast_S_S128 sixty)) rem
def isLow : IVec S128 1 := cmpi .slt lane eight
def isHigh : IVec S128 1 := andi (cmpi .sge lane eight) (cmpi .slt lane sixteen)
def isBoth : IVec S128 1 := ori isLow isHigh
def pick : IVec S128 32 := select isLow lane (select isHigh (subi lane eight) nil)
def column : IVec S128x1 32 := broadcastInDim S128x1 ![0] bcast_S128_S128x1_0 (select (cmpi .slt pick nil) (addi pick eight) pick)
/-- The group of 64 of each column. -/
def sixty' : IVec S512 32 := broadcastInDim S512 ![] bcast_S_S512 (constantI S_ 32 64#32)
def groups : IVec S512 32 :=
  select (andi (cmpi .ne (signi (iotaInDim S512 32 0)) (broadcastInDim S512 ![] bcast_S_S512 (signi (constantI S_ 32 64#32))))
      (cmpi .ne (Host.remsi (iotaInDim S512 32 0) sixty') (broadcastInDim S512 ![] bcast_S_S512 (constantI S_ 32 0#32))))
    (subi (Host.divsi (iotaInDim S512 32 0) sixty') (broadcastInDim S512 ![] bcast_S_S512 (constantI S_ 32 1#32))) (Host.divsi (iotaInDim S512 32 0) sixty')

/-- The column of the tables at a lane. -/
def col (p : Fin 128) : Fin 8 := if h : p.val % 64 < 8 then ⟨p.val % 64, h⟩ else if h' : p.val % 64 < 16 then ⟨p.val % 64 - 8, by omega⟩ else 0
theorem column_apply (p : Fin 128) : column (ix2 p 0) = BitVec.ofNat 32 (col p).val :=
  (by decide +kernel : ∀ p : Fin 128, column (ix2 p 0) = BitVec.ofNat 32 (col p).val) p
theorem isLow_apply (p : Fin 128) : isLow (ix1 p) = if p.val % 64 < 8 then 1#1 else 0#1 :=
  (by decide +kernel : ∀ p : Fin 128, isLow (ix1 p) = if p.val % 64 < 8 then 1#1 else 0#1) p
theorem isHigh_apply (p : Fin 128) : isHigh (ix1 p) = if p.val % 64 < 8 then 0#1 else if p.val % 64 < 16 then 1#1 else 0#1 :=
  (by decide +kernel : ∀ p : Fin 128, isHigh (ix1 p) = if p.val % 64 < 8 then 0#1 else if p.val % 64 < 16 then 1#1 else 0#1) p
theorem isBoth_apply (p : Fin 128) : isBoth (ix1 p) = if p.val % 64 < 8 then 1#1 else if p.val % 64 < 16 then 1#1 else 0#1 :=
  (by decide +kernel : ∀ p : Fin 128, isBoth (ix1 p) = if p.val % 64 < 8 then 1#1 else if p.val % 64 < 16 then 1#1 else 0#1) p
theorem groups_apply (n : Fin 512) : groups (ix1 n) = BitVec.ofNat 32 (n.val / 64) :=
  (by decide +kernel : ∀ n : Fin 512, groups (ix1 n) = BitVec.ofNat 32 (n.val / 64)) n

def cosT : FVec Ideal S16384x8 .f32 := Cert.Reference10Ideal.Keys.cosines
def sinT : FVec Ideal S16384x8 .f32 := Cert.Reference10Ideal.Keys.sines
def spread (t : FVec Ideal S16384x8 .f32) : FVec Ideal S16384x128 .f32 := Host.gather gather_S16384x8_S128x1_S16384x128_0_1_n_n_1_1_163841 t column
def chosen (k : IVec S128 1) (t : FVec Ideal S16384x128 .f32) (e : BitVec 32) : FVec Ideal S16384x128 .f32 :=
  select (broadcastInDim S16384x128 ![1] bcast_S128_S16384x128_1 k) t (broadcastInDim S16384x128 ![] bcast_S_S16384x128 (constant S_ .f32 e))

theorem spread_apply (t : FVec Ideal S16384x8 .f32) (q : Fin 16384) (p : Fin 128) : spread t (ix2 q p) = t (ix2 q (col p)) :=
  Cert.Turn.gather_col _ rfl rfl rfl rfl rfl t column q p (col p) (column_apply p) (by decide)
theorem chosen_apply (k : IVec S128 1) (t : FVec Ideal S16384x128 .f32) (e : BitVec 32) (q : Fin 16384) (p : Fin 128) :
    chosen k t e (ix2 q p) = if k (ix1 p) = 1#1 then t (ix2 q p) else Ideal.ofBits .f32 e := by
  have hk : broadcastInDim S16384x128 ![1] bcast_S128_S16384x128_1 k (ix2 q p) = k (ix1 p) := by pointwise
  show Scalar.select (broadcastInDim S16384x128 ![1] bcast_S128_S16384x128_1 k (ix2 q p)) (t (ix2 q p)) (Ideal.ofBits .f32 e) = _
  rw [hk]
  rfl

theorem v39_eq : (V m c main_v39 : Vec Ideal S16384x128 .f32) = chosen isBoth (spread cosT) 0x3F800000#32 := by
  unfold V
  after_reads_simp
  simp only [StableHlo.TRef.ofBuf_toBuf, id_eq]
  unfold chosen isBoth isLow isHigh spread column pick isLow isHigh lane rem nil eight sixteen sixty cosT Cert.Reference10Ideal.Keys.cosines Cert.Reference10Ideal.Keys.angle
  rfl
theorem v47_eq : (V m c main_v47 : Vec Ideal S16384x128 .f32) = chosen isHigh (spread sinT) 0x00000000#32 := by
  unfold V
  after_reads_simp
  simp only [StableHlo.TRef.ofBuf_toBuf, id_eq]
  unfold chosen isHigh spread column pick isLow isHigh lane rem nil eight sixteen sixty sinT Cert.Reference10Ideal.Keys.sines Cert.Reference10Ideal.Keys.angle
  rfl
theorem v56_eq : (V m c main_v56 : Vec Ideal S16384x128 .f32) = chosen isLow (Host.negf (spread sinT)) 0x00000000#32 := by
  unfold V
  after_reads_simp
  simp only [StableHlo.TRef.ofBuf_toBuf, id_eq]
  unfold chosen isLow spread column pick isLow isHigh lane rem nil eight sixteen sixty sinT Cert.Reference10Ideal.Keys.sines Cert.Reference10Ideal.Keys.angle
  rfl

theorem one_eq : Ideal.ofBits .f32 0x3F800000#32 = (1 : EReal) := by
  simp [Ideal.ofBits, Ideal.ieee, -EReal.coe_mul]; norm_num
theorem zero_eq : Ideal.ofBits .f32 0x00000000#32 = (0 : EReal) := by
  simp [Ideal.ofBits, Ideal.ieee]

theorem v39_apply (q : Fin 16384) (p : Fin 128) : (V m c main_v39 : Vec Ideal S16384x128 .f32) (ix2 q p) = laneC (fun e => cosT (ix2 q e)) (p.val % 64) := by
  rw [v39_eq, chosen_apply, isBoth_apply, spread_apply]
  unfold laneC col
  by_cases h : p.val % 64 < 8
  · simp only [if_pos h, dif_pos h, if_true]
  · by_cases h' : p.val % 64 < 16
    · simp only [if_neg h, dif_neg h, if_pos h', dif_pos h', if_true]
    · simp only [if_neg h, dif_neg h, if_neg h', dif_neg h']
      exact one_eq
theorem v47_apply (q : Fin 16384) (p : Fin 128) : (V m c main_v47 : Vec Ideal S16384x128 .f32) (ix2 q p) = laneA (fun e => sinT (ix2 q e)) (p.val % 64) := by
  rw [v47_eq, chosen_apply, isHigh_apply, spread_apply]
  unfold laneA col
  by_cases h : p.val % 64 < 8
  · simp only [if_pos h, dif_pos h]
    exact zero_eq
  · by_cases h' : p.val % 64 < 16
    · simp only [if_neg h, dif_neg h, if_pos h', dif_pos h', if_true]
    · simp only [if_neg h, dif_neg h, if_neg h', dif_neg h']
      exact zero_eq
theorem v56_apply (q : Fin 16384) (p : Fin 128) : (V m c main_v56 : Vec Ideal S16384x128 .f32) (ix2 q p) = laneB (fun e => sinT (ix2 q e)) (p.val % 64) := by
  rw [v56_eq, chosen_apply, isLow_apply]
  have hs : (Host.negf (spread sinT) (ix2 q p) : EReal) = -(sinT (ix2 q (col p)) : EReal) := by
    rw [← spread_apply sinT q p]
    rfl
  rw [hs]
  unfold laneB col
  by_cases h : p.val % 64 < 8
  · simp only [if_pos h, dif_pos h, if_true]
  · simp only [if_neg h, dif_neg h]
    exact zero_eq

theorem v60_apply (n : Fin 512) : (V m c main_v60 : Vec Ideal S1x512 .f32) (ix2 0 n) = m ((c : Thread nD τ).loc main_arg1) (ix1 ⟨n.val % 64, by omega⟩) := by
  unfold V
  after_reads_simp
  pointwise
theorem v68_apply (k n : Fin 512) : (V m c main_v68 : Vec Ideal S512x512 .bf16) (ix2 k n) = (if k.val / 64 = n.val / 64 then 1 else 0 : EReal) := by
  have e : (V m c main_v68 : Vec Ideal S512x512 .bf16) = uitofp (F := Ideal) .bf16 (cmpi .eq (broadcastInDim S512x512 ![0, 1] bcast_S512x1_S512x512_0_1 (broadcastInDim S512x1 ![0] bcast_S512_S512x1_0 groups)) (broadcastInDim S512x512 ![0, 1] bcast_S1x512_S512x512_0_1 (broadcastInDim S1x512 ![1] bcast_S512_S1x512_1 groups))) := by
    unfold V
    after_reads_simp
    rfl
  have e1 : broadcastInDim S512x512 ![0, 1] bcast_S512x1_S512x512_0_1 (broadcastInDim S512x1 ![0] bcast_S512_S512x1_0 groups) (ix2 k n) = groups (ix1 k) := by pointwise
  have e2 : broadcastInDim S512x512 ![0, 1] bcast_S1x512_S512x512_0_1 (broadcastInDim S1x512 ![1] bcast_S512_S1x512_1 groups) (ix2 k n) = groups (ix1 n) := by pointwise
  rw [e]
  show FloatOps.uitofp (F := Ideal) .bf16 (IntOp.cmpi .eq (broadcastInDim S512x512 ![0, 1] bcast_S512x1_S512x512_0_1 (broadcastInDim S512x1 ![0] bcast_S512_S512x1_0 groups) (ix2 k n)) (broadcastInDim S512x512 ![0, 1] bcast_S1x512_S512x512_0_1 (broadcastInDim S1x512 ![1] bcast_S512_S1x512_1 groups) (ix2 k n))) = _
  rw [e1, e2, groups_apply, groups_apply]
  by_cases h : k.val / 64 = n.val / 64
  · rw [if_pos h, h]
    have hc : IntOp.cmpi .eq (BitVec.ofNat 32 (n.val / 64)) (BitVec.ofNat 32 (n.val / 64)) = 1#1 := by simp [IntOp.cmpi]
    rw [hc]
    show (((1#1 : BitVec 1).toNat : ℝ) : EReal) = 1
    simp
  · rw [if_neg h]
    have hne : BitVec.ofNat 32 (k.val / 64) ≠ BitVec.ofNat 32 (n.val / 64) := fun he => h (by
      have := congrArg BitVec.toNat he
      simp only [BitVec.toNat_ofNat] at this
      omega)
    have hc : IntOp.cmpi .eq (BitVec.ofNat 32 (k.val / 64)) (BitVec.ofNat 32 (n.val / 64)) = 0#1 := by
      show BitVec.ofBool (BitVec.ofNat 32 (k.val / 64) == BitVec.ofNat 32 (n.val / 64)) = 0#1
      rw [beq_eq_false_iff_ne.mpr hne]
      rfl
    rw [hc]
    show (((0#1 : BitVec 1).toNat : ℝ) : EReal) = 0
    simp

theorem a0_eq : V m c main_arg0 = m ((c : Thread nD τ).loc main_arg0) := V_main_arg0 m c

/-! ## The blocks -/

/-- The two coordinates of a grid point. -/
def tb (t : Fin cfg0.N) : Fin 2 := ⟨t.val / 8, by have := lt_of_lt_of_eq t.isLt (show cfg0.N = 16 from N_0); omega⟩
def ti (t : Fin cfg0.N) : Fin 8 := ⟨t.val % 8, by omega⟩
/-- The row of the whole arrays at row `l` of a grid point's tiles. -/
def row (t : Fin cfg0.N) (l : Fin 2048) : Fin 16384 := ⟨(ti t).val * 2048 + l.val, by omega⟩

theorem index0 (t : Fin cfg0.N) : win0_0.index t 0 = (tb t).val ∧ win0_0.index t 1 = (ti t).val ∧ win0_0.index t 2 = 1 :=
  (by decide +kernel : ∀ t : Fin grid0.N, win0_0.index t 0 = t.val / 8 ∧ win0_0.index t 1 = t.val % 8 ∧ win0_0.index t 2 = 1) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = (ti t).val ∧ win0_3.index t 1 = 0 :=
  (by decide +kernel : ∀ t : Fin grid0.N, win0_3.index t 0 = t.val % 8 ∧ win0_3.index t 1 = 0) t
theorem index4 (t : Fin cfg0.N) : win0_4.index t 0 = (ti t).val ∧ win0_4.index t 1 = 0 :=
  (by decide +kernel : ∀ t : Fin grid0.N, win0_4.index t 0 = t.val % 8 ∧ win0_4.index t 1 = 0) t
theorem index5 (t : Fin cfg0.N) : win0_5.index t 0 = (ti t).val ∧ win0_5.index t 1 = 0 :=
  (by decide +kernel : ∀ t : Fin grid0.N, win0_5.index t 0 = t.val % 8 ∧ win0_5.index t 1 = 0) t
theorem index6 (t : Fin cfg0.N) : win0_6.index t 0 = (tb t).val ∧ win0_6.index t 1 = (ti t).val ∧ win0_6.index t 2 = 0 :=
  (by decide +kernel : ∀ t : Fin grid0.N, win0_6.index t 0 = t.val / 8 ∧ win0_6.index t 1 = t.val % 8 ∧ win0_6.index t 2 = 0) t

theorem emb1 (t : Fin cfg0.N) (n : Fin 512) : ((cfg0.win 1).blk t).view.emb (ix2 0 n) = ix2 0 n := by
  obtain ⟨h0, h1⟩ := index1 t
  refine funext fun a => Fin.ext ?_
  match a with
  | ⟨0, _⟩ => exact (Pipeline.Window.rect_emb_val _ _ _ _).trans (by show win0_1.index t 0 * 1 + 0 = 0; rw [h0])
  | ⟨1, _⟩ => exact (Pipeline.Window.rect_emb_val _ _ _ _).trans (by show win0_1.index t 1 * 512 + n.val = n.val; rw [h1, Nat.zero_mul, Nat.zero_add])
theorem emb2 (t : Fin cfg0.N) (k n : Fin 512) : ((cfg0.win 2).blk t).view.emb (ix2 k n) = ix2 k n := by
  obtain ⟨h0, h1⟩ := index2 t
  refine funext fun a => Fin.ext ?_
  match a with
  | ⟨0, _⟩ => exact (Pipeline.Window.rect_emb_val _ _ _ _).trans (by show win0_2.index t 0 * 512 + k.val = k.val; rw [h0, Nat.zero_mul, Nat.zero_add])
  | ⟨1, _⟩ => exact (Pipeline.Window.rect_emb_val _ _ _ _).trans (by show win0_2.index t 1 * 512 + n.val = n.val; rw [h1, Nat.zero_mul, Nat.zero_add])
theorem emb3 (t : Fin cfg0.N) (l : Fin 2048) (p : Fin 128) : ((cfg0.win 3).blk t).view.emb (ix2 l p) = ix2 (row t l) p := by
  obtain ⟨h0, h1⟩ := index3 t
  refine funext fun a => Fin.ext ?_
  match a with
  | ⟨0, _⟩ => exact (Pipeline.Window.rect_emb_val _ _ _ _).trans (by show win0_3.index t 0 * 2048 + l.val = (ti t).val * 2048 + l.val; rw [h0])
  | ⟨1, _⟩ => exact (Pipeline.Window.rect_emb_val _ _ _ _).trans (by show win0_3.index t 1 * 128 + p.val = p.val; rw [h1, Nat.zero_mul, Nat.zero_add])
theorem emb4 (t : Fin cfg0.N) (l : Fin 2048) (p : Fin 128) : ((cfg0.win 4).blk t).view.emb (ix2 l p) = ix2 (row t l) p := by
  obtain ⟨h0, h1⟩ := index4 t
  refine funext fun a => Fin.ext ?_
  match a with
  | ⟨0, _⟩ => exact (Pipeline.Window.rect_emb_val _ _ _ _).trans (by show win0_4.index t 0 * 2048 + l.val = (ti t).val * 2048 + l.val; rw [h0])
  | ⟨1, _⟩ => exact (Pipeline.Window.rect_emb_val _ _ _ _).trans (by show win0_4.index t 1 * 128 + p.val = p.val; rw [h1, Nat.zero_mul, Nat.zero_add])
theorem emb5 (t : Fin cfg0.N) (l : Fin 2048) (p : Fin 128) : ((cfg0.win 5).blk t).view.emb (ix2 l p) = ix2 (row t l) p := by
  obtain ⟨h0, h1⟩ := index5 t
  refine funext fun a => Fin.ext ?_
  match a with
  | ⟨0, _⟩ => exact (Pipeline.Window.rect_emb_val _ _ _ _).trans (by show win0_5.index t 0 * 2048 + l.val = (ti t).val * 2048 + l.val; rw [h0])
  | ⟨1, _⟩ => exact (Pipeline.Window.rect_emb_val _ _ _ _).trans (by show win0_5.index t 1 * 128 + p.val = p.val; rw [h1, Nat.zero_mul, Nat.zero_add])
theorem emb6 (t : Fin cfg0.N) (l : Fin 2048) (n : Fin 512) : ((cfg0.win 6).blk t).view.emb (ix3 0 l n) = ix3 (tb t) (row t l) n := by
  obtain ⟨h0, h1, h2⟩ := index6 t
  refine funext fun a => Fin.ext ?_
  match a with
  | ⟨0, _⟩ => exact (Pipeline.Window.rect_emb_val _ _ _ _).trans (by show win0_6.index t 0 * 1 + 0 = (tb t).val; rw [h0, Nat.mul_one, Nat.add_zero])
  | ⟨1, _⟩ => exact (Pipeline.Window.rect_emb_val _ _ _ _).trans (by show win0_6.index t 1 * 2048 + l.val = (ti t).val * 2048 + l.val; rw [h1])
  | ⟨2, _⟩ => exact (Pipeline.Window.rect_emb_val _ _ _ _).trans (by show win0_6.index t 2 * 512 + n.val = n.val; rw [h2, Nat.zero_mul, Nat.zero_add])

section
variable (X : (b : Ref sig .tc) → Buf (Elt Ideal) ((c : Thread nD τ).loc b)) (t : Fin cfg0.N)
theorem read0 (x) : ((cfg0.win 0).blk t).view.read (Elt Ideal) (X (Pipeline.arrRef spec0 0)) x = X main_arg0 (((cfg0.win 0).blk t).view.emb x) := rfl
theorem read1 (x) : ((cfg0.win 1).blk t).view.read (Elt Ideal) (X (Pipeline.arrRef spec0 1)) x = X main_v60 (((cfg0.win 1).blk t).view.emb x) := rfl
theorem read2 (x) : ((cfg0.win 2).blk t).view.read (Elt Ideal) (X (Pipeline.arrRef spec0 2)) x = X main_v68 (((cfg0.win 2).blk t).view.emb x) := rfl
theorem read3 (x) : ((cfg0.win 3).blk t).view.read (Elt Ideal) (X (Pipeline.arrRef spec0 3)) x = X main_v39 (((cfg0.win 3).blk t).view.emb x) := rfl
theorem read4 (x) : ((cfg0.win 4).blk t).view.read (Elt Ideal) (X (Pipeline.arrRef spec0 4)) x = X main_v47 (((cfg0.win 4).blk t).view.emb x) := rfl
theorem read5 (x) : ((cfg0.win 5).blk t).view.read (Elt Ideal) (X (Pipeline.arrRef spec0 5)) x = X main_v56 (((cfg0.win 5).blk t).view.emb x) := rfl
end

/-- The first window's block is whole: it reads the second 512 columns. -/
theorem blk0_apply (t : Fin cfg0.N) (l : Fin 2048) (n : Fin 512) : (X0_0 m c t : Vec Ideal S1x2048x512 .f32) (ix3 0 l n) = m ((c : Thread nD τ).loc main_arg0) (ix3 (tb t) (row t l) ⟨512 + n.val, by omega⟩) := by
  unfold X0_0 Pipeline.Window.fill
  rw [dif_pos (moved0_0 t (ix3 0 l n))]
  refine (read0 c (V m c) t _).trans ((congrFun (a0_eq m c) _).trans (congrArg (m ((c : Thread nD τ).loc main_arg0)) (funext fun a => Fin.ext ?_)))
  obtain ⟨h0, h1, h2⟩ := index0 t
  match a with
  | ⟨0, _⟩ => exact (Pipeline.Window.rect_emb_val _ _ _ _).trans (by show win0_0.index t 0 * 1 + 0 = (tb t).val; rw [h0, Nat.mul_one, Nat.add_zero])
  | ⟨1, _⟩ => exact (Pipeline.Window.rect_emb_val _ _ _ _).trans (by show win0_0.index t 1 * 2048 + l.val = (ti t).val * 2048 + l.val; rw [h1])
  | ⟨2, _⟩ => exact (Pipeline.Window.rect_emb_val _ _ _ _).trans (by show win0_0.index t 2 * 512 + n.val = 512 + n.val; rw [h2, Nat.one_mul])
theorem blk1_apply (t : Fin cfg0.N) (n : Fin 512) : (iblk m c 1 t : Vec Ideal S1x512 .f32) (ix2 0 n) = m ((c : Thread nD τ).loc main_arg1) (ix1 ⟨n.val % 64, by omega⟩) :=
  (read1 c (V m c) t _).trans ((congrArg (V m c main_v60) (emb1 t n)).trans (v60_apply m c n))
theorem blk2_apply (t : Fin cfg0.N) (k n : Fin 512) : (iblk m c 2 t : Vec Ideal S512x512 .bf16) (ix2 k n) = (if k.val / 64 = n.val / 64 then 1 else 0 : EReal) :=
  (read2 c (V m c) t _).trans ((congrArg (V m c main_v68) (emb2 t k n)).trans (v68_apply m c k n))
theorem blk3_apply (t : Fin cfg0.N) (l : Fin 2048) (p : Fin 128) : (iblk m c 3 t : Vec Ideal S2048x128 .f32) (ix2 l p) = laneC (fun e => cosT (ix2 (row t l) e)) (p.val % 64) :=
  (read3 c (V m c) t _).trans ((congrArg (V m c main_v39) (emb3 t l p)).trans (v39_apply m c (row t l) p))
theorem blk4_apply (t : Fin cfg0.N) (l : Fin 2048) (p : Fin 128) : (iblk m c 4 t : Vec Ideal S2048x128 .f32) (ix2 l p) = laneA (fun e => sinT (ix2 (row t l) e)) (p.val % 64) :=
  (read4 c (V m c) t _).trans ((congrArg (V m c main_v47) (emb4 t l p)).trans (v47_apply m c (row t l) p))
theorem blk5_apply (t : Fin cfg0.N) (l : Fin 2048) (p : Fin 128) : (iblk m c 5 t : Vec Ideal S2048x128 .f32) (ix2 l p) = laneB (fun e => sinT (ix2 (row t l) e)) (p.val % 64) :=
  (read5 c (V m c) t _).trans ((congrArg (V m c main_v56) (emb5 t l p)).trans (v56_apply m c (row t l) p))

/-! ## The whole result -/

/-- The reference's result of the kernel's arguments. -/
def result : FVec Ideal Cert.Reference10Ideal.S2x16384x512 .bf16 :=
  Cert.Reference10Ideal.Keys.res (m ((c : Thread nD τ).loc main_arg0)) (m ((c : Thread nD τ).loc main_arg1))

theorem left_eq (t : Fin cfg0.N) (l : Fin 2048) (n : Fin 512) : outsAt0 m c t (ix3 0 l n) = result m c (ix3 (tb t) (row t l) n) := by
  unfold outsAt0
  rw [out_eq, pays]
  refine (out_apply _ _ _ _ _ _ (fun j => m ((c : Thread nD τ).loc main_arg1) (ix1 j)) (fun e => cosT (ix2 (row t l) e)) (fun e => sinT (ix2 (row t l) e)) l n
    (blk1_apply m c t) (blk2_apply m c t) (blk3_apply m c t l) (blk4_apply m c t l) (blk5_apply m c t l)).trans
    (Eq.trans ?_ (Cert.Reference10Ideal.Keys.res_apply _ _ (tb t) (row t l) n).symm)
  simp only [blk0_apply]
  rfl

theorem array_eq : (dats m 0 c).arrAt 6 cfg0.N = (result m c : Vec Ideal S2x16384x512 .bf16) := by
  refine (dats m 0 c).arrAt_eq_of_covers 6 _ (by decide +kernel) fun t hf y => ?_
  have hy : (y : S1x2048x512.Idx) = ix3 0 (y 1) (y 2) := funext fun a => by
    match a with
    | ⟨0, _⟩ => exact Subsingleton.elim (α := Fin 1) _ _
    | ⟨1, _⟩ => rfl
    | ⟨2, _⟩ => rfl
  blk_simp
  rw [after0_6]
  refine (congrArg (outsAt0 m c t) hy).trans ((left_eq m c t (y 1) (y 2)).trans (congrArg (result m c) ?_))
  exact (emb6 t (y 1) (y 2)).symm.trans (congrArg ((win0_6.blk t).view.emb) hy.symm)
end Cert.Kernel10Ideal.Keys

namespace Cert.Keys
theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)
theorem preserves : Cert.preserves_Kernel10_Kernel10Ideal := trivial

/-- What the reference leaves is its result of its arguments. -/
theorem ends (m' : (o : Loc Cert.Reference10Ideal.nD Cert.Reference10Ideal.τ Cert.Reference10Ideal.sig) → Buf (Elt Ideal) o) (c : Dev Cert.Reference10Ideal.nD) :
    Cert.Reference10Ideal.Value.res_main_v50 m' c = Cert.Reference10Ideal.Keys.res (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) := by
  rfl

/-- The two programs' results are one array. -/
theorem algebraic : Cert.algebraic_Kernel10Ideal_Reference10Ideal := by
  intro m ρ m' ρ' hpre hagree
  refine ⟨fun c => Cert.Kernel10Ideal.Keys.result m c, ?_, ?_⟩
  · refine (θ_run Cert.Kernel10Ideal.defs _ _).mono (fun _ h c => ⟨(h c).1.trans ?_, (h c).2⟩) (Cert.Kernel10Ideal.Value.run_blocks (F := Ideal) m ρ)
    exact Cert.Kernel10Ideal.Keys.array_eq m c
  · refine (θ_run Cert.Reference10Ideal.defs _ _).mono (fun _ h c => ⟨(h c).1.trans ?_, (h c).2⟩) (Cert.Reference10Ideal.Value.run (F := Ideal) m' ρ')
    obtain ⟨e0, e1⟩ := hagree c
    exact (ends m' c).trans (congrArg₂ Cert.Reference10Ideal.Keys.res e0 e1)
end Cert.Keys
-- ==== Proof.lean ====
/- The claim: the certificates of the differential attention, of the projections, of the gated unit, of the modulation, of the block means and of the prepared keys. -/
module

public import proofs.«01_k».proof.Defs
public import proofs.«01_k».proof.Proof.Claims
public import proofs.«01_k».proof.Proof.InEven
public import proofs.«01_k».proof.Proof.InOdd
public import proofs.«01_k».proof.Proof.OutEven
public import proofs.«01_k».proof.Proof.OutOdd
public import proofs.«01_k».proof.Proof.ClaimsSecond
public import proofs.«01_k».proof.Proof.Glu
public import proofs.«01_k».proof.Proof.Mod
public import proofs.«01_k».proof.Proof.Means
public import proofs.«01_k».proof.Proof.Keys

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Attention.pre_facts,
    Cert.Attention.frame_p, Cert.Attention.frame_pi, Cert.Attention.frame_pi_pre, Cert.Attention.frame_ri, Cert.Attention.frame_ri_pre,
    Cert.InEven.frame_p, Cert.InEven.frame_pi, Cert.InEven.frame_ri,
    Cert.InOdd.frame_p, Cert.InOdd.frame_pi, Cert.InOdd.frame_ri,
    Cert.OutEven.frame_p, Cert.OutEven.frame_pi, Cert.OutEven.frame_ri,
    Cert.OutOdd.frame_p, Cert.OutOdd.frame_pi, Cert.OutOdd.frame_ri,
    Cert.AttentionSecond.frame_p, Cert.AttentionSecond.frame_pi, Cert.AttentionSecond.frame_pi_pre, Cert.AttentionSecond.frame_ri, Cert.AttentionSecond.frame_ri_pre,
    Cert.Glu.frame_p, Cert.Glu.frame_pi, Cert.Glu.frame_ri,
    Cert.Mod.frame_p, Cert.Mod.frame_pi, Cert.Mod.frame_ri,
    Cert.Means.frame_p, Cert.Means.frame_pi, Cert.Means.frame_ri,
    Cert.Keys.frame_p, Cert.Keys.frame_pi, Cert.Keys.frame_ri,
    Cert.Attention.preserves, Cert.Attention.algebraic,
    Cert.InEven.preserves, Cert.InEven.algebraic, Cert.InOdd.preserves, Cert.InOdd.algebraic,
    Cert.OutEven.preserves, Cert.OutEven.algebraic, Cert.OutOdd.preserves, Cert.OutOdd.algebraic,
    Cert.AttentionSecond.preserves, Cert.AttentionSecond.algebraic, Cert.Glu.preserves, Cert.Glu.algebraic,
    Cert.Mod.preserves, Cert.Mod.algebraic, Cert.Means.preserves, Cert.Means.algebraic,
    Cert.Keys.preserves, Cert.Keys.algebraic⟩

end Cert.Proof

end
